-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1024x2048 : Shape := ⟨2, ![1024, 2048]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1x512x1024 .f32) (main_arg1 : FVec F S1024x1024 .f32) (main_arg2 : FVec F S1024x1024 .f32) (main_arg3 : FVec F S1024x2048 .f32) (main_arg4 : FVec F S1024x2048 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1024x2048 : Shape := ⟨2, ![1024, 2048]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1x512x1024 .f32) (main_arg1 : FVec F S1024x8192 .f32) (main_arg2 : FVec F S8192x1024 .f32) (main_arg3 : FVec F S1024x2048 .f32) (main_arg4 : FVec F S1024x2048 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1024x2048 : Shape := ⟨2, ![1024, 2048]⟩
abbrev S512x1024 : Shape := ⟨2, ![512, 1024]⟩
abbrev S1024x256 : Shape := ⟨2, ![1024, 256]⟩
abbrev S256x512 : Shape := ⟨2, ![256, 512]⟩
abbrev S128x512 : Shape := ⟨2, ![128, 512]⟩
abbrev S64x512 : Shape := ⟨2, ![64, 512]⟩
abbrev S5 : Shape := ⟨1, ![5]⟩
abbrev S6 : Shape := ⟨1, ![6]⟩
abbrev S14 : Shape := ⟨1, ![14]⟩
abbrev S1 : Shape := ⟨1, ![1]⟩
abbrev S_ : Shape := ⟨0, ![]⟩
abbrev S512x256 : Shape := ⟨2, ![512, 256]⟩
abbrev S512x128 : Shape := ⟨2, ![512, 128]⟩
abbrev S1024x512 : Shape := ⟨2, ![1024, 512]⟩
abbrev S256x128 : Shape := ⟨2, ![256, 128]⟩
abbrev S256x256 : Shape := ⟨2, ![256, 256]⟩
abbrev S256x1 : Shape := ⟨2, ![256, 1]⟩
abbrev S256x1024 : Shape := ⟨2, ![256, 1024]⟩
abbrev S1x64x512 : Shape := ⟨3, ![1, 64, 512]⟩

abbrev nBuf : Space → Nat
  | .hbm => 6
  | .vmem => 20
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1x512x1024, .bf16⟩
  | .local _ .vmem, ⟨0, _⟩ => ⟨S1x512x1024, .bf16⟩
  | .local _ .vmem, ⟨1, _⟩ => ⟨S512x1024, .bf16⟩
  | .local _ .vmem, ⟨2, _⟩ => ⟨S512x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S512x1024, .f32⟩
  | .local _ .vmem, ⟨8, _⟩ => ⟨S256x512, .bf16⟩
  | .local _ .vmem, ⟨9, _⟩ => ⟨S128x512, .bf16⟩
  | .local _ .vmem, ⟨10, _⟩ => ⟨S64x512, .bf16⟩
  | .local _ .vmem, ⟨11, _⟩ => ⟨S256x512, .bf16⟩
  | .local _ .vmem, ⟨12, _⟩ => ⟨S128x512, .bf16⟩
  | .local _ .vmem, ⟨13, _⟩ => ⟨S64x512, .bf16⟩
  | .local _ .vmem, ⟨14, _⟩ => ⟨S256x512, .bf16⟩
  | .local _ .vmem, ⟨15, _⟩ => ⟨S128x512, .bf16⟩
  | .local _ .vmem, ⟨16, _⟩ => ⟨S64x512, .bf16⟩
  | .local _ .vmem, ⟨17, _⟩ => ⟨S256x512, .bf16⟩
  | .local _ .vmem, ⟨18, _⟩ => ⟨S128x512, .bf16⟩
  | .local _ .vmem, ⟨19, _⟩ => ⟨S64x512, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_scratch17 : Ref sig .tc := ⟨.vmem, 18, rfl⟩
abbrev cc0_scratch18 : Ref sig .tc := ⟨.vmem, 19, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v3 : BitVec 32 := Scalar.muli v2 c256_i32
  ![0, v3.toNat]
def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v20 : BitVec 32 := Scalar.xori v2 c1_i32_7
  let c1_i32_9 : BitVec 32 := 1#32
  let v21 : BitVec 32 := Scalar.muli v20 c1_i32_9
  let v22 : BitVec 32 := Scalar.addi c0_i32_10 v21
  v22.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v23 : BitVec 32 := Scalar.xori v2 c2_i32_11
  let c1_i32_13 : BitVec 32 := 1#32
  let v24 : BitVec 32 := Scalar.muli v23 c1_i32_13
  let v25 : BitVec 32 := Scalar.addi c0_i32_14 v24
  v25.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_15 : BitVec 32 := 3#32
  let v26 : BitVec 32 := Scalar.xori v2 c3_i32_15
  let c1_i32_17 : BitVec 32 := 1#32
  let v27 : BitVec 32 := Scalar.muli v26 c1_i32_17
  let v28 : BitVec 32 := Scalar.addi c0_i32_18 v27
  v28.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v29 : BitVec 32 := Scalar.xori v2 c4_i32_19
  let c1_i32_21 : BitVec 32 := 1#32
  let v30 : BitVec 32 := Scalar.muli v29 c1_i32_21
  let v31 : BitVec 32 := Scalar.addi c0_i32_22 v30
  v31.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v32 : BitVec 32 := Scalar.xori v2 c5_i32
  let c1_i32_24 : BitVec 32 := 1#32
  let v33 : BitVec 32 := Scalar.muli v32 c1_i32_24
  let v34 : BitVec 32 := Scalar.addi c0_i32_25 v33
  v34.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v35 : BitVec 32 := Scalar.xori v2 c6_i32
  let c1_i32_27 : BitVec 32 := 1#32
  let v36 : BitVec 32 := Scalar.muli v35 c1_i32_27
  let v37 : BitVec 32 := Scalar.addi c0_i32_28 v36
  v37.toNat
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v38 : BitVec 32 := Scalar.xori v2 c7_i32
  let c1_i32_30 : BitVec 32 := 1#32
  let v39 : BitVec 32 := Scalar.muli v38 c1_i32_30
  let v40 : BitVec 32 := Scalar.addi c0_i32_31 v39
  v40.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v89 : BitVec 32 := Scalar.andi v2 c4_i32_64
  let c0_i32_65 : BitVec 32 := 0#32
  let v90 : BitVec 1 := Scalar.cmpi .eq v89 c0_i32_65
  let c0_i32_66 : BitVec 32 := 0#32
  let c256_i32_67 : BitVec 32 := 256#32
  let v91 : BitVec 32 := Scalar.addi c0_i32_66 c256_i32_67
  let c0_i32_68 : BitVec 32 := 0#32
  let v92 : BitVec 32 := Scalar.select v90 v91 c0_i32_68
  v92
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v89 : BitVec 32 := Scalar.andi v2 c4_i32_64
  let c0_i32_65 : BitVec 32 := 0#32
  let v90 : BitVec 1 := Scalar.cmpi .eq v89 c0_i32_65
  let c0_i32_66 : BitVec 32 := 0#32
  let c256_i32_67 : BitVec 32 := 256#32
  let v91 : BitVec 32 := Scalar.addi c0_i32_66 c256_i32_67
  let c0_i32_68 : BitVec 32 := 0#32
  let v92 : BitVec 32 := Scalar.select v90 v91 c0_i32_68
  let v93 : BitVec 32 := v92
  let v94 : Index := Scalar.indexCast v93
  let c0_69 : Index := 0#32
  ![v94.toNat, 0]
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v100 : BitVec 32 := Scalar.xori v2 c4_i32_72
  let c1_i32_75 : BitVec 32 := 1#32
  let v101 : BitVec 32 := Scalar.muli v100 c1_i32_75
  let v102 : BitVec 32 := Scalar.addi c0_i32_76 v101
  v102.toNat
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v117 : BitVec 32 := Scalar.andi v2 c2_i32_83
  let c0_i32_84 : BitVec 32 := 0#32
  let v118 : BitVec 1 := Scalar.cmpi .eq v117 c0_i32_84
  let c0_i32_85 : BitVec 32 := 0#32
  let c256_i32_86 : BitVec 32 := 256#32
  let v119 : BitVec 32 := Scalar.addi c0_i32_85 c256_i32_86
  let c0_i32_87 : BitVec 32 := 0#32
  let v120 : BitVec 32 := Scalar.select v118 v119 c0_i32_87
  v120
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v117 : BitVec 32 := Scalar.andi v2 c2_i32_83
  let c0_i32_84 : BitVec 32 := 0#32
  let v118 : BitVec 1 := Scalar.cmpi .eq v117 c0_i32_84
  let c0_i32_85 : BitVec 32 := 0#32
  let c256_i32_86 : BitVec 32 := 256#32
  let v119 : BitVec 32 := Scalar.addi c0_i32_85 c256_i32_86
  let c0_i32_87 : BitVec 32 := 0#32
  let v120 : BitVec 32 := Scalar.select v118 v119 c0_i32_87
  let v121 : BitVec 32 := v120
  let v122 : Index := Scalar.indexCast v121
  let c512_88 : Index := 512#32
  ![v122.toNat, 512]
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v128 : BitVec 32 := Scalar.xori v2 c3_i32_91
  let c1_i32_94 : BitVec 32 := 1#32
  let v129 : BitVec 32 := Scalar.muli v128 c1_i32_94
  let v130 : BitVec 32 := Scalar.addi c0_i32_95 v129
  v130.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  v148
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let v156 : Index := Scalar.indexCast v149
  let c0_114 : Index := 0#32
  ![v156.toNat, 0]
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_118 : BitVec 32 := 2#32
  let v165 : BitVec 32 := Scalar.andi v2 c2_i32_118
  let c0_i32_119 : BitVec 32 := 0#32
  let v166 : BitVec 1 := Scalar.cmpi .eq v165 c0_i32_119
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32 : BitVec 32 := 128#32
  let v167 : BitVec 32 := Scalar.addi v149 c128_i32
  let v168 : BitVec 32 := Scalar.select v166 v167 v149
  v168
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_118 : BitVec 32 := 2#32
  let v165 : BitVec 32 := Scalar.andi v2 c2_i32_118
  let c0_i32_119 : BitVec 32 := 0#32
  let v166 : BitVec 1 := Scalar.cmpi .eq v165 c0_i32_119
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32 : BitVec 32 := 128#32
  let v167 : BitVec 32 := Scalar.addi v149 c128_i32
  let v168 : BitVec 32 := Scalar.select v166 v167 v149
  let v169 : BitVec 32 := v168
  let v170 : Index := Scalar.indexCast v169
  let c0_120 : Index := 0#32
  ![v170.toNat, 0]
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v176 : BitVec 32 := Scalar.xori v2 c3_i32_123
  let c1_i32_126 : BitVec 32 := 1#32
  let v177 : BitVec 32 := Scalar.muli v176 c1_i32_126
  let v178 : BitVec 32 := Scalar.addi c0_i32_127 v177
  v178.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  v186
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let v194 : Index := Scalar.indexCast v187
  let c512_140 : Index := 512#32
  ![v194.toNat, 512]
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v203 : BitVec 32 := Scalar.andi v2 c1_i32_144
  let c0_i32_145 : BitVec 32 := 0#32
  let v204 : BitVec 1 := Scalar.cmpi .eq v203 c0_i32_145
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_146 : BitVec 32 := 128#32
  let v205 : BitVec 32 := Scalar.addi v187 c128_i32_146
  let v206 : BitVec 32 := Scalar.select v204 v205 v187
  v206
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v203 : BitVec 32 := Scalar.andi v2 c1_i32_144
  let c0_i32_145 : BitVec 32 := 0#32
  let v204 : BitVec 1 := Scalar.cmpi .eq v203 c0_i32_145
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_146 : BitVec 32 := 128#32
  let v205 : BitVec 32 := Scalar.addi v187 c128_i32_146
  let v206 : BitVec 32 := Scalar.select v204 v205 v187
  let v207 : BitVec 32 := v206
  let v208 : Index := Scalar.indexCast v207
  let c512_147 : Index := 512#32
  ![v208.toNat, 512]
def k0_dev11 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_150 : BitVec 32 := 1#32
  let v214 : BitVec 32 := Scalar.xori v2 c1_i32_150
  let c1_i32_153 : BitVec 32 := 1#32
  let v215 : BitVec 32 := Scalar.muli v214 c1_i32_153
  let v216 : BitVec 32 := Scalar.addi c0_i32_154 v215
  v216.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  v224
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let v232 : Index := Scalar.indexCast v225
  let c0_165 : Index := 0#32
  ![v232.toNat, 0]
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_169 : BitVec 32 := 1#32
  let v241 : BitVec 32 := Scalar.andi v2 c1_i32_169
  let c0_i32_170 : BitVec 32 := 0#32
  let v242 : BitVec 1 := Scalar.cmpi .eq v241 c0_i32_170
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32 : BitVec 32 := 64#32
  let v243 : BitVec 32 := Scalar.addi v225 c64_i32
  let v244 : BitVec 32 := Scalar.select v242 v243 v225
  v244
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_169 : BitVec 32 := 1#32
  let v241 : BitVec 32 := Scalar.andi v2 c1_i32_169
  let c0_i32_170 : BitVec 32 := 0#32
  let v242 : BitVec 1 := Scalar.cmpi .eq v241 c0_i32_170
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32 : BitVec 32 := 64#32
  let v243 : BitVec 32 := Scalar.addi v225 c64_i32
  let v244 : BitVec 32 := Scalar.select v242 v243 v225
  let v245 : BitVec 32 := v244
  let v246 : Index := Scalar.indexCast v245
  let c0_171 : Index := 0#32
  ![v246.toNat, 0]
def k0_dev12 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_174 : BitVec 32 := 1#32
  let v252 : BitVec 32 := Scalar.xori v2 c1_i32_174
  let c1_i32_177 : BitVec 32 := 1#32
  let v253 : BitVec 32 := Scalar.muli v252 c1_i32_177
  let v254 : BitVec 32 := Scalar.addi c0_i32_178 v253
  v254.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  v262
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let v270 : Index := Scalar.indexCast v263
  let c512_189 : Index := 512#32
  ![v270.toNat, 512]
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_193 : BitVec 32 := 4#32
  let v279 : BitVec 32 := Scalar.andi v2 c4_i32_193
  let c0_i32_194 : BitVec 32 := 0#32
  let v280 : BitVec 1 := Scalar.cmpi .eq v279 c0_i32_194
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_195 : BitVec 32 := 64#32
  let v281 : BitVec 32 := Scalar.addi v263 c64_i32_195
  let v282 : BitVec 32 := Scalar.select v280 v281 v263
  v282
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_193 : BitVec 32 := 4#32
  let v279 : BitVec 32 := Scalar.andi v2 c4_i32_193
  let c0_i32_194 : BitVec 32 := 0#32
  let v280 : BitVec 1 := Scalar.cmpi .eq v279 c0_i32_194
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_195 : BitVec 32 := 64#32
  let v281 : BitVec 32 := Scalar.addi v263 c64_i32_195
  let v282 : BitVec 32 := Scalar.select v280 v281 v263
  let v283 : BitVec 32 := v282
  let v284 : Index := Scalar.indexCast v283
  let c512_196 : Index := 512#32
  ![v284.toNat, 512]
def k0_dev13 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_199 : BitVec 32 := 4#32
  let v290 : BitVec 32 := Scalar.xori v2 c4_i32_199
  let c1_i32_202 : BitVec 32 := 1#32
  let v291 : BitVec 32 := Scalar.muli v290 c1_i32_202
  let v292 : BitVec 32 := Scalar.addi c0_i32_203 v291
  v292.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  v300
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  let v301 : BitVec 32 := v300
  let v308 : Index := Scalar.indexCast v301
  let c0_214 : Index := 0#32
  ![v308.toNat, 0]
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  let v301 : BitVec 32 := v300
  v301
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  let v301 : BitVec 32 := v300
  let v317 : BitVec 32 := v301
  let v318 : Index := Scalar.indexCast v317
  let c0_218 : Index := 0#32
  ![v318.toNat, 0]
def k0_off14 (d0 : Dev nD) : Fin 3 → Nat :=
  let c0_219 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  let v301 : BitVec 32 := v300
  let v317 : BitVec 32 := v301
  let v321 : Index := Scalar.indexCast v317
  let c0_220 : Index := 0#32
  ![0, v321.toNat, 0]
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  let v301 : BitVec 32 := v300
  v301
def k0_off15 (d0 : Dev nD) : Fin 3 → Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v297 : BitVec 32 := Scalar.andi v2 c1_i32_204
  let c0_i32_205 : BitVec 32 := 0#32
  let v298 : BitVec 1 := Scalar.cmpi .eq v297 c0_i32_205
  let c2_i32_155 : BitVec 32 := 2#32
  let v221 : BitVec 32 := Scalar.andi v2 c2_i32_155
  let c0_i32_156 : BitVec 32 := 0#32
  let v222 : BitVec 1 := Scalar.cmpi .eq v221 c0_i32_156
  let c4_i32_102 : BitVec 32 := 4#32
  let v145 : BitVec 32 := Scalar.andi v2 c4_i32_102
  let c0_i32_103 : BitVec 32 := 0#32
  let v146 : BitVec 1 := Scalar.cmpi .eq v145 c0_i32_103
  let c0_i32_106 : BitVec 32 := 0#32
  let c0_i32_104 : BitVec 32 := 0#32
  let c256_i32_105 : BitVec 32 := 256#32
  let v147 : BitVec 32 := Scalar.addi c0_i32_104 c256_i32_105
  let v148 : BitVec 32 := Scalar.select v146 c0_i32_106 v147
  let v149 : BitVec 32 := v148
  let c128_i32_157 : BitVec 32 := 128#32
  let v223 : BitVec 32 := Scalar.addi v149 c128_i32_157
  let v224 : BitVec 32 := Scalar.select v222 v149 v223
  let v225 : BitVec 32 := v224
  let c64_i32_206 : BitVec 32 := 64#32
  let v299 : BitVec 32 := Scalar.addi v225 c64_i32_206
  let v300 : BitVec 32 := Scalar.select v298 v225 v299
  let v301 : BitVec 32 := v300
  let v325 : BitVec 32 := v301
  let c0_i32_228 : BitVec 32 := 0#32
  ![0, v325.toNat, 0]
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_221 : BitVec 32 := 1#32
  let v326 : BitVec 32 := Scalar.xori v2 c1_i32_221
  let c1_i32_226 : BitVec 32 := 1#32
  let v327 : BitVec 32 := Scalar.muli v326 c1_i32_226
  let v328 : BitVec 32 := Scalar.addi c0_i32_227 v327
  v328.toNat
def k0_dev15 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_230 : BitVec 32 := 2#32
  let v337 : BitVec 32 := Scalar.xori v2 c2_i32_230
  let c1_i32_235 : BitVec 32 := 1#32
  let v338 : BitVec 32 := Scalar.muli v337 c1_i32_235
  let v339 : BitVec 32 := Scalar.addi c0_i32_236 v338
  v339.toNat
def k0_dev16 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v348 : BitVec 32 := Scalar.xori v2 c3_i32_239
  let c1_i32_244 : BitVec 32 := 1#32
  let v349 : BitVec 32 := Scalar.muli v348 c1_i32_244
  let v350 : BitVec 32 := Scalar.addi c0_i32_245 v349
  v350.toNat
def k0_dev17 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_248 : BitVec 32 := 4#32
  let v359 : BitVec 32 := Scalar.xori v2 c4_i32_248
  let c1_i32_253 : BitVec 32 := 1#32
  let v360 : BitVec 32 := Scalar.muli v359 c1_i32_253
  let v361 : BitVec 32 := Scalar.addi c0_i32_254 v360
  v361.toNat
def k0_dev18 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_257 : BitVec 32 := 5#32
  let v370 : BitVec 32 := Scalar.xori v2 c5_i32_257
  let c1_i32_262 : BitVec 32 := 1#32
  let v371 : BitVec 32 := Scalar.muli v370 c1_i32_262
  let v372 : BitVec 32 := Scalar.addi c0_i32_263 v371
  v372.toNat
def k0_dev19 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_266 : BitVec 32 := 6#32
  let v381 : BitVec 32 := Scalar.xori v2 c6_i32_266
  let c1_i32_271 : BitVec 32 := 1#32
  let v382 : BitVec 32 := Scalar.muli v381 c1_i32_271
  let v383 : BitVec 32 := Scalar.addi c0_i32_272 v382
  v383.toNat
def k0_dev20 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_275 : BitVec 32 := 7#32
  let v392 : BitVec 32 := Scalar.xori v2 c7_i32_275
  let c1_i32_280 : BitVec 32 := 1#32
  let v393 : BitVec 32 := Scalar.muli v392 c1_i32_280
  let v394 : BitVec 32 := Scalar.addi c0_i32_281 v393
  v394.toNat
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  v406
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  let v407 : BitVec 32 := v406
  let v414 : Index := Scalar.indexCast v407
  let c512_294 : Index := 512#32
  ![v414.toNat, 512]
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  let v407 : BitVec 32 := v406
  v407
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  let v407 : BitVec 32 := v406
  let v423 : BitVec 32 := v407
  let v424 : Index := Scalar.indexCast v423
  let c512_298 : Index := 512#32
  ![v424.toNat, 512]
def k0_off18 (d0 : Dev nD) : Fin 3 → Nat :=
  let c0_299 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  let v407 : BitVec 32 := v406
  let v423 : BitVec 32 := v407
  let v427 : Index := Scalar.indexCast v423
  let c512_300 : Index := 512#32
  ![0, v427.toNat, 512]
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  let v407 : BitVec 32 := v406
  v407
def k0_off19 (d0 : Dev nD) : Fin 3 → Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v403 : BitVec 32 := Scalar.andi v2 c4_i32_284
  let c0_i32_285 : BitVec 32 := 0#32
  let v404 : BitVec 1 := Scalar.cmpi .eq v403 c0_i32_285
  let c1_i32_179 : BitVec 32 := 1#32
  let v259 : BitVec 32 := Scalar.andi v2 c1_i32_179
  let c0_i32_180 : BitVec 32 := 0#32
  let v260 : BitVec 1 := Scalar.cmpi .eq v259 c0_i32_180
  let c2_i32_128 : BitVec 32 := 2#32
  let v183 : BitVec 32 := Scalar.andi v2 c2_i32_128
  let c0_i32_129 : BitVec 32 := 0#32
  let v184 : BitVec 1 := Scalar.cmpi .eq v183 c0_i32_129
  let c0_i32_132 : BitVec 32 := 0#32
  let c0_i32_130 : BitVec 32 := 0#32
  let c256_i32_131 : BitVec 32 := 256#32
  let v185 : BitVec 32 := Scalar.addi c0_i32_130 c256_i32_131
  let v186 : BitVec 32 := Scalar.select v184 c0_i32_132 v185
  let v187 : BitVec 32 := v186
  let c128_i32_181 : BitVec 32 := 128#32
  let v261 : BitVec 32 := Scalar.addi v187 c128_i32_181
  let v262 : BitVec 32 := Scalar.select v260 v187 v261
  let v263 : BitVec 32 := v262
  let c64_i32_286 : BitVec 32 := 64#32
  let v405 : BitVec 32 := Scalar.addi v263 c64_i32_286
  let v406 : BitVec 32 := Scalar.select v404 v263 v405
  let v407 : BitVec 32 := v406
  let v431 : BitVec 32 := v407
  let c512_i32 : BitVec 32 := 512#32
  ![0, v431.toNat, 512]
def k0_dev21 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_301 : BitVec 32 := 1#32
  let v432 : BitVec 32 := Scalar.xori v2 c1_i32_301
  let c1_i32_306 : BitVec 32 := 1#32
  let v433 : BitVec 32 := Scalar.muli v432 c1_i32_306
  let v434 : BitVec 32 := Scalar.addi c0_i32_307 v433
  v434.toNat
def k0_dev22 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_309 : BitVec 32 := 2#32
  let v443 : BitVec 32 := Scalar.xori v2 c2_i32_309
  let c1_i32_314 : BitVec 32 := 1#32
  let v444 : BitVec 32 := Scalar.muli v443 c1_i32_314
  let v445 : BitVec 32 := Scalar.addi c0_i32_315 v444
  v445.toNat
def k0_dev23 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_318 : BitVec 32 := 3#32
  let v454 : BitVec 32 := Scalar.xori v2 c3_i32_318
  let c1_i32_322 : BitVec 32 := 1#32
  let v455 : BitVec 32 := Scalar.muli v454 c1_i32_322
  let v456 : BitVec 32 := Scalar.addi c0_i32_323 v455
  v456.toNat
def k0_dev24 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v465 : BitVec 32 := Scalar.xori v2 c4_i32_326
  let c1_i32_330 : BitVec 32 := 1#32
  let v466 : BitVec 32 := Scalar.muli v465 c1_i32_330
  let v467 : BitVec 32 := Scalar.addi c0_i32_331 v466
  v467.toNat
def k0_dev25 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_334 : BitVec 32 := 5#32
  let v476 : BitVec 32 := Scalar.xori v2 c5_i32_334
  let c1_i32_338 : BitVec 32 := 1#32
  let v477 : BitVec 32 := Scalar.muli v476 c1_i32_338
  let v478 : BitVec 32 := Scalar.addi c0_i32_339 v477
  v478.toNat
def k0_dev26 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_342 : BitVec 32 := 6#32
  let v487 : BitVec 32 := Scalar.xori v2 c6_i32_342
  let c1_i32_346 : BitVec 32 := 1#32
  let v488 : BitVec 32 := Scalar.muli v487 c1_i32_346
  let v489 : BitVec 32 := Scalar.addi c0_i32_347 v488
  v489.toNat
def k0_dev27 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_350 : BitVec 32 := 7#32
  let v498 : BitVec 32 := Scalar.xori v2 c7_i32_350
  let c1_i32_354 : BitVec 32 := 1#32
  let v499 : BitVec 32 := Scalar.muli v498 c1_i32_354
  let v500 : BitVec 32 := Scalar.addi c0_i32_355 v499
  v500.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1024x2048 : Shape := ⟨2, ![1024, 2048]⟩
abbrev S1x512x8192 : Shape := ⟨3, ![1, 512, 8192]⟩
abbrev S1x512x64x128 : Shape := ⟨4, ![1, 512, 64, 128]⟩
abbrev S1x512x2048 : Shape := ⟨3, ![1, 512, 2048]⟩
abbrev S1x512x16x128 : Shape := ⟨4, ![1, 512, 16, 128]⟩
abbrev S1x512x16x4x128 : Shape := ⟨5, ![1, 512, 16, 4, 128]⟩
abbrev S_ : Shape := ⟨0, ![]⟩
abbrev S1x64x512x1 : Shape := ⟨4, ![1, 64, 512, 1]⟩
abbrev S1x64x512x512 : Shape := ⟨4, ![1, 64, 512, 512]⟩
abbrev S1x64x512 : Shape := ⟨3, ![1, 64, 512]⟩
abbrev S1x512x64x1 : Shape := ⟨4, ![1, 512, 64, 1]⟩
abbrev S1x64x128x512 : Shape := ⟨4, ![1, 64, 128, 512]⟩

abbrev nBuf : Space → Nat
  | .hbm => 51
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x8192, .f32⟩
  | .hbm, ⟨2, _⟩ => ⟨S8192x1024, .f32⟩
  | .hbm, ⟨3, _⟩ => ⟨S1024x2048, .f32⟩
  | .hbm, ⟨4, _⟩ => ⟨S1024x2048, .f32⟩
  | .hbm, ⟨5, _⟩ => ⟨S1x512x8192, .f32⟩
  | .hbm, ⟨6, _⟩ => ⟨S1x512x64x128, .f32⟩
  | .hbm, ⟨7, _⟩ => ⟨S1x512x2048, .f32⟩
  | .hbm, ⟨8, _⟩ => ⟨S1x512x16x128, .f32⟩
  | .hbm, ⟨9, _⟩ => ⟨S1x512x2048, .f32⟩
  | .hbm, ⟨10, _⟩ => ⟨S1x512x16x128, .f32⟩
  | .hbm, ⟨11, _⟩ => ⟨S1x512x16x4x128, .f32⟩
  | .hbm, ⟨12, _⟩ => ⟨S1x512x64x128, .f32⟩
  | .hbm, ⟨13, _⟩ => ⟨S1x512x16x4x128, .f32⟩
  | .hbm, ⟨14, _⟩ => ⟨S1x512x64x128, .f32⟩
  | .hbm, ⟨15, _⟩ => ⟨S_, .f32⟩
  | .hbm, ⟨16, _⟩ => ⟨S1x512x64x128, .f32⟩
  | .hbm, ⟨17, _⟩ => ⟨S_, .f32⟩
  | .hbm, ⟨18, _⟩ => ⟨S1x64x512x1, .f32⟩
  | .hbm, ⟨19, _⟩ => ⟨S_, .f32⟩
  | .hbm, ⟨20, _⟩ => ⟨S1x64x512x1, .f32⟩
  | .hbm, ⟨21, _⟩ => ⟨S1x64x512x512, .f32⟩
  | .hbm, ⟨22, _⟩ => ⟨S_, .f32⟩
  | .hbm, ⟨23, _⟩ => ⟨S1x64x512x512, .f32⟩
  | .hbm, ⟨24, _⟩ => ⟨S1x64x512x512, .f32⟩
  | .hbm, ⟨25, _⟩ => ⟨S_, .f32⟩
  | .hbm, ⟨26, _⟩ => ⟨S1x64x512, .f32⟩
  | .hbm, ⟨27, _⟩ => ⟨S1x64x512x1, .f32⟩
  | .hbm, ⟨28, _⟩ => ⟨S1x64x512x1, .f32⟩
  | .hbm, ⟨29, _⟩ => ⟨S1x64x512x1, .f32⟩
  | .hbm, ⟨30, _⟩ => ⟨S1x64x512x1, .f32⟩
  | .hbm, ⟨31, _⟩ => ⟨S1x64x512x512, .f32⟩
  | .hbm, ⟨32, _⟩ => ⟨S1x64x512x512, .f32⟩
  | .hbm, ⟨33, _⟩ => ⟨S1x64x512x512, .f32⟩
  | .hbm, ⟨34, _⟩ => ⟨S1x64x512x1, .f32⟩
  | .hbm, ⟨35, _⟩ => ⟨S_, .f32⟩
  | .hbm, ⟨36, _⟩ => ⟨S1x64x512, .f32⟩
  | .hbm, ⟨37, _⟩ => ⟨S1x64x512x1, .f32⟩
  | .hbm, ⟨38, _⟩ => ⟨S1x64x512x1, .f32⟩
  | .hbm, ⟨39, _⟩ => ⟨S1x512x64x1, .f32⟩
  | .hbm, ⟨40, _⟩ => ⟨S1x512x64x128, .f32⟩
  | .hbm, ⟨41, _⟩ => ⟨S1x512x64x128, .f32⟩
  | .hbm, ⟨42, _⟩ => ⟨S1x64x128x512, .f32⟩
  | .hbm, ⟨43, _⟩ => ⟨S1x512x64x128, .f32⟩
  | .hbm, ⟨44, _⟩ => ⟨S1x512x64x128, .f32⟩
  | .hbm, ⟨45, _⟩ => ⟨S1x512x64x1, .f32⟩
  | .hbm, ⟨46, _⟩ => ⟨S1x512x64x128, .f32⟩
  | .hbm, ⟨47, _⟩ => ⟨S1x512x64x128, .f32⟩
  | .hbm, ⟨48, _⟩ => ⟨S1x512x8192, .f32⟩
  | .hbm, ⟨49, _⟩ => ⟨S1x512x1024, .f32⟩
  | .hbm, ⟨50, _⟩ => ⟨S1x512x1024, .bf16⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Proto.lean ====
/-
# The transfers of the kernel and the schedule of its semaphore cells

Eight devices, numbered by three bits. Device `c` exchanges data with `c xor k` for every mask `k = 1 … 7`. Each device
issues twenty transfers, in this order:

* six of the reduce-scatter, the two column halves in turn: masks 4, 3, 3, 1, 1, 4;
* seven of the all-gather of the left column half, masks 1 … 7; seven of the right half, masks 1 … 7.

Cells, per device: the runtime's barrier semaphore (seven duties of one unit, duty `d` paid by the device across mask
`d + 1`, which hands over its landing slots for the transfers across that mask); a send cell and a receive cell per transfer
(one duty each, of the transfer's credit: the source back; the slot with what was sent).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and this kernel's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices and transfers -/

set_option backward.proofsInPublic true in
/-- The device across mask `d + 1`. -/
def cx (c : Dev nD) (d : Fin 7) : Dev nD := ⟨c.val ^^^ (d.val + 1), by revert c d; decide⟩

theorem cx_cx (c : Dev nD) (d : Fin 7) : cx (cx c d) d = c := by revert c d; decide
theorem cx_ne (c : Dev nD) (d : Fin 7) : cx c d ≠ c := by revert c d; decide

def cxEquiv (d : Fin 7) : Dev nD ≃ Dev nD := ⟨fun c => cx c d, fun c => cx c d, fun c => cx_cx c d, fun c => cx_cx c d⟩

/-- The twenty transfers: the reduce-scatter's six in issue order, the all-gather's seven of each column half. -/
abbrev T : Type := Fin 6 ⊕ (Fin 7 ⊕ Fin 7)

/-- A transfer's place in issue order. -/
def ord : T → ℕ
  | .inl i => i.val
  | .inr (.inl i) => 6 + i.val
  | .inr (.inr i) => 13 + i.val

theorem ord_inj : Function.Injective ord := by decide
theorem ord_lt (t : T) : ord t < 20 := by revert t; decide

/-- A transfer's mask, less one. -/
def pm : T → Fin 7
  | .inl i => (![3, 2, 2, 0, 0, 3] : Fin 6 → Fin 7) i
  | .inr (.inl i) => i
  | .inr (.inr i) => i

abbrev peer (c : Dev nD) (t : T) : Dev nD := cx c (pm t)

theorem dev1_eq (c : Dev nD) : (⟨k0_dev1 c, k0_dev1_lt c⟩ : Dev nD) = cx c 0 := by revert c; decide +kernel
theorem dev2_eq (c : Dev nD) : (⟨k0_dev2 c, k0_dev2_lt c⟩ : Dev nD) = cx c 1 := by revert c; decide +kernel
theorem dev3_eq (c : Dev nD) : (⟨k0_dev3 c, k0_dev3_lt c⟩ : Dev nD) = cx c 2 := by revert c; decide +kernel
theorem dev4_eq (c : Dev nD) : (⟨k0_dev4 c, k0_dev4_lt c⟩ : Dev nD) = cx c 3 := by revert c; decide +kernel
theorem dev5_eq (c : Dev nD) : (⟨k0_dev5 c, k0_dev5_lt c⟩ : Dev nD) = cx c 4 := by revert c; decide +kernel
theorem dev6_eq (c : Dev nD) : (⟨k0_dev6 c, k0_dev6_lt c⟩ : Dev nD) = cx c 5 := by revert c; decide +kernel
theorem dev7_eq (c : Dev nD) : (⟨k0_dev7 c, k0_dev7_lt c⟩ : Dev nD) = cx c 6 := by revert c; decide +kernel
theorem dev8_eq (c : Dev nD) : (⟨k0_dev8 c, k0_dev8_lt c⟩ : Dev nD) = peer c (.inl 0) := by revert c; decide +kernel
theorem dev9_eq (c : Dev nD) : (⟨k0_dev9 c, k0_dev9_lt c⟩ : Dev nD) = peer c (.inl 1) := by revert c; decide +kernel
theorem dev10_eq (c : Dev nD) : (⟨k0_dev10 c, k0_dev10_lt c⟩ : Dev nD) = peer c (.inl 2) := by revert c; decide +kernel
theorem dev11_eq (c : Dev nD) : (⟨k0_dev11 c, k0_dev11_lt c⟩ : Dev nD) = peer c (.inl 3) := by revert c; decide +kernel
theorem dev12_eq (c : Dev nD) : (⟨k0_dev12 c, k0_dev12_lt c⟩ : Dev nD) = peer c (.inl 4) := by revert c; decide +kernel
theorem dev13_eq (c : Dev nD) : (⟨k0_dev13 c, k0_dev13_lt c⟩ : Dev nD) = peer c (.inl 5) := by revert c; decide +kernel
theorem dev14_eq (c : Dev nD) : (⟨k0_dev14 c, k0_dev14_lt c⟩ : Dev nD) = peer c (.inr (.inl 0)) := by revert c; decide +kernel
theorem dev15_eq (c : Dev nD) : (⟨k0_dev15 c, k0_dev15_lt c⟩ : Dev nD) = peer c (.inr (.inl 1)) := by revert c; decide +kernel
theorem dev16_eq (c : Dev nD) : (⟨k0_dev16 c, k0_dev16_lt c⟩ : Dev nD) = peer c (.inr (.inl 2)) := by revert c; decide +kernel
theorem dev17_eq (c : Dev nD) : (⟨k0_dev17 c, k0_dev17_lt c⟩ : Dev nD) = peer c (.inr (.inl 3)) := by revert c; decide +kernel
theorem dev18_eq (c : Dev nD) : (⟨k0_dev18 c, k0_dev18_lt c⟩ : Dev nD) = peer c (.inr (.inl 4)) := by revert c; decide +kernel
theorem dev19_eq (c : Dev nD) : (⟨k0_dev19 c, k0_dev19_lt c⟩ : Dev nD) = peer c (.inr (.inl 5)) := by revert c; decide +kernel
theorem dev20_eq (c : Dev nD) : (⟨k0_dev20 c, k0_dev20_lt c⟩ : Dev nD) = peer c (.inr (.inl 6)) := by revert c; decide +kernel
theorem dev21_eq (c : Dev nD) : (⟨k0_dev21 c, k0_dev21_lt c⟩ : Dev nD) = peer c (.inr (.inr 0)) := by revert c; decide +kernel
theorem dev22_eq (c : Dev nD) : (⟨k0_dev22 c, k0_dev22_lt c⟩ : Dev nD) = peer c (.inr (.inr 1)) := by revert c; decide +kernel
theorem dev23_eq (c : Dev nD) : (⟨k0_dev23 c, k0_dev23_lt c⟩ : Dev nD) = peer c (.inr (.inr 2)) := by revert c; decide +kernel
theorem dev24_eq (c : Dev nD) : (⟨k0_dev24 c, k0_dev24_lt c⟩ : Dev nD) = peer c (.inr (.inr 3)) := by revert c; decide +kernel
theorem dev25_eq (c : Dev nD) : (⟨k0_dev25 c, k0_dev25_lt c⟩ : Dev nD) = peer c (.inr (.inr 4)) := by revert c; decide +kernel
theorem dev26_eq (c : Dev nD) : (⟨k0_dev26 c, k0_dev26_lt c⟩ : Dev nD) = peer c (.inr (.inr 5)) := by revert c; decide +kernel
theorem dev27_eq (c : Dev nD) : (⟨k0_dev27 c, k0_dev27_lt c⟩ : Dev nD) = peer c (.inr (.inr 6)) := by revert c; decide +kernel

/-! ## The semaphores -/

/-- The runtime's barrier semaphore of collective id 0. -/
abbrev barS : Sem sig := (SemArray.scalar (sig.barrier 0 rfl) : Sems sig S_).sem

def sIx : T → Fin 46
  | .inl i => (![6, 9, 7, 10, 8, 11] : Fin 6 → Fin 46) i
  | .inr (.inl i) => (![18, 19, 20, 21, 22, 23, 24] : Fin 7 → Fin 46) i
  | .inr (.inr i) => (![25, 26, 27, 28, 29, 30, 31] : Fin 7 → Fin 46) i
def rIx : T → Fin 46
  | .inl i => (![12, 15, 13, 16, 14, 17] : Fin 6 → Fin 46) i
  | .inr (.inl i) => (![32, 33, 34, 35, 36, 37, 38] : Fin 7 → Fin 46) i
  | .inr (.inr i) => (![39, 40, 41, 42, 43, 44, 45] : Fin 7 → Fin 46) i

/-- The DMA semaphores of a transfer: the sender's, the receiver's; and those of the local copies. -/
def sendS (t : T) : DmaSem sig := sIx t
def recvS (t : T) : DmaSem sig := rIx t
/-- (`x`, `Wq`, the keys' and the values' weights, `Wo`, in issue order.) -/
def loadS (i : Fin 5) : DmaSem sig := (![4, 5, 1, 2, 3] : Fin 5 → Fin 46) i

/-- The kernel's cells, per device: the barrier's, the send cells, the receive cells, the local copies'. -/
abbrev Ck : Type := Unit ⊕ ((T ⊕ T) ⊕ Fin 5)
def csem : Ck → SemLoc sig
  | .inl _ => .reg barS
  | .inr (.inl (.inl t)) => .dma (sendS t)
  | .inr (.inl (.inr t)) => .dma (recvS t)
  | .inr (.inr i) => .dma (loadS i)
theorem csem_inj : Function.Injective csem := by decide +kernel

abbrev barCell (c : Dev nD) : GSem nD τ sig := ((c : Thread nD τ), .reg barS)
abbrev sendCell (c : Dev nD) (t : T) : GSem nD τ sig := ((c : Thread nD τ), .dma (sendS t))
abbrev recvCell (c : Dev nD) (t : T) : GSem nD τ sig := ((c : Thread nD τ), .dma (recvS t))
abbrev loadCell (c : Dev nD) (i : Fin 5) : GSem nD τ sig := ((c : Thread nD τ), .dma (loadS i))
abbrev kcell (ck : Dev nD × Ck) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  subst h1
  exact Prod.ext rfl (csem_inj (congrArg Prod.snd h))

/-- Which cell a semaphore is, when it is one of the kernel's. -/
def dec (s : SemLoc sig) : Option Ck := (Finset.univ.toList : List Ck).find? fun k => decide (csem k = s)

theorem dec_csem (k : Ck) : dec (csem k) = some k := by
  unfold dec
  have h : ((Finset.univ.toList : List Ck).find? fun j => decide (csem j = csem k)).isSome := by
    rw [List.find?_isSome]; exact ⟨k, Finset.mem_toList.mpr (Finset.mem_univ _), decide_eq_true rfl⟩
  obtain ⟨j, hj⟩ := Option.isSome_iff_exists.mp h
  have h' := List.find?_some hj
  simp only [decide_eq_true_eq] at h'
  rw [hj, csem_inj h']

/-! ## The buffers -/

abbrev outRef : Ref sig .tc := cc0_stg0_0
abbrev oM : Memref sig .tc .vmem S1x512x1024 .bf16 := Memref.whole cc0_stg0_0

/-- The block of the output buffer which device `c` finishes, of the left and of the right column half, as the all-gather names it. -/
abbrev blkA (c : Dev nD) : Memref sig .tc .vmem S64x512 .bf16 :=
  (oM.slice (Rect.unit (s := S1x512x1024) (k0_off15 c) S1x64x512.size (k0_off15_inb c)) (fun _ => rfl)).squeeze S64x512 squeezes_S1x64x512_S64x512
abbrev blkB (c : Dev nD) : Memref sig .tc .vmem S64x512 .bf16 :=
  (oM.slice (Rect.unit (s := S1x512x1024) (k0_off19 c) S1x64x512.size (k0_off19_inb c)) (fun _ => rfl)).squeeze S64x512 squeezes_S1x64x512_S64x512

def regA (c : Dev nD) : Finset S1x512x1024.Idx := (Rect.unit (s := S1x512x1024) (k0_off15 c) S1x64x512.size (k0_off15_inb c)).set
def regB (c : Dev nD) : Finset S1x512x1024.Idx := (Rect.unit (s := S1x512x1024) (k0_off19 c) S1x64x512.size (k0_off19_inb c)).set

theorem blkA_set (c : Dev nD) : (blkA c).view.set = regA c := by
  unfold regA blkA; rw [← View.set_slice_whole cc0_stg0_0]; exact View.set_reshape _ _
theorem blkB_set (c : Dev nD) : (blkB c).view.set = regB c := by
  unfold regB blkB; rw [← View.set_slice_whole cc0_stg0_0]; exact View.set_reshape _ _

/-! ## What the transfers carry -/

/-- What each device sends (`c`'s six rounded blocks), the whole result, and each device's arguments. -/
structure Vals (F : FTy → Type) where
  a0 : Dev nD → Vec F S256x512 .bf16
  b0 : Dev nD → Vec F S256x512 .bf16
  a1 : Dev nD → Vec F S128x512 .bf16
  b1 : Dev nD → Vec F S128x512 .bf16
  a2 : Dev nD → Vec F S64x512 .bf16
  b2 : Dev nD → Vec F S64x512 .bf16
  out : Vec F S1x512x1024 .bf16
  x : Dev nD → Vec F S1x512x1024 .f32
  wq : Dev nD → Vec F S1024x1024 .f32
  wo : Dev nD → Vec F S1024x1024 .f32
  wk : Dev nD → Vec F S1024x2048 .f32
  wv : Dev nD → Vec F S1024x2048 .f32

/-- The argument blocks which the local copies read. -/
abbrev xSrc : Memref sig .tc .hbm S512x1024 .f32 :=
  ((Memref.whole main_arg0).slice (Rect.unit (s := S1x512x1024) ![0, 0, 0] S1x512x1024.size inb_S1x512x1024_S1x512x1024_0_0_0) (fun _ => rfl)).squeeze S512x1024 squeezes_S1x512x1024_S512x1024
abbrev kSrc (c : Dev nD) : Memref sig .tc .hbm S1024x256 .f32 :=
  (Memref.whole main_arg3).slice (Rect.unit (s := S1024x2048) (k0_off1 c) S1024x256.size (k0_off1_inb c)) (fun _ => rfl)
abbrev vSrc (c : Dev nD) : Memref sig .tc .hbm S1024x256 .f32 :=
  (Memref.whole main_arg4).slice (Rect.unit (s := S1024x2048) (k0_off1 c) S1024x256.size (k0_off1_inb c)) (fun _ => rfl)

def xf (V : Vals F) (c : Dev nD) : Vec F S512x1024 .f32 := xSrc.view.read (Elt F) (V.x c)
def kcf (V : Vals F) (c : Dev nD) : Vec F S1024x256 .f32 := (kSrc c).view.read (Elt F) (V.wk c)
def vcf (V : Vals F) (c : Dev nD) : Vec F S1024x256 .f32 := (vSrc c).view.read (Elt F) (V.wv c)

def srcRef : T → Ref sig .tc
  | .inl 0 => cc0_scratch7 | .inl 1 => cc0_scratch10 | .inl 2 => cc0_scratch8 | .inl 3 => cc0_scratch11 | .inl 4 => cc0_scratch9 | .inl 5 => cc0_scratch12
  | .inr _ => cc0_stg0_0
def dstRef : T → Ref sig .tc
  | .inl 0 => cc0_scratch13 | .inl 1 => cc0_scratch16 | .inl 2 => cc0_scratch14 | .inl 3 => cc0_scratch17 | .inl 4 => cc0_scratch15 | .inl 5 => cc0_scratch18
  | .inr _ => cc0_stg0_0

abbrev pts (c : Dev nD) (b : Ref sig .tc) (f : Buf (Elt F) ((c : Thread nD τ).loc b)) : sProp 𝕄 :=
  ((c : Thread nD τ).loc b) ↦{fullShare} f

/-- The share of its finished block a device lends to the transfer across mask `i + 1`. -/
def lend (i : Fin 7) : PosShare TreeShare := ShareLeaves.leaf 3 fullShare i.castSucc

/-- A landing slot on device `e` of transfer `t`, at some contents. -/
def slot (e : Dev nD) : T → sProp 𝕄
  | .inl i => iprop(∃ f, pts e (dstRef (.inl i)) f)
  | .inr (.inl i) => iprop(∃ f, ((e : Thread nD τ).loc cc0_stg0_0) ↦[regA (cx e i)]{fullShare} f)
  | .inr (.inr i) => iprop(∃ f, ((e : Thread nD τ).loc cc0_stg0_0) ↦[regB (cx e i)]{fullShare} f)

variable (V : Vals F)

/-- The slot once the transfer has landed. -/
def recvPay (e : Dev nD) : T → sProp 𝕄
  | .inl 0 => pts e cc0_scratch13 (V.a0 (cx e 3))
  | .inl 1 => pts e cc0_scratch16 (V.b0 (cx e 2))
  | .inl 2 => pts e cc0_scratch14 (V.a1 (cx e 2))
  | .inl 3 => pts e cc0_scratch17 (V.b1 (cx e 0))
  | .inl 4 => pts e cc0_scratch15 (V.a2 (cx e 0))
  | .inl 5 => pts e cc0_scratch18 (V.b2 (cx e 3))
  | .inr (.inl i) => iprop(((e : Thread nD τ).loc cc0_stg0_0) ↦[regA (cx e i)]{fullShare} V.out)
  | .inr (.inr i) => iprop(((e : Thread nD τ).loc cc0_stg0_0) ↦[regB (cx e i)]{fullShare} V.out)

/-- The source of device `c`'s transfer `t`. -/
def sendPay (c : Dev nD) : T → sProp 𝕄
  | .inl 0 => pts c cc0_scratch7 (V.a0 c)
  | .inl 1 => pts c cc0_scratch10 (V.b0 c)
  | .inl 2 => pts c cc0_scratch8 (V.a1 c)
  | .inl 3 => pts c cc0_scratch11 (V.b1 c)
  | .inl 4 => pts c cc0_scratch9 (V.a2 c)
  | .inl 5 => pts c cc0_scratch12 (V.b2 c)
  | .inr (.inl i) => iprop(((c : Thread nD τ).loc cc0_stg0_0) ↦[regA c]{lend i} V.out)
  | .inr (.inr i) => iprop(((c : Thread nD τ).loc cc0_stg0_0) ↦[regB c]{lend i} V.out)

/-- What a local copy brings: the scratch buffer filled, and its source back. -/
def loadPay (c : Dev nD) : Fin 5 → sProp 𝕄
  | 0 => iprop(pts c cc0_scratch1 (xf V c) ∗ pts c main_arg0 (V.x c))
  | 1 => iprop(pts c cc0_scratch2 (V.wq c) ∗ pts c main_arg1 (V.wq c))
  | 2 => iprop(pts c cc0_scratch3 (kcf V c) ∗ (((c : Thread nD τ).loc main_arg3) ↦[(kSrc c).view.set]{fullShare} V.wk c))
  | 3 => iprop(pts c cc0_scratch4 (vcf V c) ∗ (((c : Thread nD τ).loc main_arg4) ↦[(vSrc c).view.set]{fullShare} V.wv c))
  | 4 => iprop(pts c cc0_scratch5 (V.wo c) ∗ pts c main_arg2 (V.wo c))

omit [FloatOps F] in
instance loadPay_storable (e : Dev nD) (i : Fin 5) : BI.Storable (upEmb : UEmb _ 𝕄) (loadPay V e i) := by
  fin_cases i <;> dsimp only [loadPay] <;> infer_instance

/-- What the device across mask `d + 1` from `e` hands over at the barrier: its slots for `e`'s transfers across that mask. -/
def barPay (e : Dev nD) (d : Fin 7) : sProp 𝕄 := bigSep (Finset.univ.filter fun t : T => pm t = d) fun t => slot (F := F) (peer e t) t

omit [FloatOps F] in
instance slot_storable (e : Dev nD) (t : T) : BI.Storable (upEmb : UEmb _ 𝕄) (slot (F := F) e t) := by
  rcases t with i | i | i <;> dsimp only [slot] <;> infer_instance
omit [FloatOps F] in
instance recvPay_storable (e : Dev nD) (t : T) : BI.Storable (upEmb : UEmb _ 𝕄) (recvPay V e t) := by
  rcases t with i | i | i
  · fin_cases i <;> dsimp only [recvPay] <;> infer_instance
  all_goals dsimp only [recvPay]; infer_instance
omit [FloatOps F] in
instance sendPay_storable (e : Dev nD) (t : T) : BI.Storable (upEmb : UEmb _ 𝕄) (sendPay V e t) := by
  rcases t with i | i | i
  · fin_cases i <;> dsimp only [sendPay] <;> infer_instance
  all_goals dsimp only [sendPay]; infer_instance
omit [FloatOps F] in
instance barPay_storable (e : Dev nD) (d : Fin 7) : BI.Storable (upEmb : UEmb _ 𝕄) (barPay (F := F) e d) := by
  unfold barPay; infer_instance

/-! ## The schedule -/

/-- The credit of a transfer's landing. -/
def amt : T → ℕ
  | .inl 0 => (Memref.whole cc0_scratch13 : Memref sig .tc .vmem S256x512 .bf16).view.dmaCredit
  | .inl 1 => (Memref.whole cc0_scratch16 : Memref sig .tc .vmem S256x512 .bf16).view.dmaCredit
  | .inl 2 => (Memref.whole cc0_scratch14 : Memref sig .tc .vmem S128x512 .bf16).view.dmaCredit
  | .inl 3 => (Memref.whole cc0_scratch17 : Memref sig .tc .vmem S128x512 .bf16).view.dmaCredit
  | .inl 4 => (Memref.whole cc0_scratch15 : Memref sig .tc .vmem S64x512 .bf16).view.dmaCredit
  | .inl 5 => (Memref.whole cc0_scratch18 : Memref sig .tc .vmem S64x512 .bf16).view.dmaCredit
  | .inr _ => (blkA 0).view.dmaCredit
theorem amt_pos (t : T) : 0 < amt t := by
  rcases t with i | i | i
  · fin_cases i <;> exact View.dmaCredit_pos _ (by decide)
  all_goals exact View.dmaCredit_pos _ (by decide)

def amtL : Fin 5 → ℕ
  | 0 => (Memref.whole cc0_scratch1 : Memref sig .tc .vmem S512x1024 .f32).view.dmaCredit
  | 1 => (Memref.whole cc0_scratch2 : Memref sig .tc .vmem S1024x1024 .f32).view.dmaCredit
  | 2 => (Memref.whole cc0_scratch3 : Memref sig .tc .vmem S1024x256 .f32).view.dmaCredit
  | 3 => (Memref.whole cc0_scratch4 : Memref sig .tc .vmem S1024x256 .f32).view.dmaCredit
  | 4 => (Memref.whole cc0_scratch5 : Memref sig .tc .vmem S1024x1024 .f32).view.dmaCredit
theorem amtL_pos (i : Fin 5) : 0 < amtL i := by
  fin_cases i <;> exact View.dmaCredit_pos _ (by decide)

def Rd : Rounds.Schedule (GSem nD τ sig) (Fin 7) 𝕄 where
  duties g r := if r = 0 ∧ g.1.2 = .tc then (match dec g.2 with | some (.inl _) => Finset.univ | some (.inr _) => {0} | none => ∅) else ∅
  unitless _ := False
  amount g _ _ := match dec g.2 with | some (.inr (.inl (.inl t))) => amt t | some (.inr (.inl (.inr t))) => amt t | some (.inr (.inr i)) => amtL i | _ => 1
  payload g _ d := match dec g.2 with
    | some (.inl _) => barPay g.1.1 d
    | some (.inr (.inl (.inl t))) => sendPay V g.1.1 t
    | some (.inr (.inl (.inr t))) => recvPay V g.1.1 t
    | some (.inr (.inr i)) => loadPay V g.1.1 i
    | none => iprop(emp)
  amount_pos g _ _ _ := by
    rcases dec g.2 with _ | (_ | ((t | t) | i))
    · exact Nat.one_pos
    · exact Nat.one_pos
    · exact amt_pos t
    · exact amt_pos t
    · exact amtL_pos i

omit [FloatOps F] in
instance Rd_payload_storable (g : GSem nD τ sig) (r : ℕ) (d : Fin 7) : BI.Storable (upEmb : UEmb _ 𝕄) ((Rd V).payload g r d) := by
  dsimp only [Rd]
  rcases dec g.2 with _ | (_ | ((t | t) | i)) <;> dsimp only <;> infer_instance

section Sched
variable (c : Dev nD) (t : T)

theorem dec_bar : dec (.reg barS) = some (.inl ()) := dec_csem (.inl ())
theorem dec_send : dec (.dma (sendS t)) = some (.inr (.inl (.inl t))) := dec_csem (.inr (.inl (.inl t)))
theorem dec_load (i : Fin 5) : dec (.dma (loadS i)) = some (.inr (.inr i)) := dec_csem (.inr (.inr i))
theorem dec_recv : dec (.dma (recvS t)) = some (.inr (.inl (.inr t))) := dec_csem (.inr (.inl (.inr t)))

omit [FloatOps F] in
theorem duties_bar : (Rd V).duties (barCell c) 0 = Finset.univ := by dsimp only [Rd]; rw [if_pos ⟨rfl, rfl⟩, dec_bar]
omit [FloatOps F] in
theorem duties_send : (Rd V).duties (sendCell c t) 0 = {0} := by dsimp only [Rd]; rw [if_pos ⟨rfl, rfl⟩, dec_send]
omit [FloatOps F] in
theorem duties_recv : (Rd V).duties (recvCell c t) 0 = {0} := by dsimp only [Rd]; rw [if_pos ⟨rfl, rfl⟩, dec_recv]
omit [FloatOps F] in
theorem duties_load (i : Fin 5) : (Rd V).duties (loadCell c i) 0 = {0} := by dsimp only [Rd]; rw [if_pos ⟨rfl, rfl⟩, dec_load]
omit [FloatOps F] in
theorem duties_later (g : GSem nD τ sig) : ∀ r, 1 ≤ r → (Rd V).duties g r = ∅ :=
  fun r hr => by dsimp only [Rd]; rw [if_neg fun h => by omega]
omit [FloatOps F] in
theorem amount_bar (d : Fin 7) : (Rd V).amount (barCell c) 0 d = 1 := by dsimp only [Rd]; rw [dec_bar]
omit [FloatOps F] in
theorem amount_send (d : Fin 7) : (Rd V).amount (sendCell c t) 0 d = amt t := by dsimp only [Rd]; rw [dec_send]
omit [FloatOps F] in
theorem amount_recv (d : Fin 7) : (Rd V).amount (recvCell c t) 0 d = amt t := by dsimp only [Rd]; rw [dec_recv]
omit [FloatOps F] in
theorem amount_load (i : Fin 5) (d : Fin 7) : (Rd V).amount (loadCell c i) 0 d = amtL i := by dsimp only [Rd]; rw [dec_load]
omit [FloatOps F] in
theorem expect_load (i : Fin 5) : (Rd V).expect (loadCell c i) 0 = amtL i := by
  unfold Schedule.expect Schedule.amountOf; rw [duties_load, Finset.sum_singleton, amount_load]
omit [FloatOps F] in
theorem payload_load (i : Fin 5) (d : Fin 7) : (Rd V).payload (loadCell c i) 0 d = loadPay V c i := by dsimp only [Rd]; rw [dec_load]
omit [FloatOps F] in
theorem rest_load (i : Fin 5) : bigSep ((Rd V).duties (loadCell c i) 0 \ ∅) (fun d => (Rd V).payload (loadCell c i) 0 d) = loadPay V c i := by
  rw [Finset.sdiff_empty, duties_load, bigSep_singleton, payload_load]
omit [FloatOps F] in
theorem expect_bar : (Rd V).expect (barCell c) 0 = 7 := by
  unfold Schedule.expect Schedule.amountOf
  rw [duties_bar, Finset.sum_congr rfl fun d _ => amount_bar V c d]; rfl
omit [FloatOps F] in
theorem expect_send : (Rd V).expect (sendCell c t) 0 = amt t := by
  unfold Schedule.expect Schedule.amountOf; rw [duties_send, Finset.sum_singleton, amount_send]
omit [FloatOps F] in
theorem expect_recv : (Rd V).expect (recvCell c t) 0 = amt t := by
  unfold Schedule.expect Schedule.amountOf; rw [duties_recv, Finset.sum_singleton, amount_recv]
omit [FloatOps F] in
theorem payload_bar (d : Fin 7) : (Rd V).payload (barCell c) 0 d = barPay c d := by dsimp only [Rd]; rw [dec_bar]
omit [FloatOps F] in
theorem payload_send (d : Fin 7) : (Rd V).payload (sendCell c t) 0 d = sendPay V c t := by dsimp only [Rd]; rw [dec_send]
omit [FloatOps F] in
theorem payload_recv (d : Fin 7) : (Rd V).payload (recvCell c t) 0 d = recvPay V c t := by dsimp only [Rd]; rw [dec_recv]

theorem pm_image : (Finset.univ : Finset T).image pm = Finset.univ := by decide

omit [FloatOps F] in
/-- The rest of the barrier cell's round: every slot its device sends into. -/
theorem rest_bar : bigSep ((Rd V).duties (barCell c) 0 \ ∅) (fun d => (Rd V).payload (barCell c) 0 d)
    = bigSep Finset.univ fun t : T => slot (F := F) (peer c t) t := by
  rw [Finset.sdiff_empty, duties_bar, BI.bigSep_fiberwise Finset.univ pm, pm_image]
  exact bigSep_congr fun d _ => payload_bar V c d
omit [FloatOps F] in
theorem rest_send : bigSep ((Rd V).duties (sendCell c t) 0 \ ∅) (fun d => (Rd V).payload (sendCell c t) 0 d) = sendPay V c t := by
  rw [Finset.sdiff_empty, duties_send, bigSep_singleton, payload_send]
omit [FloatOps F] in
theorem rest_recv : bigSep ((Rd V).duties (recvCell c t) 0 \ ∅) (fun d => (Rd V).payload (recvCell c t) 0 d) = recvPay V c t := by
  rw [Finset.sdiff_empty, duties_recv, bigSep_singleton, payload_recv]

omit [FloatOps F] in
/-- A device's own slots, by mask: what it hands over, signal by signal. -/
theorem slots_by_mask : (bigSep Finset.univ fun t : T => slot (F := F) c t)
    = bigSep Finset.univ fun d : Fin 7 => barPay (F := F) (cx c d) d := by
  rw [BI.bigSep_fiberwise Finset.univ pm, pm_image]
  refine bigSep_congr fun d _ => ?_
  unfold barPay
  refine bigSep_congr fun t ht => ?_
  have h := (Finset.mem_filter.mp ht).2
  rw [peer, h, cx_cx]

end Sched

/-! ## What each device owes; the levels -/

/-- The transfers still to be issued, from place `k` on. -/
def owT (c : Dev nD) (k : ℕ) : CellTallies nD τ sig Unit :=
  ∑ t ∈ Finset.univ.filter (fun t : T => k ≤ ord t), tallyAt (recvCell (peer c t) t) () (amt t)
/-- The signals still to be issued, from mask `k + 1` on. -/
def owB (c : Dev nD) (k : ℕ) : CellTallies nD τ sig Unit :=
  ∑ d ∈ Finset.univ.filter (fun d : Fin 7 => k ≤ d.val), tallyAt (barCell (cx c d)) () 1
def O₀ (c : Dev nD) : CellTallies nD τ sig Unit := owT c 0 + owB c 0

theorem owT_step (c : Dev nD) (t : T) : owT c (ord t) = owT c (ord t + 1) + tallyAt (recvCell (peer c t) t) () (amt t) := by
  unfold owT
  have h : (Finset.univ.filter fun s : T => ord t ≤ ord s) = insert t (Finset.univ.filter fun s : T => ord t + 1 ≤ ord s) := by
    ext s
    simp only [Finset.mem_filter, Finset.mem_univ, true_and, Finset.mem_insert]
    constructor
    · intro hs
      rcases Nat.eq_or_lt_of_le hs with h | h
      · exact Or.inl (ord_inj h.symm)
      · exact Or.inr h
    · rintro (h | h)
      · rw [h]
      · omega
  rw [h, Finset.sum_insert (by simp), add_comm]
theorem owB_step (c : Dev nD) (d : Fin 7) : owB c d.val = owB c (d.val + 1) + tallyAt (barCell (cx c d)) () 1 := by
  unfold owB
  have h : (Finset.univ.filter fun s : Fin 7 => d.val ≤ s.val) = insert d (Finset.univ.filter fun s : Fin 7 => d.val + 1 ≤ s.val) := by
    revert d; decide
  rw [h, Finset.sum_insert (by simp), add_comm]
theorem owT_end (c : Dev nD) : owT c 20 = 0 := by
  unfold owT
  rw [Finset.filter_false_of_mem fun t _ => by have := ord_lt t; omega, Finset.sum_empty]
theorem owB_end (c : Dev nD) : owB c 7 = 0 := by
  unfold owB
  rw [Finset.filter_false_of_mem fun d _ => by have := d.isLt; omega, Finset.sum_empty]

def L (g : GSem nD τ sig) : Finset Unit := if g.1.2 = .tc then {()} else ∅
/-- Barrier cells at 1, receive cells above in the order of issue, everything else at 0. -/
def lv (g : GSem nD τ sig) (_ : Unit) : ℕ := match dec g.2 with | some (.inl _) => 1 | some (.inr (.inl (.inr t))) => 2 + ord t | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [dec_bar]
theorem lv_load (c : Dev nD) (i : Fin 5) (u : Unit) : lv (loadCell c i) u = 0 := by unfold lv; rw [dec_load]
theorem lv_send (c : Dev nD) (t : T) (u : Unit) : lv (sendCell c t) u = 0 := by unfold lv; rw [dec_send]
theorem lv_recv (c : Dev nD) (t : T) (u : Unit) : lv (recvCell c t) u = 2 + ord t := by unfold lv; rw [dec_recv]

theorem owT_pos {c : Dev nD} {k : ℕ} {g : GSem nD τ sig} {u : Unit} (h : 0 < owT c k g u) :
    ∃ t : T, k ≤ ord t ∧ g = recvCell (peer c t) t := by
  unfold owT at h
  rw [Finset.sum_apply, Finsupp.finset_sum_apply] at h
  obtain ⟨t, ht, hpos⟩ := Finset.exists_ne_zero_of_sum_ne_zero (Nat.pos_iff_ne_zero.mp h)
  refine ⟨t, (Finset.mem_filter.mp ht).2, ?_⟩
  rw [tallyAt_apply] at hpos
  by_contra hn
  exact hpos (if_neg fun h' => hn h'.1)
theorem owB_pos {c : Dev nD} {k : ℕ} {g : GSem nD τ sig} {u : Unit} (h : 0 < owB c k g u) :
    ∃ d : Fin 7, g = barCell (cx c d) := by
  unfold owB at h
  rw [Finset.sum_apply, Finsupp.finset_sum_apply] at h
  obtain ⟨d, hd, hpos⟩ := Finset.exists_ne_zero_of_sum_ne_zero (Nat.pos_iff_ne_zero.mp h)
  refine ⟨d, ?_⟩
  rw [tallyAt_apply] at hpos
  by_contra hn
  exact hpos (if_neg fun h' => hn h'.1)

omit [FloatOps F] in
/-- A wait on a cell below every transfer from place `k` on. -/
theorem mayWait_T (c : Dev nD) (sm : SemLoc sig) (k : ℕ) (h : lv ((c : Thread nD τ), sm) () < 2 + k) :
    (levAts L lv : sProp 𝕄) ⊢ MayWait (c : Thread nD τ) sm () (owT c k) :=
  MayOwe.of_cut (L := L) (lev := lv) (1 + k) (fun p hp => by rw [Finset.mem_singleton.mp hp, L_tc]; exact Finset.mem_singleton_self _)
    (fun g u hg => by obtain ⟨t, -, rfl⟩ := owT_pos hg; exact Finset.mem_singleton_self _)
    (fun p hp => by rw [Finset.mem_singleton.mp hp]; show lv ((c : Thread nD τ), sm) () ≤ _; omega)
    (fun g u hg => by obtain ⟨t, ht, rfl⟩ := owT_pos hg; rw [lv_recv]; omega)

omit [FloatOps F] in
/-- A wait on a cell at level 0, whatever of its debt the device has paid. -/
theorem mayWait_0 (c : Dev nD) (sm : SemLoc sig) (k j : ℕ) (h : lv ((c : Thread nD τ), sm) () = 0) :
    (levAts L lv : sProp 𝕄) ⊢ MayWait (c : Thread nD τ) sm () (owT c k + owB c j) :=
  MayOwe.of_cut (L := L) (lev := lv) 0 (fun p hp => by rw [Finset.mem_singleton.mp hp, L_tc]; exact Finset.mem_singleton_self _)
    (fun g u hg => by
      rw [Pi.add_apply, Finsupp.add_apply] at hg
      rcases Nat.pos_iff_ne_zero.mp hg |> fun h => (Nat.add_pos_iff_pos_or_pos.mp (Nat.pos_of_ne_zero h)) with h | h
      · obtain ⟨t, -, rfl⟩ := owT_pos h; exact Finset.mem_singleton_self _
      · obtain ⟨d, rfl⟩ := owB_pos h; exact Finset.mem_singleton_self _)
    (fun p hp => by rw [Finset.mem_singleton.mp hp]; exact le_of_eq h)
    (fun g u hg => by
      rw [Pi.add_apply, Finsupp.add_apply] at hg
      rcases Nat.add_pos_iff_pos_or_pos.mp hg with h | h
      · obtain ⟨t, ht, rfl⟩ := owT_pos h; rw [lv_recv]; omega
      · obtain ⟨d, rfl⟩ := owB_pos h; rw [lv_bar]; omega)

end Cert.AttnProof

end
-- ==== Proof.Ops.lean ====
/-
# One rule per effect of the kernel

For each kind of effect which touches a semaphore — a signal, a local copy, a transfer, a wait — the rule of the rounds library,
at this kernel's schedule. A wait also closes its cell: the schedule has one round.
-/
module

public import proofs.«01_k».proof.Proof.Proto

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

instance : DecidableEq Ck := instDecidableEqSum

variable (V : Vals F) (K : Dev nD × Ck → ℕ) (c : Dev nD)

/-! ## The ghost state -/

/-- Every cell's invariant, and that every cell is at its round. -/
def records : sProp 𝕄 :=
  iprop((bigSep Finset.univ fun ck : Dev nD × Ck => cellInv ER (Rd V) (K ck) (kcell ck))
    ∗ (bigSep Finset.univ fun ck : Dev nD × Ck => reached ER (kcell ck) 0) ∗ levAts L lv)

instance records_persistent : BI.Persistent (records V K) := by unfold records; infer_instance

omit [FloatOps F] in
theorem inv_at' (ck : Dev nD × Ck) :
    (bigSep Finset.univ fun ck : Dev nD × Ck => (cellInv ER (Rd V) (K ck) (kcell ck) : sProp 𝕄)) ⊢ cellInv ER (Rd V) (K ck) (kcell ck) :=
  bigSep_elim (Finset.mem_univ ck)
omit [FloatOps F] in
theorem reached_at' (ck : Dev nD × Ck) :
    (bigSep Finset.univ fun ck : Dev nD × Ck => (reached ER (kcell ck) 0 : sProp 𝕄)) ⊢ reached ER (kcell ck) 0 :=
  bigSep_elim (Finset.mem_univ ck)
omit [FloatOps F] in
theorem inv_at (ck : Dev nD × Ck) : records V K ⊢ cellInv ER (Rd V) (K ck) (kcell ck) := by
  unfold records
  iintro ⟨H, -, -⟩
  iapply (inv_at' V K ck)
  iexact H
omit [FloatOps F] in
theorem reached_at (ck : Dev nD × Ck) : records V K ⊢ reached ER (kcell ck) 0 := by
  unfold records
  iintro ⟨-, H, -⟩
  iapply (reached_at' (F := F) ck)
  iexact H
omit [FloatOps F] in
theorem lev_at : records V K ⊢ (levAts L lv : sProp 𝕄) := by
  unfold records
  iintro ⟨-, -, H⟩
  iexact H

/-- What device `c` owes, whatever it has waited for. -/
def Ow (O : CellTallies nD τ sig Unit) : sProp 𝕄 := iprop(∃ W, owes (c : Thread nD τ) O W)

/-- A transfer before it is issued. -/
def tokT (t : T) : sProp 𝕄 :=
  iprop(atPos ER (sendCell c t) 0 ∅ 0 ∗ atPos ER (recvCell c t) 0 ∅ 0
    ∗ dutyTok ER (sendCell c t) 0 0 ∗ dutyTok ER (recvCell (peer c t) t) 0 0 ∗ cred (tallyAt (recvCell c t) () (amt t)))
/-- Its send, and its receive, under way. -/
def sndT (t : T) : sProp 𝕄 := iprop(atPos ER (sendCell c t) 0 ∅ 0 ∗ cred (tallyAt (sendCell c t) () (amt t)))
def rcvT (t : T) : sProp 𝕄 := iprop(atPos ER (recvCell c t) 0 ∅ 0 ∗ cred (tallyAt (recvCell c t) () (amt t)))
/-- A local copy before it is issued, and under way. -/
def tokL (i : Fin 5) : sProp 𝕄 := iprop(atPos ER (loadCell c i) 0 ∅ 0 ∗ dutyTok ER (loadCell c i) 0 0)
def midL (i : Fin 5) : sProp 𝕄 := iprop(atPos ER (loadCell c i) 0 ∅ 0 ∗ cred (tallyAt (loadCell c i) () (amtL i)))
/-- The barrier: the tokens of the signals, and the own cell. -/
def tokB (d : Fin 7) : sProp 𝕄 := dutyTok ER (barCell (cx c d)) 0 d
def ownB : sProp 𝕄 := iprop(atPos ER (barCell c) 0 ∅ 0 ∗ cred (tallyAt (barCell c) () 7))

variable {c}

/-! ## The rules -/

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_sig (d : Fin 7) (n : Dev nD) (hn : n = cx c d) {sem : Sem sig} (hs : sem = barS)
    {α : Type} {k : PUnit → Prog (TpuEff nD τ sig (Elt F) Λ₀ .tc) α} {Q : α → sProp 𝕄} {k' : ℕ} (hk : k' = 1) :
    iprop(records V K ∗ Ow c (owT c 0 + owB c d.val) ∗ tokB c d ∗ barPay (F := F) (cx c d) d)
      ⊢ iprop((Ow c (owT c 0 + owB c (d.val + 1)) -∗ wpc c (k ⟨⟩) Q)
          -∗ wpc c (.op (.semSignal (Dev.tc n : Thread nD τ) sem k') k) Q) := by
  subst hn hs hk
  unfold Ow tokB
  iintro ⟨#HR, ⟨%W, HO⟩, Ht, Hp⟩ Hk
  iapply (Rounds.wp_signal 𝒱₀ ER (Rd V) (c : Thread nD τ) none (dst := (cx c d : Thread nD τ)) (κ := K (cx c d, .inl ()))
      (d := d) (by rw [duties_bar]; exact Finset.mem_univ _) (amount_bar V (cx c d) d) () (O₀ := owT c 0 + owB c d.val) (owT c 0 + owB c (d.val + 1))
      (by rw [owB_step c d, add_assoc])) $$ [HO Ht Hp]
  · isplitr; · iapply (inv_at V K (cx c d, .inl ())); iexact HR
    isplitl [HO]; · iexact HO
    isplitl [Ht]; · iexact Ht
    isplitl [Hp]; · rw [payload_bar]; iexact Hp
    iapply (reached_at V K (cx c d, .inl ())); iexact HR
  iintro HO
  iapply Hk; iexists W; iexact HO

theorem wp_barrier {sem : Sem sig} (hs : sem = barS)
    {α : Type} {k : PUnit → Prog (TpuEff nD τ sig (Elt F) Λ₀ .tc) α} {Q : α → sProp 𝕄} {k' : ℕ} (hk : k' = 7) :
    iprop(records V K ∗ Ow c (owT c 0) ∗ ownB c)
      ⊢ iprop(((Ow c (owT c 0) ∗ semVal (barCell c) 0 ∗ bigSep Finset.univ fun t : T => slot (F := F) (peer c t) t) -∗ wpc c (k ⟨⟩) Q)
          -∗ wpc c (.op (.semWait sem k') k) Q) := by
  subst hs hk
  unfold Ow ownB
  iintro ⟨#HR, ⟨%W, HO⟩, Hat, Hc⟩ Hk
  iapply (Rounds.wp_wait_rest_token 𝒱₀ ER (Rd V) (c : Thread nD τ) none (κ := K (c, .inl ()))
      (wpE_semWait_eq 𝒱₀ (c : Thread nD τ) none Set.univ) (Set.mem_univ _) () (O := owT c 0) (W := W) (R := 0) (m := 0) (T := ∅)
      (by rw [expect_bar])) $$ [HO Hat Hc]
  · isplitr; · iapply (inv_at V K (c, .inl ())); iexact HR
    isplitl [Hc]; · iexact Hc
    isplitl [HO]; · iexact HO
    isplitr
    · iapply (mayWait_T c (.reg barS) 0 (by rw [lv_bar]; omega)); iapply (lev_at V K); iexact HR
    iexact Hat
  iintro ⟨HO, Hat, -, Hpay⟩
  ihave Hp := (Entails.of_eq (rest_bar V c)) $$ Hpay
  imod (Rounds.cell_close ER (Rd V) (Set.mem_univ (K (c, .inl ()))) (fun h => h) (R := 0 + 1) (duties_later V (barCell c))) $$ [Hat] with Hz
  · isplitr; · iapply (inv_at V K (c, .inl ())); iexact HR
    iexact Hat
  iapply Hk
  isplitl [HO]; · iexists _; iexact HO
  isplitl [Hz] <;> iassumption

theorem wp_copy (i : Fin 5) {sp sp' : Space} {s : Shape} {e : EltTy} {src : Memref sig .tc sp s e} {dst : Memref sig .tc sp' s e} {sem : DmaSem sig}
    (hs : sem = loadS i) {hsrc : src.view.WordExact} {hdst : dst.view.WordExact} {hsem : DmaTarget.Typed (nD := nD) (τ := τ) (p := .tc) sp (SemLoc.dma sem) (.here dst)}
    {α : Type} {k : PUnit → Prog (TpuEff nD τ sig (Elt F) Λ₀ .tc) α} {Q : α → sProp 𝕄} {q : PosShare TreeShare}
    {fs : Buf (Elt F) (src.view.loc (c : Thread nD τ))} {fd : Buf (Elt F) (dst.view.loc (c : Thread nD τ))}
    {Ss : Finset (Idx (src.view.loc (c : Thread nD τ)))} {Sd : Finset (Idx (dst.view.loc (c : Thread nD τ)))} (hSs : src.view.set = Ss) (hSd : dst.view.set = Sd)
    (hN : dst.view.amount (SemLoc.dma sem) = amtL i)
    (hpay : iprop((dst.view.loc (c : Thread nD τ) ↦[Sd]{fullShare} (dst.view.write (Elt F) fd (src.view.read (Elt F) fs) Finset.univ))
              ∗ (src.view.loc (c : Thread nD τ) ↦[Ss]{q} fs)) ⊢ loadPay V c i) :
    iprop(records V K ∗ tokL c i ∗ (src.view.loc (c : Thread nD τ) ↦[Ss]{q} fs) ∗ (dst.view.loc (c : Thread nD τ) ↦[Sd]{fullShare} fd))
      ⊢ iprop((midL (F := F) c i -∗ wpc c (k ⟨⟩) Q)
          -∗ wpc c (.op (.enqueueDma src (.here dst) (SemLoc.dma sem) hsrc hdst hsem) k) Q) := by
  subst hs hSs hSd
  unfold tokL midL
  iintro ⟨#HR, ⟨Hat, Ht⟩, Hs, Hd⟩ Hk
  iapply (Rounds.wp_copy_pointsTo 𝒱₀ ER (Rd V) (c : Thread nD τ) none (κ := K (c, .inr (.inr i))) (r := 0) (d := 0) (q := q) (fs := fs) (fd := fd)
      (by rw [duties_load]; exact Finset.mem_singleton_self _) () (amtL i) hN (amount_load V c i 0) (by rw [payload_load]; exact hpay)) $$ [Ht Hs Hd]
  · isplitr; · iapply (inv_at V K (c, .inr (.inr i))); iexact HR
    isplitl [Hs]; · iexact Hs
    isplitl [Hd]; · iexact Hd
    isplitl [Ht]; · iexact Ht
    iapply (reached_at V K (c, .inr (.inr i))); iexact HR
  iintro Hc
  iapply Hk
  isplitl [Hat] <;> iassumption

theorem wp_send (t : T) (n : Dev nD) (hn : n = peer c t) {sp sp' : Space} {s : Shape} {e : EltTy} {src : Memref sig .tc sp s e} {dst : Memref sig .tc sp' s e}
    {hsc : dst.view.ref.isScScratch = false} {sS sR : DmaSem sig} (hS : sS = sendS t) (hR : sR = recvS t)
    {hsrc : src.view.WordExact} {hdst : dst.view.WordExact}
    {hsem : DmaTarget.Typed sp (SemLoc.dma sR) (.remote (Dev.tc n : Thread nD τ) dst (SemLoc.dma sS) hsc)}
    {α : Type} {k : PUnit → Prog (TpuEff nD τ sig (Elt F) Λ₀ .tc) α} {Q : α → sProp 𝕄} {q : PosShare TreeShare}
    {fs : Buf (Elt F) (src.view.loc (c : Thread nD τ))} {fd : Buf (Elt F) (dst.view.loc (n : Thread nD τ))}
    {Ss : Finset (Idx (src.view.loc (c : Thread nD τ)))} {Sd : Finset (Idx (dst.view.loc (n : Thread nD τ)))} (hSs : src.view.set = Ss) (hSd : dst.view.set = Sd)
    (hN : dst.view.amount (SemLoc.dma sR) = amt t)
    (h1 : (src.view.loc (c : Thread nD τ) ↦[Ss]{q} fs) ⊢ sendPay V c t)
    (h2 : (dst.view.loc (n : Thread nD τ) ↦[Sd]{fullShare} (dst.view.write (Elt F) fd (src.view.read (Elt F) fs) Finset.univ)) ⊢ recvPay V n t) :
    iprop(records V K ∗ tokT c t ∗ Ow c (owT c (ord t)) ∗ (src.view.loc (c : Thread nD τ) ↦[Ss]{q} fs) ∗ (dst.view.loc (n : Thread nD τ) ↦[Sd]{fullShare} fd))
      ⊢ iprop(((sndT (F := F) c t ∗ rcvT c t ∗ Ow c (owT c (ord t + 1))) -∗ wpc c (k ⟨⟩) Q)
          -∗ wpc c (.op (.enqueueDma src (.remote (Dev.tc n : Thread nD τ) dst (SemLoc.dma sS) hsc) (SemLoc.dma sR) hsrc hdst hsem) k) Q) := by
  subst hn hS hR hSs hSd
  unfold tokT sndT rcvT Ow
  iintro ⟨#HR, ⟨HaS, HaR, HtS, HtR, HcR⟩, ⟨%W, HO⟩, Hs, Hd⟩ Hk
  iapply (Rounds.wp_send_pointsTo 𝒱₀ ER (Rd V) (c : Thread nD τ) none (κ₁ := K (c, .inr (.inl (.inl t)))) (κ₂ := K (peer c t, .inr (.inl (.inr t))))
      (r₁ := 0) (r₂ := 0) (d₁ := 0) (d₂ := 0) (q := q) (fs := fs) (fd := fd)
      (by rw [duties_send]; exact Finset.mem_singleton_self _) (by rw [duties_recv]; exact Finset.mem_singleton_self _)
      () () (amt t) hN (amount_send V c t 0) (amount_recv V (peer c t) t 0) (owT c (ord t + 1)) (owT_step c t) (W := W)
      (by rw [payload_send]; exact h1) (by rw [payload_recv]; exact h2)) $$ [HtS HtR Hs Hd HO]
  · isplitr; · iapply (inv_at V K (c, .inr (.inl (.inl t)))); iexact HR
    isplitr; · iapply (inv_at V K (peer c t, .inr (.inl (.inr t)))); iexact HR
    isplitl [Hs]; · iexact Hs
    isplitl [Hd]; · iexact Hd
    isplitl [HO]; · iexact HO
    isplitl [HtS]; · iexact HtS
    isplitr; · iapply (reached_at V K (c, .inr (.inl (.inl t)))); iexact HR
    isplitl [HtR]; · iexact HtR
    iapply (reached_at V K (peer c t, .inr (.inl (.inr t)))); iexact HR
  iintro ⟨HcS, HO⟩
  iapply Hk
  isplitl [HaS HcS]
  · isplitl [HaS] <;> iassumption
  isplitl [HaR HcR]
  · isplitl [HaR] <;> iassumption
  iexists W; iexact HO

/-- A wait on a local copy's semaphore. -/
theorem wp_waitL (i : Fin 5) {sp sp' : Space} {s : Shape} {e : EltTy} {src : Memref sig .tc sp s e} {dst : Memref sig .tc sp' s e} {sem : DmaSem sig}
    (hs : sem = loadS i) {hsrc : src.view.WordExact} {hd : dst.view.WordExact} {α : Type} {k : PUnit → Prog (TpuEff nD τ sig (Elt F) Λ₀ .tc) α} {Q : α → sProp 𝕄}
    (hN : dst.view.dmaCredit = amtL i) (j l : ℕ) :
    iprop(records V K ∗ midL c i ∗ Ow c (owT c j + owB c l))
      ⊢ iprop(((semVal (loadCell c i) 0 ∗ loadPay V c i ∗ Ow c (owT c j + owB c l)) -∗ wpc c (k ⟨⟩) Q)
          -∗ wpc c (.op (.waitDma2 sem src dst hsrc hd) k) Q) := by
  subst hs
  unfold midL Ow
  iintro ⟨#HR, ⟨Hat, Hc⟩, ⟨%W, HO⟩⟩ Hk
  iapply (Rounds.wp_wait_rest_token 𝒱₀ ER (Rd V) (c : Thread nD τ) none (κ := K (c, .inr (.inr i)))
      (wpE_waitDma2_eq 𝒱₀ (c : Thread nD τ) none Set.univ) (Set.mem_univ _) () (O := owT c j + owB c l) (W := W) (R := 0) (m := 0) (T := ∅)
      (by rw [Nat.zero_add, expect_load]; exact hN)) $$ [HO Hat Hc]
  · isplitr; · iapply (inv_at V K (c, .inr (.inr i))); iexact HR
    isplitl [Hc]; · rw [hN]; iexact Hc
    isplitl [HO]; · iexact HO
    isplitr
    · iapply (mayWait_0 c (.dma (loadS i)) j l (lv_load c i ())); iapply (lev_at V K); iexact HR
    iexact Hat
  iintro ⟨HO, Hat, -, Hpay⟩
  ihave Hp := (Entails.of_eq (rest_load V c i)) $$ Hpay
  imod (Rounds.cell_close ER (Rd V) (Set.mem_univ (K (c, .inr (.inr i)))) (fun h => h) (R := 0 + 1) (duties_later V (loadCell c i))) $$ [Hat] with Hz
  · isplitr; · iapply (inv_at V K (c, .inr (.inr i))); iexact HR
    iexact Hat
  iapply Hk
  isplitl [Hz]; · iexact Hz
  isplitl [Hp]; · iexact Hp
  iexists _; iexact HO

/-- A wait on a send semaphore, the transfers from place `j` on still owed. -/
theorem wp_waitS (t : T) {sp sp' : Space} {s : Shape} {e : EltTy} {src : Memref sig .tc sp s e} {dst : Memref sig .tc sp' s e} {sem : DmaSem sig}
    (hs : sem = sendS t) {hsrc : src.view.WordExact} {hd : dst.view.WordExact} {α : Type} {k : PUnit → Prog (TpuEff nD τ sig (Elt F) Λ₀ .tc) α} {Q : α → sProp 𝕄}
    (hN : dst.view.dmaCredit = amt t) (j : ℕ) :
    iprop(records V K ∗ sndT c t ∗ Ow c (owT c j))
      ⊢ iprop(((semVal (sendCell c t) 0 ∗ sendPay V c t ∗ Ow c (owT c j)) -∗ wpc c (k ⟨⟩) Q)
          -∗ wpc c (.op (.waitDma2 sem src dst hsrc hd) k) Q) := by
  subst hs
  unfold sndT Ow
  iintro ⟨#HR, ⟨Hat, Hc⟩, ⟨%W, HO⟩⟩ Hk
  iapply (Rounds.wp_wait_rest_token 𝒱₀ ER (Rd V) (c : Thread nD τ) none (κ := K (c, .inr (.inl (.inl t))))
      (wpE_waitDma2_eq 𝒱₀ (c : Thread nD τ) none Set.univ) (Set.mem_univ _) () (O := owT c j) (W := W) (R := 0) (m := 0) (T := ∅)
      (by rw [Nat.zero_add, expect_send]; exact hN)) $$ [HO Hat Hc]
  · isplitr; · iapply (inv_at V K (c, .inr (.inl (.inl t)))); iexact HR
    isplitl [Hc]; · rw [hN]; iexact Hc
    isplitl [HO]; · iexact HO
    isplitr
    · iapply (mayWait_T c (.dma (sendS t)) j (by rw [lv_send]; omega)); iapply (lev_at V K); iexact HR
    iexact Hat
  iintro ⟨HO, Hat, -, Hpay⟩
  ihave Hp := (Entails.of_eq (rest_send V c t)) $$ Hpay
  imod (Rounds.cell_close ER (Rd V) (Set.mem_univ (K (c, .inr (.inl (.inl t))))) (fun h => h) (R := 0 + 1) (duties_later V (sendCell c t))) $$ [Hat] with Hz
  · isplitr; · iapply (inv_at V K (c, .inr (.inl (.inl t)))); iexact HR
    iexact Hat
  iapply Hk
  isplitl [Hz]; · iexact Hz
  isplitl [Hp]; · iexact Hp
  iexists _; iexact HO

/-- A wait on a receive semaphore: only later transfers are still owed. -/
theorem wp_waitR (t : T) {sp sp' : Space} {s : Shape} {e : EltTy} {src : Memref sig .tc sp s e} {dst : Memref sig .tc sp' s e} {sem : DmaSem sig}
    (hs : sem = recvS t) {hsrc : src.view.WordExact} {hd : dst.view.WordExact} {α : Type} {k : PUnit → Prog (TpuEff nD τ sig (Elt F) Λ₀ .tc) α} {Q : α → sProp 𝕄}
    (hN : dst.view.dmaCredit = amt t) (j : ℕ) (hj : ord t < j) :
    iprop(records V K ∗ rcvT c t ∗ Ow c (owT c j))
      ⊢ iprop(((semVal (recvCell c t) 0 ∗ recvPay V c t ∗ Ow c (owT c j)) -∗ wpc c (k ⟨⟩) Q)
          -∗ wpc c (.op (.waitDma2 sem src dst hsrc hd) k) Q) := by
  subst hs
  unfold rcvT Ow
  iintro ⟨#HR, ⟨Hat, Hc⟩, ⟨%W, HO⟩⟩ Hk
  iapply (Rounds.wp_wait_rest_token 𝒱₀ ER (Rd V) (c : Thread nD τ) none (κ := K (c, .inr (.inl (.inr t))))
      (wpE_waitDma2_eq 𝒱₀ (c : Thread nD τ) none Set.univ) (Set.mem_univ _) () (O := owT c j) (W := W) (R := 0) (m := 0) (T := ∅)
      (by rw [Nat.zero_add, expect_recv]; exact hN)) $$ [HO Hat Hc]
  · isplitr; · iapply (inv_at V K (c, .inr (.inl (.inr t)))); iexact HR
    isplitl [Hc]; · rw [hN]; iexact Hc
    isplitl [HO]; · iexact HO
    isplitr
    · iapply (mayWait_T c (.dma (recvS t)) j (by rw [lv_recv]; omega)); iapply (lev_at V K); iexact HR
    iexact Hat
  iintro ⟨HO, Hat, -, Hpay⟩
  ihave Hp := (Entails.of_eq (rest_recv V c t)) $$ Hpay
  imod (Rounds.cell_close ER (Rd V) (Set.mem_univ (K (c, .inr (.inl (.inr t))))) (fun h => h) (R := 0 + 1) (duties_later V (recvCell c t))) $$ [Hat] with Hz
  · isplitr; · iapply (inv_at V K (c, .inr (.inl (.inr t)))); iexact HR
    iexact Hat
  iapply Hk
  isplitl [Hz]; · iexact Hz
  isplitl [Hp]; · iexact Hp
  iexists _; iexact HO

end Cert.AttnProof

end
-- ==== Proof.Values.lean ====
/-
# What the kernel computes, as functions of the arguments

Over any float values `F`, in the program's own payloads: the projections, the heads, the two output-projection column halves,
and the three rounds of each half's reduce-scatter. Rows are named by halves: bit 2 of the device's number picks the half it
keeps of the left columns, then bit 1, then bit 0; of the right columns bits 1, 0, 2.
-/
module

public import proofs.«01_k».proof.Proof.Proto
public import Idealize.ShloMosaic.Lib.VecWindow

@[expose] public section

set_option maxRecDepth 16384

noncomputable section

namespace Cert.AttnProof

open Cert.KernelIdeal Cert.KernelIdeal.Gen

open Idealize.ShloMosaic
open Idealize.ShloMosaic.TcCoe
open Idealize.ShloMosaic.VecWindow

variable {F : FTy → Type} [FloatOps F]

/-- The arguments, by device. -/
structure Args (F : FTy → Type) where
  x : Dev nD → Vec F S1x512x1024 .f32
  wq : Dev nD → Vec F S1024x1024 .f32
  wo : Dev nD → Vec F S1024x1024 .f32
  wk : Dev nD → Vec F S1024x2048 .f32
  wv : Dev nD → Vec F S1024x2048 .f32

/-! ## Bits of a device's number -/

def bt0 (c : Dev nD) : Fin 2 := ⟨c.val % 2, by omega⟩
def bt1 (c : Dev nD) : Fin 2 := ⟨c.val / 2 % 2, by omega⟩
def bt2 (c : Dev nD) : Fin 2 := ⟨c.val / 4 % 2, by omega⟩
/-- The other half. -/
def fl (r : Fin 2) : Fin 2 := 1 - r

section
variable (A : Args F) (c : Dev nD)

/-! ## The projections -/

def Args.xf : Vec F S512x1024 .f32 := xSrc.view.read (Elt F) (A.x c)
def Args.kf : Vec F S1024x256 .f32 := (kSrc c).view.read (Elt F) (A.wk c)
def Args.vf : Vec F S1024x256 .f32 := (vSrc c).view.read (Elt F) (A.wv c)
/-- The scale of the scores. -/
abbrev scale : F .f32 := Scalar.ofBits .f32 0x3DB504F3#32
abbrev Args.xb : FVec F S512x1024 .bf16 := k0_pay37 (A.xf c)
abbrev Args.q : FVec F S512x1024 .bf16 := k0_pay39 (k0_pay38 (A.xf c) (A.wq c)) scale
abbrev Args.k : FVec F S512x256 .bf16 := k0_pay40 (A.xb c) (A.kf c)
abbrev Args.v0 : FVec F S512x256 .bf16 := k0_pay43 (A.xb c) (A.vf c)
abbrev Args.v1 : FVec F S512x256 .bf16 := k0_pay44 (A.xb c) (A.vf c)
abbrev Args.woL : Vec F S1024x512 .f32 := window (s := S1024x1024) (A.wo c) ![0, 0] S1024x512.size inb_S1024x1024_S1024x512_0_0
abbrev Args.woR : Vec F S1024x512 .f32 := window (s := S1024x1024) (A.wo c) ![0, 512] S1024x512.size inb_S1024x1024_S1024x512_0_512
abbrev Args.wl : FVec F S1024x512 .bf16 := k0_pay45 (A.woL c)
abbrev Args.wr : FVec F S1024x512 .bf16 := k0_pay46 (A.woR c)

/-! ## The heads -/

/-- One head on 256 rows: the weights' exponentials against values and ones, the quotient. -/
def hd (q : FVec F S256x128 .bf16) (k : FVec F S512x128 .bf16) (vo : FVec F S512x256 .bf16) : FVec F S256x128 .bf16 :=
  k0_pay6 vo q k (constant S256x512 .f32 0x00000000#32)

theorem slices_q (r : Fin 2) (h : Fin 8) : S512x1024.Slices ![256 * r.val, 128 * h.val] S256x128 := by revert r h; decide
theorem slices_k (g : Fin 2) : S512x256.Slices ![0, 128 * g.val] S512x128 := by revert g; decide

def qsl (q : FVec F S512x1024 .bf16) (r : Fin 2) (h : Fin 8) : FVec F S256x128 .bf16 :=
  extractStridedSlice S256x128 ![256 * r.val, 128 * h.val] q (slices_q r h)
def ksl (k : FVec F S512x256 .bf16) (g : Fin 2) : FVec F S512x128 .bf16 :=
  extractStridedSlice S512x128 ![0, 128 * g.val] k (slices_k g)

/-- Head `h` of rows half `r`; heads 0 to 3 use the first key-value head, 4 to 7 the second. -/
def headOf (q : FVec F S512x1024 .bf16) (k v0 v1 : FVec F S512x256 .bf16) (r : Fin 2) (h : Fin 8) : FVec F S256x128 .bf16 :=
  hd (qsl q r h) (ksl k (if h.val < 4 then 0 else 1)) (if h.val < 4 then v0 else v1)

theorem pay1_eq (q : FVec F S512x1024 .bf16) (k v0 v1 : FVec F S512x256 .bf16) : k0_pay1 q k v0 = headOf q k v0 v1 1 0 := rfl
theorem pay2_eq (q : FVec F S512x1024 .bf16) (k v0 v1 : FVec F S512x256 .bf16) : k0_pay2 q k v0 = headOf q k v0 v1 1 1 := rfl
theorem pay3_eq (q : FVec F S512x1024 .bf16) (k v0 v1 : FVec F S512x256 .bf16) : k0_pay3 q k v0 = headOf q k v0 v1 1 2 := rfl
theorem pay6_eq (q : FVec F S512x1024 .bf16) (k v0 v1 : FVec F S512x256 .bf16) :
    k0_pay6 v0 (k0_pay4 q) (k0_pay5 k) (constant S256x512 .f32 0x00000000#32) = headOf q k v0 v1 1 3 := rfl
theorem pay7_eq (q : FVec F S512x1024 .bf16) (k v0 v1 : FVec F S512x256 .bf16) : k0_pay7 q k v1 = headOf q k v0 v1 1 4 := rfl
theorem pay8_eq (q : FVec F S512x1024 .bf16) (k v0 v1 : FVec F S512x256 .bf16) : k0_pay8 q k v1 = headOf q k v0 v1 1 5 := rfl
theorem pay56_eq (q : FVec F S512x1024 .bf16) (k v0 v1 : FVec F S512x256 .bf16) : k0_pay56 v1 (k0_pay9 q k) = headOf q k v0 v1 1 6 := rfl
theorem pay57_eq (q : FVec F S512x1024 .bf16) (k v0 v1 : FVec F S512x256 .bf16) : k0_pay57 q k v1 = headOf q k v0 v1 1 7 := rfl
theorem pay10_eq (q : FVec F S512x1024 .bf16) (k v0 v1 : FVec F S512x256 .bf16) : k0_pay10 q k v0 = headOf q k v0 v1 0 0 := rfl
theorem pay11_eq (q : FVec F S512x1024 .bf16) (k v0 v1 : FVec F S512x256 .bf16) : k0_pay11 q k v0 = headOf q k v0 v1 0 1 := rfl
theorem pay12_eq (q : FVec F S512x1024 .bf16) (k v0 v1 : FVec F S512x256 .bf16) : k0_pay12 q k v0 = headOf q k v0 v1 0 2 := rfl
theorem pay15_eq (q : FVec F S512x1024 .bf16) (k v0 v1 : FVec F S512x256 .bf16) :
    k0_pay15 v0 (k0_pay13 q) (k0_pay14 k) (constant S256x512 .f32 0x00000000#32) = headOf q k v0 v1 0 3 := rfl
theorem pay16_eq (q : FVec F S512x1024 .bf16) (k v0 v1 : FVec F S512x256 .bf16) : k0_pay16 q k v1 = headOf q k v0 v1 0 4 := rfl
theorem pay17_eq (q : FVec F S512x1024 .bf16) (k v0 v1 : FVec F S512x256 .bf16) : k0_pay17 q k v1 = headOf q k v0 v1 0 5 := rfl
theorem pay50_eq (q : FVec F S512x1024 .bf16) (k v0 v1 : FVec F S512x256 .bf16) : k0_pay50 v1 (k0_pay18 q k) = headOf q k v0 v1 0 6 := rfl
theorem pay51_eq (q : FVec F S512x1024 .bf16) (k v0 v1 : FVec F S512x256 .bf16) : k0_pay51 q k v1 = headOf q k v0 v1 0 7 := rfl

def ix2 {n m : ℕ} (i : Fin n) (j : Fin m) : (⟨2, ![n, m]⟩ : Shape).Idx := fun a => match a with | 0 => i | 1 => j

/-- The heads side by side. -/
def attOf (q : FVec F S512x1024 .bf16) (k v0 v1 : FVec F S512x256 .bf16) (r : Fin 2) : FVec F S256x1024 .bf16 :=
  fun y => headOf q k v0 v1 r ⟨(y 1).val / 128, by have : (y 1).val < 1024 := (y 1).isLt; omega⟩
    (ix2 (n := 256) (m := 128) (y 0) ⟨(y 1).val % 128, Nat.mod_lt _ (by decide)⟩)

def Args.att (r : Fin 2) : FVec F S256x1024 .bf16 := attOf (A.q c) (A.k c) (A.v0 c) (A.v1 c) r

/-! ## The output projection's two column halves, by rows half -/

def Args.l0 (r : Fin 2) : FVec F S256x512 .f32 := k0_pay52 (A.wl c) (A.att c r)
def Args.r0 (r : Fin 2) : FVec F S256x512 .f32 := k0_pay58 (A.wr c) (A.att c r)

/-- Half `r` of 256 rows, and of 128. -/
def half (f : FVec F S256x512 .f32) (r : Fin 2) : FVec F S128x512 .f32 :=
  window (s := S256x512) f ![128 * r.val, 0] S128x512.size (by revert r; decide)
def quar (f : FVec F S128x512 .f32) (r : Fin 2) : FVec F S64x512 .f32 :=
  window (s := S128x512) f ![64 * r.val, 0] S64x512.size (by revert r; decide)

/-! ## The reduce-scatters: what is sent, what is kept and added -/

def Args.sa0 : FVec F S256x512 .bf16 := k0_pay53 (A.l0 c (fl (bt2 c)))
def Args.l1 : FVec F S256x512 .f32 := k0_pay65 (A.l0 c (bt2 c)) (A.sa0 (cx c 3))
def Args.sb0 : FVec F S256x512 .bf16 := k0_pay60 (A.r0 c (fl (bt1 c)))
def Args.r1 : FVec F S256x512 .f32 := k0_pay67 (A.r0 c (bt1 c)) (A.sb0 (cx c 2))
def Args.sa1 : FVec F S128x512 .bf16 := k0_pay66 (half (A.l1 c) (fl (bt1 c)))
def Args.l2 : FVec F S128x512 .f32 := k0_pay69 (half (A.l1 c) (bt1 c)) (A.sa1 (cx c 2))
def Args.sb1 : FVec F S128x512 .bf16 := k0_pay68 (half (A.r1 c) (fl (bt0 c)))
def Args.r2 : FVec F S128x512 .f32 := k0_pay71 (half (A.r1 c) (bt0 c)) (A.sb1 (cx c 0))
def Args.sa2 : FVec F S64x512 .bf16 := k0_pay70 (quar (A.l2 c) (fl (bt0 c)))
def Args.l3 : FVec F S64x512 .f32 := k0_pay74 (quar (A.l2 c) (bt0 c)) (k0_pay73 (A.sa2 (cx c 0)))
def Args.sb2 : FVec F S64x512 .bf16 := k0_pay72 (quar (A.r2 c) (fl (bt2 c)))
def Args.r3 : FVec F S64x512 .f32 := k0_pay76 (quar (A.r2 c) (bt2 c)) (A.sb2 (cx c 3))

end

/-! ## The whole result -/

/-- The row block of the right half which a device finishes, and the device which finishes a row block. -/
def posB (c : Dev nD) : Fin 8 := ⟨4 * (c.val / 2 % 2) + 2 * (c.val % 2) + c.val / 4 % 2, by omega⟩
def ownB' (b : Fin 8) : Dev nD := ⟨4 * (b.val % 2) + 2 * (b.val / 4 % 2) + b.val / 2 % 2, by show _ < 8; omega⟩
theorem ownB_posB (c : Dev nD) : ownB' (posB c) = c := by revert c; decide

def ix3 {l n m : ℕ} (h : Fin l) (i : Fin n) (j : Fin m) : (⟨3, ![l, n, m]⟩ : Shape).Idx :=
  fun a => match a with | 0 => h | 1 => i | 2 => j

def Args.out (A : Args F) : FVec F S1x512x1024 .bf16 := fun y =>
  have hy1 : (y 1).val < 512 := (y 1).isLt
  have hy2 : (y 2).val < 1024 := (y 2).isLt
  if h : (y 2).val < 512 then
    k0_pay75 (A.l3 ⟨(y 1).val / 64, by show _ < 8; omega⟩)
      (ix3 (l := 1) (n := 64) (m := 512) 0 ⟨(y 1).val % 64, Nat.mod_lt _ (by decide)⟩ ⟨(y 2).val, h⟩)
  else
    k0_pay77 (A.r3 (ownB' ⟨(y 1).val / 64, by omega⟩))
      (ix3 (l := 1) (n := 64) (m := 512) 0 ⟨(y 1).val % 64, Nat.mod_lt _ (by decide)⟩ ⟨(y 2).val - 512, by omega⟩)

/-- What the transfers carry. -/
def Args.vals (A : Args F) : Vals F where
  a0 := A.sa0
  b0 := A.sb0
  a1 := A.sa1
  b1 := A.sb1
  a2 := A.sa2
  b2 := A.sb2
  out := A.out
  x := A.x
  wq := A.wq
  wo := A.wo
  wk := A.wk
  wv := A.wv

end Cert.AttnProof

end
-- ==== Proof.Steps.lean ====
/-
# Loads and stores of whole buffers, by windows

A load of a rectangle of a buffer answers with the window of the contents, a store puts its payload over the window.
-/
module

public import proofs.«01_k».proof.Proof.Ops
public import proofs.«01_k».proof.Proof.Values
public import Idealize.ShloMosaic.Lib.Pipeline.Value

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable {c : Dev nD} {α : Type}

theorem put_full {β : Type} {s : Shape} (x : s.Idx → β) (off : Fin s.rank → ℕ) (inb : ∀ a, off a + s.size a ≤ s.size a) (w : s.Idx → β) :
    put x off s.size w = w := by
  funext y
  have h : ∀ a, off a ≤ (y a).val ∧ (y a).val < off a + s.size a := fun a => by
    have h1 := inb a; have h2 := (y a).isLt; constructor <;> omega
  refine (dif_pos h).trans (congrArg w (funext fun a => Fin.ext ?_))
  show (y a).val - off a = (y a).val
  have h1 := inb a; omega

theorem wpc_ret {a : α} {Q : α → sProp 𝕄} : Q a ⊢ wpc c (.ret a) Q := by
  show Q a ⊢ wp frame (wpE (defs₀ (F := F)) 𝒱₀ (c : Thread nD τ) none) Set.univ (Prog.ret a) Q
  rw [wp_ret]; iintro H; imodintro; iexact H

theorem wpc_bind {β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p.bind k) Q :=
  Entails.of_eq (wp_bind frame (wpE (defs₀ (F := F)) 𝒱₀ (c : Thread nD τ) none) Set.univ p k Q).symm

theorem wp_loadW {Q : α → sProp 𝕄} {cs : CoreSpace} {s : Shape} {e : EltTy} {m : Memref sig .tc cs s e}
    {off size : Fin s.rank → ℕ} {inb : ∀ a, off a + size a ≤ s.size a}
    {hl : m.view.LoadsAt (Rect.unit off size inb).toLoadRect}
    {k : ((Rect.unit off size inb).toLoadRect.shape.Idx → Elt F e) → Prog (TpuEff nD τ sig (Elt F) Λ₀ .tc) α}
    {f : Buf (Elt F) (m.view.loc (c : Thread nD τ))} (X : s.Idx → Elt F e) (hX : m.view.read (Elt F) f = X) :
    (m.view.loc (c : Thread nD τ) ↦{fullShare} f)
      ⊢ iprop(((m.view.loc (c : Thread nD τ) ↦{fullShare} f) -∗ wpc c (k (window X off size inb)) Q)
          -∗ wpc c (.op (.load m (Rect.unit off size inb).toLoadRect hl) k) Q) := by
  subst hX
  iintro H Hk
  iapply (wp_load 𝒱₀ (c : Thread nD τ) none Set.univ (m := m) (Finset.subset_univ _)) $$ H
  iintro H
  iapply Hk
  iexact H

theorem wp_storeW {Q : α → sProp 𝕄} {cs : CoreSpace} {s : Shape} {e : EltTy} {m : Memref sig .tc cs s e}
    {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α}
    {f : Buf (Elt F) (m.view.loc (c : Thread nD τ))} (g : Buf (Elt F) (m.view.loc (c : Thread nD τ)))
    (hg : (m.access (Rect.unit off size inb)).write (Elt F) f w Finset.univ = g) :
    (m.view.loc (c : Thread nD τ) ↦{fullShare} f)
      ⊢ iprop(((m.view.loc (c : Thread nD τ) ↦{fullShare} g) -∗ wpc c (k ⟨⟩) Q)
          -∗ wpc c (.op (.store m (Rect.unit off size inb) w Finset.univ hx hm) k) Q) := by
  subst hg
  exact wp_store 𝒱₀ (c : Thread nD τ) none Set.univ (m := m) (r := Rect.unit off size inb) (Mk := Finset.univ) (S := Finset.univ) (f := f) (Finset.subset_univ _)

omit [FloatOps F] in
theorem write_put (b : Ref sig .tc) (off size : Fin b.ty.shape.rank → Nat) (inb : ∀ a, off a + size a ≤ b.ty.shape.size a)
    (f : b.ty.Contents (Elt F)) (w : (Rect.unit off size inb).shape.Idx → Elt F b.ty.elt) :
    ((Memref.whole b).access (Rect.unit off size inb)).write (Elt F) f w Finset.univ = put (s := b.ty.shape) f off size w :=
  (View.write_whole_slice_unit b off size inb f w).trans (put_eq_updateSlice (s := b.ty.shape) f off size inb w).symm

/-- A load whose window is known. -/
theorem wp_loadV {Q : α → sProp 𝕄} {cs : CoreSpace} {s : Shape} {e : EltTy} {m : Memref sig .tc cs s e}
    {off size : Fin s.rank → ℕ} {inb : ∀ a, off a + size a ≤ s.size a}
    {hl : m.view.LoadsAt (Rect.unit off size inb).toLoadRect}
    {k : ((Rect.unit off size inb).toLoadRect.shape.Idx → Elt F e) → Prog (TpuEff nD τ sig (Elt F) Λ₀ .tc) α}
    {f : Buf (Elt F) (m.view.loc (c : Thread nD τ))} (X : s.Idx → Elt F e) (hX : m.view.read (Elt F) f = X)
    (W : (Rect.unit off size inb).shape.Idx → Elt F e) (hW : window X off size inb = W) :
    (m.view.loc (c : Thread nD τ) ↦{fullShare} f)
      ⊢ iprop(((m.view.loc (c : Thread nD τ) ↦{fullShare} f) -∗ wpc c (k W) Q)
          -∗ wpc c (.op (.load m (Rect.unit off size inb).toLoadRect hl) k) Q) := by
  subst hW
  exact wp_loadW X hX

/-- A load of the whole buffer answers with its contents. -/
theorem wp_loadF {Q : α → sProp 𝕄} {cs : CoreSpace} {s : Shape} {e : EltTy} {m : Memref sig .tc cs s e}
    {off : Fin s.rank → ℕ} {inb : ∀ a, off a + s.size a ≤ s.size a}
    {hl : m.view.LoadsAt (Rect.unit off s.size inb).toLoadRect}
    {k : ((Rect.unit off s.size inb).toLoadRect.shape.Idx → Elt F e) → Prog (TpuEff nD τ sig (Elt F) Λ₀ .tc) α}
    {f : Buf (Elt F) (m.view.loc (c : Thread nD τ))} (X : s.Idx → Elt F e) (hX : m.view.read (Elt F) f = X) :
    (m.view.loc (c : Thread nD τ) ↦{fullShare} f)
      ⊢ iprop(((m.view.loc (c : Thread nD τ) ↦{fullShare} f) -∗ wpc c (k X) Q)
          -∗ wpc c (.op (.load m (Rect.unit off s.size inb).toLoadRect hl) k) Q) := by
  subst hX
  have h := View.readAt_full (Val := Elt F) m.view f inb
  iintro H Hk
  iapply (wp_load 𝒱₀ (c : Thread nD τ) none Set.univ (m := m) (Finset.subset_univ _)) $$ H
  iintro H
  rw [h]
  iapply Hk
  iexact H

omit [FloatOps F] in
/-- A store of the whole buffer leaves the payload. -/
theorem write_full (b : Ref sig .tc) (off : Fin b.ty.shape.rank → Nat) (inb : ∀ a, off a + b.ty.shape.size a ≤ b.ty.shape.size a)
    (f : b.ty.Contents (Elt F)) (w : (Rect.unit off b.ty.shape.size inb).shape.Idx → Elt F b.ty.elt) :
    ((Memref.whole b).access (Rect.unit off b.ty.shape.size inb)).write (Elt F) f w Finset.univ = w :=
  (write_put b off b.ty.shape.size inb f w).trans (put_full (s := b.ty.shape) f off inb w)

/-- A piece of program run to an intermediate state, then the rest. -/
theorem wpc_seq {β : Type} (M : sProp 𝕄) {p : Prog (TpuEff nD τ sig (Elt F) Λ₀ .tc) PUnit} {k : PUnit → Prog (TpuEff nD τ sig (Elt F) Λ₀ .tc) β} {Q : β → sProp 𝕄} :
    iprop(wpc c p (fun _ => M)) ⊢ iprop((M -∗ wpc c (k ⟨⟩) Q) -∗ wpc c (p.bind k) Q) := by
  iintro H Hk
  iapply wpc_bind
  iapply (wp_wand frame (wpE (defs₀ (F := F)) 𝒱₀ (c : Thread nD τ) none) Set.univ) $$ H
  iintro %a HM
  iapply Hk
  iexact HM

theorem ctT : Scalar.cmpi .ne (Scalar.extui (1#1 : BitVec 1) : BitVec 32) 0#32 = 1#1 := by decide
theorem ctF : Scalar.cmpi .ne (Scalar.extui (0#1 : BitVec 1) : BitVec 32) 0#32 = 0#1 := by decide
theorem cxT : Scalar.xori (1#1 : BitVec 1) 1#1 = 0#1 := by decide
theorem cxF : Scalar.xori (0#1 : BitVec 1) 1#1 = 1#1 := by decide
theorem c01 : ((0#1 : BitVec 1) = 1#1) = False := by decide
theorem c11 : ((1#1 : BitVec 1) = 1#1) = True := by decide

theorem wpc_dite {P : Prop} [Decidable P] {β : Type} {R : sProp 𝕄} {t : P → Prog (TpuEff nD τ sig (Elt F) Λ₀ .tc) β} {e : ¬P → Prog (TpuEff nD τ sig (Elt F) Λ₀ .tc) β}
    {Q : β → sProp 𝕄} (h1 : ∀ h : P, R ⊢ wpc c (t h) Q) (h2 : ∀ h : ¬P, R ⊢ wpc c (e h) Q) : R ⊢ wpc c (dite P t e) Q := by
  by_cases h : P
  · rw [dif_pos h]; exact h1 h
  · rw [dif_neg h]; exact h2 h

end Cert.AttnProof

end
-- ==== Proof.Attn.lean ====
/-
# The attention of one half of the rows

The parts of the body which compute the heads, each as a change of the attention buffer.
-/
module

public import proofs.«01_k».proof.Proof.Steps

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

/-- Part 1 of the body at this launch's buffers. -/
abbrev pr1 := k0_part1 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 2 of the body at this launch's buffers. -/
abbrev pr2 := k0_part2 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 3 of the body at this launch's buffers. -/
abbrev pr3 := k0_part3 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 4 of the body at this launch's buffers. -/
abbrev pr4 := k0_part4 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 5 of the body at this launch's buffers. -/
abbrev pr5 := k0_part5 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 6 of the body at this launch's buffers. -/
abbrev pr6 := k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 7 of the body at this launch's buffers. -/
abbrev pr7 := k0_part7 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 8 of the body at this launch's buffers. -/
abbrev pr8 := k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 9 of the body at this launch's buffers. -/
abbrev pr9 := k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 10 of the body at this launch's buffers. -/
abbrev pr10 := k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 11 of the body at this launch's buffers. -/
abbrev pr11 := k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 12 of the body at this launch's buffers. -/
abbrev pr12 := k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 13 of the body at this launch's buffers. -/
abbrev pr13 := k0_part13 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 14 of the body at this launch's buffers. -/
abbrev pr14 := k0_part14 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 15 of the body at this launch's buffers. -/
abbrev pr15 := k0_part15 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 16 of the body at this launch's buffers. -/
abbrev pr16 := k0_part16 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 17 of the body at this launch's buffers. -/
abbrev pr17 := k0_part17 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 18 of the body at this launch's buffers. -/
abbrev pr18 := k0_part18 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 19 of the body at this launch's buffers. -/
abbrev pr19 := k0_part19 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 20 of the body at this launch's buffers. -/
abbrev pr20 := k0_part20 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 21 of the body at this launch's buffers. -/
abbrev pr21 := k0_part21 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 22 of the body at this launch's buffers. -/
abbrev pr22 := k0_part22 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 23 of the body at this launch's buffers. -/
abbrev pr23 := k0_part23 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 24 of the body at this launch's buffers. -/
abbrev pr24 := k0_part24 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 25 of the body at this launch's buffers. -/
abbrev pr25 := k0_part25 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 26 of the body at this launch's buffers. -/
abbrev pr26 := k0_part26 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 27 of the body at this launch's buffers. -/
abbrev pr27 := k0_part27 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 28 of the body at this launch's buffers. -/
abbrev pr28 := k0_part28 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 29 of the body at this launch's buffers. -/
abbrev pr29 := k0_part29 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 30 of the body at this launch's buffers. -/
abbrev pr30 := k0_part30 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23
/-- Part 31 of the body at this launch's buffers. -/
abbrev pr31 := k0_part31 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23

variable {c : Dev nD}

/-- The attention buffer with heads `h` of rows half `r` stored. -/
abbrev putHd (q : FVec F S512x1024 .bf16) (k v0 v1 : FVec F S512x256 .bf16) (r : Fin 2) (h : Fin 8) (f : Vec F S512x1024 .bf16) : Vec F S512x1024 .bf16 :=
  put (s := S512x1024) f ![256 * r.val, 128 * h.val] S256x128.size (headOf q k v0 v1 r h)

variable (q : FVec F S512x1024 .bf16) (k v0 v1 : FVec F S512x256 .bf16)

theorem wp_pr1 (f : Vec F S512x1024 .bf16) {Kt : _ → sProp 𝕄} :
    iprop(pts c cc0_scratch0 f ∗ (pts c cc0_scratch0 ((putHd q k v0 v1 1 2 (putHd q k v0 v1 1 1 (putHd q k v0 v1 1 0 f)))) -∗ Kt ⟨k0_pay4 q, k0_pay5 k, (constant S256x512 .f32 0x00000000#32)⟩))
      ⊢ wpc c (pr1 q k v0) Kt := by
  simp only [pr1, k0_part1_eq_skeleton]; unfold k0_part1_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr2 (f : Vec F S512x1024 .bf16) {Kt : _ → sProp 𝕄} :
    iprop(pts c cc0_scratch0 f ∗ (pts c cc0_scratch0 ((putHd q k v0 v1 1 5 (putHd q k v0 v1 1 4 (putHd q k v0 v1 1 3 f)))) -∗ Kt (k0_pay9 q k)))
      ⊢ wpc c (pr2 q k v0 v1 (k0_pay4 q) (k0_pay5 k) (constant S256x512 .f32 0x00000000#32)) Kt := by
  simp only [pr2, k0_part2_eq_skeleton]; unfold k0_part2_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr3 (f : Vec F S512x1024 .bf16) {Kt : _ → sProp 𝕄} :
    iprop(pts c cc0_scratch0 f ∗ (pts c cc0_scratch0 ((putHd q k v0 v1 0 2 (putHd q k v0 v1 0 1 (putHd q k v0 v1 0 0 f)))) -∗ Kt ⟨k0_pay13 q, k0_pay14 k, (constant S256x512 .f32 0x00000000#32)⟩))
      ⊢ wpc c (pr3 q k v0) Kt := by
  simp only [pr3, k0_part3_eq_skeleton]; unfold k0_part3_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr4 (f : Vec F S512x1024 .bf16) {Kt : _ → sProp 𝕄} :
    iprop(pts c cc0_scratch0 f ∗ (pts c cc0_scratch0 ((putHd q k v0 v1 0 5 (putHd q k v0 v1 0 4 (putHd q k v0 v1 0 3 f)))) -∗ Kt (k0_pay18 q k)))
      ⊢ wpc c (pr4 q k v0 v1 (k0_pay13 q) (k0_pay14 k) (constant S256x512 .f32 0x00000000#32)) Kt := by
  simp only [pr4, k0_part4_eq_skeleton]; unfold k0_part4_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr5 (f : Vec F S512x1024 .bf16) {Kt : _ → sProp 𝕄} :
    iprop(pts c cc0_scratch0 f ∗ (pts c cc0_scratch0 ((putHd q k v0 v1 0 2 (putHd q k v0 v1 0 1 (putHd q k v0 v1 0 0 f)))) -∗ Kt ⟨k0_pay22 q, k0_pay23 k, (constant S256x512 .f32 0x00000000#32)⟩))
      ⊢ wpc c (pr5 q k v0) Kt := by
  simp only [pr5, k0_part5_eq_skeleton]; unfold k0_part5_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr6 (f : Vec F S512x1024 .bf16) {Kt : _ → sProp 𝕄} :
    iprop(pts c cc0_scratch0 f ∗ (pts c cc0_scratch0 ((putHd q k v0 v1 0 5 (putHd q k v0 v1 0 4 (putHd q k v0 v1 0 3 f)))) -∗ Kt (k0_pay27 q k)))
      ⊢ wpc c (pr6 q k v0 v1 (k0_pay22 q) (k0_pay23 k) (constant S256x512 .f32 0x00000000#32)) Kt := by
  simp only [pr6, k0_part6_eq_skeleton]; unfold k0_part6_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr7 (f : Vec F S512x1024 .bf16) {Kt : _ → sProp 𝕄} :
    iprop(pts c cc0_scratch0 f ∗ (pts c cc0_scratch0 ((putHd q k v0 v1 1 2 (putHd q k v0 v1 1 1 (putHd q k v0 v1 1 0 f)))) -∗ Kt ⟨k0_pay31 q, k0_pay32 k, (constant S256x512 .f32 0x00000000#32)⟩))
      ⊢ wpc c (pr7 q k v0) Kt := by
  simp only [pr7, k0_part7_eq_skeleton]; unfold k0_part7_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

theorem wp_pr8 (f : Vec F S512x1024 .bf16) {Kt : _ → sProp 𝕄} :
    iprop(pts c cc0_scratch0 f ∗ (pts c cc0_scratch0 ((putHd q k v0 v1 1 5 (putHd q k v0 v1 1 4 (putHd q k v0 v1 1 3 f)))) -∗ Kt (k0_pay36 q k)))
      ⊢ wpc c (pr8 q k v0 v1 (k0_pay31 q) (k0_pay32 k) (constant S256x512 .f32 0x00000000#32)) Kt := by
  simp only [pr8, k0_part8_eq_skeleton]; unfold k0_part8_skel
  simp only [Prog.lift, Prog.bind_op, Prog.bind_ret, Prog.pure_eq_ret]
  iintro ⟨Hf, Hk⟩
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply (wp_loadW (m := Memref.whole cc0_scratch0) _ rfl) $$ Hf; iintro Hf
  iapply (wp_storeW (m := Memref.whole cc0_scratch0) _ (write_put cc0_scratch0 _ _ _ _ _)) $$ Hf; iintro Hf
  iapply wpc_ret
  iapply Hk
  iexact Hf

end Cert.AttnProof

end
-- ==== Proof.Rows.lean ====
/-
# Which rows the buffers hold

The printed row offsets in closed form, and the windows of the attention buffer and of the accumulator which each step needs
and keeps.
-/
module

public import proofs.«01_k».proof.Proof.Attn

@[expose] public section

set_option maxRecDepth 16384

noncomputable section

namespace Cert.AttnProof

open Cert.KernelIdeal Cert.KernelIdeal.Gen

open Idealize.ShloMosaic
open Idealize.ShloMosaic.TcCoe
open Idealize.ShloMosaic.VecWindow

variable {F : FTy → Type} [FloatOps F]

/-! ## Offsets -/

/-- First rows of what is kept and sent in each round, left then right. -/
def kA1 (c : Dev nD) : ℕ := 256 * (bt2 c).val
def sA1 (c : Dev nD) : ℕ := 256 * (fl (bt2 c)).val
def kA2 (c : Dev nD) : ℕ := kA1 c + 128 * (bt1 c).val
def sA2 (c : Dev nD) : ℕ := kA1 c + 128 * (fl (bt1 c)).val
def kA3 (c : Dev nD) : ℕ := kA2 c + 64 * (bt0 c).val
def sA3 (c : Dev nD) : ℕ := kA2 c + 64 * (fl (bt0 c)).val
def kB1 (c : Dev nD) : ℕ := 256 * (bt1 c).val
def sB1 (c : Dev nD) : ℕ := 256 * (fl (bt1 c)).val
def kB2 (c : Dev nD) : ℕ := kB1 c + 128 * (bt0 c).val
def sB2 (c : Dev nD) : ℕ := kB1 c + 128 * (fl (bt0 c)).val
def kB3 (c : Dev nD) : ℕ := kB2 c + 64 * (bt2 c).val
def sB3 (c : Dev nD) : ℕ := kB2 c + 64 * (fl (bt2 c)).val

theorem off2_eq (c : Dev nD) : k0_off2 c = ![sA1 c, 0] := by revert c; decide
theorem off3_eq (c : Dev nD) : k0_off3 c = ![sB1 c, 512] := by revert c; decide
theorem off4_eq (c : Dev nD) : k0_off4 c = ![kA1 c, 0] := by revert c; decide
theorem off5_eq (c : Dev nD) : k0_off5 c = ![sA2 c, 0] := by revert c; decide
theorem off6_eq (c : Dev nD) : k0_off6 c = ![kB1 c, 512] := by revert c; decide
theorem off7_eq (c : Dev nD) : k0_off7 c = ![sB2 c, 512] := by revert c; decide
theorem off8_eq (c : Dev nD) : k0_off8 c = ![kA2 c, 0] := by revert c; decide
theorem off9_eq (c : Dev nD) : k0_off9 c = ![sA3 c, 0] := by revert c; decide
theorem off10_eq (c : Dev nD) : k0_off10 c = ![kB2 c, 512] := by revert c; decide
theorem off11_eq (c : Dev nD) : k0_off11 c = ![sB3 c, 512] := by revert c; decide
theorem off12_eq (c : Dev nD) : k0_off12 c = ![kA3 c, 0] := by revert c; decide
theorem off13_eq (c : Dev nD) : k0_off13 c = ![kA3 c, 0] := by revert c; decide
theorem off14_eq (c : Dev nD) : k0_off14 c = k0_off15 c := by revert c; decide
theorem off15_eq (c : Dev nD) : k0_off15 c = ![0, 64 * c.val, 0] := by revert c; decide
theorem off16_eq (c : Dev nD) : k0_off16 c = ![kB3 c, 512] := by revert c; decide
theorem off17_eq (c : Dev nD) : k0_off17 c = ![kB3 c, 512] := by revert c; decide
theorem off18_eq (c : Dev nD) : k0_off18 c = k0_off19 c := by revert c; decide
theorem off19_eq (c : Dev nD) : k0_off19 c = ![0, 64 * (posB c).val, 512] := by revert c; decide

/-! ## Windows of the accumulator -/

/-- The rows `o` to `o + n` of column half `h` of `f` are `X`. -/
def Blk (n : ℕ) (h : Fin 2) (o : ℕ) (X : FVec F ⟨2, ![n, 512]⟩ .f32) (f : Vec F S512x1024 .f32) : Prop :=
  ∀ inb, window (s := S512x1024) f ![o, 512 * h.val] ![n, 512] inb = X

omit [FloatOps F] in
theorem Blk.load {n : ℕ} {h : Fin 2} {o : ℕ} {X : FVec F ⟨2, ![n, 512]⟩ .f32} {f : Vec F S512x1024 .f32} (H : Blk n h o X f)
    {off : Fin S512x1024.rank → ℕ} (ho : off = ![o, 512 * h.val]) (inb) : window (s := S512x1024) f off ![n, 512] inb = X := by
  subst ho; exact H inb

omit [FloatOps F] in
theorem Blk.store {n : ℕ} {h : Fin 2} {o : ℕ} (X : FVec F ⟨2, ![n, 512]⟩ .f32) (f : Vec F S512x1024 .f32)
    {off : Fin S512x1024.rank → ℕ} (ho : off = ![o, 512 * h.val]) : Blk n h o X (put (s := S512x1024) f off ![n, 512] X) := by
  subst ho; intro inb; exact window_put_same (s := S512x1024) f _ _ inb X

omit [FloatOps F] in
/-- A store in the other column half keeps it. -/
theorem Blk.keep {n n' : ℕ} {h h' : Fin 2} {o o' : ℕ} {X : FVec F ⟨2, ![n, 512]⟩ .f32} {f : Vec F S512x1024 .f32} (H : Blk n h o X f) (hne : h ≠ h')
    {off : Fin S512x1024.rank → ℕ} (ho : off = ![o', 512 * h'.val]) (Y : FVec F ⟨2, ![n', 512]⟩ .f32) :
    Blk n h o X (put (s := S512x1024) f off ![n', 512] Y) := by
  subst ho; intro inb
  rw [← H inb]
  refine window_put_of_disjoint (s := S512x1024) f _ _ _ _ inb Y 1 ?_
  have h1 : h.val ≠ h'.val := fun e => hne (Fin.ext e)
  show 512 * h.val + 512 ≤ 512 * h'.val ∨ 512 * h'.val + 512 ≤ 512 * h.val
  omega

omit [FloatOps F] in
theorem window_sub {s : Shape} {β : Type} (f : s.Idx → β) (off size off' size' d : Fin s.rank → ℕ) (inb inb')
    (X : (Rect.unit off size inb).shape.Idx → β) (hX : window f off size inb = X) (hd : ∀ a, off' a = off a + d a) (hin : ∀ a, d a + size' a ≤ size a) :
    window f off' size' inb' = window (s := ⟨s.rank, size⟩) X d size' hin := by
  subst hX
  funext y
  refine congrArg f (funext fun a => Fin.ext ?_)
  show off' a + 1 * (y a).val = off a + 1 * (d a + 1 * (y a).val)
  have := hd a; omega

omit [FloatOps F] in
theorem Blk.half {h : Fin 2} {o : ℕ} {X : FVec F S256x512 .f32} {f : Vec F S512x1024 .f32} (H : Blk 256 h o X f) (ho : o + 256 ≤ 512) (r : Fin 2) :
    Blk 128 h (o + 128 * r.val) (half X r) f := by
  intro inb
  have i0 : ∀ a, (![o, 512 * h.val] : Fin S512x1024.rank → ℕ) a + (![256, 512] : Fin S512x1024.rank → ℕ) a ≤ S512x1024.size a := by
    intro a; fin_cases a
    · exact ho
    · show 512 * h.val + 512 ≤ 1024
      omega
  exact window_sub (s := S512x1024) f ![o, 512 * h.val] ![256, 512] ![o + 128 * r.val, 512 * h.val] ![128, 512] ![128 * r.val, 0] i0 inb X (H i0)
    (fun a => by fin_cases a <;> rfl) _

omit [FloatOps F] in
theorem Blk.quar {h : Fin 2} {o : ℕ} {X : FVec F S128x512 .f32} {f : Vec F S512x1024 .f32} (H : Blk 128 h o X f) (ho : o + 128 ≤ 512) (r : Fin 2) :
    Blk 64 h (o + 64 * r.val) (quar X r) f := by
  intro inb
  have i0 : ∀ a, (![o, 512 * h.val] : Fin S512x1024.rank → ℕ) a + (![128, 512] : Fin S512x1024.rank → ℕ) a ≤ S512x1024.size a := by
    intro a; fin_cases a
    · exact ho
    · show 512 * h.val + 512 ≤ 1024
      omega
  exact window_sub (s := S512x1024) f ![o, 512 * h.val] ![128, 512] ![o + 64 * r.val, 512 * h.val] ![64, 512] ![64 * r.val, 0] i0 inb X (H i0)
    (fun a => by fin_cases a <;> rfl) _

theorem kA1_le (c : Dev nD) : kA1 c + 256 ≤ 512 := by revert c; decide
theorem kB1_le (c : Dev nD) : kB1 c + 256 ≤ 512 := by revert c; decide
theorem kA2_le (c : Dev nD) : kA2 c + 128 ≤ 512 := by revert c; decide
theorem kB2_le (c : Dev nD) : kB2 c + 128 ≤ 512 := by revert c; decide

/-! ## Rows of the attention buffer -/

section
variable (q : FVec F S512x1024 .bf16) (k v0 v1 : FVec F S512x256 .bf16)

/-- The first `n` heads of rows half `r` are stored. -/
def Hds (r : Fin 2) (n : ℕ) (f : Vec F S512x1024 .bf16) : Prop :=
  ∀ h : Fin 8, h.val < n → ∀ inb, window (s := S512x1024) f ![256 * r.val, 128 * h.val] S256x128.size inb = headOf q k v0 v1 r h

variable {q k v0 v1}

theorem Hds.zero (r : Fin 2) (f : Vec F S512x1024 .bf16) : Hds q k v0 v1 r 0 f := fun h hn => absurd hn (Nat.not_lt_zero _)

theorem Hds.step {r : Fin 2} {f : Vec F S512x1024 .bf16} (h : Fin 8) (H : Hds q k v0 v1 r h.val f) :
    Hds q k v0 v1 r (h.val + 1) (putHd q k v0 v1 r h f) := by
  intro h' hn inb
  by_cases e : h' = h
  · subst e
    exact window_put_same (s := S512x1024) f _ _ inb _
  · have e' : h'.val < h.val := by
      have : h'.val ≠ h.val := fun x => e (Fin.ext x)
      omega
    rw [← H h' e' inb]
    refine window_put_of_disjoint (s := S512x1024) f _ _ _ _ inb _ 1 (Or.inl ?_)
    show 128 * h'.val + 128 ≤ 128 * h.val
    omega

/-- Eight heads are the rows. -/
theorem Hds.rows {r : Fin 2} {f : Vec F S512x1024 .bf16} (H : Hds q k v0 v1 r 8 f) (inb) :
    window (s := S512x1024) f ![256 * r.val, 0] S256x1024.size inb = attOf q k v0 v1 r := by
  funext y
  have hy0 : (y 0).val < 256 := (y 0).isLt
  have hy1 : (y 1).val < 1024 := (y 1).isLt
  unfold attOf
  have i0 : ∀ a, (![256 * r.val, 128 * ((y 1).val / 128)] : Fin S512x1024.rank → ℕ) a + S256x128.size a ≤ S512x1024.size a := by
    intro a; fin_cases a
    · show 256 * r.val + 256 ≤ 512
      omega
    · show 128 * ((y 1).val / 128) + 128 ≤ 1024
      omega
  have h1 : (y 1).val / 128 < 8 := by omega
  have := H ⟨(y 1).val / 128, h1⟩ h1 i0
  refine Eq.trans ?_ (congrFun this (ix2 (n := 256) (m := 128) (y 0) ⟨(y 1).val % 128, Nat.mod_lt _ (by decide)⟩))
  refine congrArg f (funext fun a => Fin.ext ?_)
  fin_cases a
  · rfl
  · show 0 + 1 * (y 1).val = 128 * ((y 1).val / 128) + 1 * ((y 1).val % 128)
    omega

/-- All heads of half `r` stored. -/
abbrev putHalf (q : FVec F S512x1024 .bf16) (k v0 v1 : FVec F S512x256 .bf16) (r : Fin 2) (f : Vec F S512x1024 .bf16) : Vec F S512x1024 .bf16 :=
  putHd q k v0 v1 r 7 (putHd q k v0 v1 r 6 (putHd q k v0 v1 r 5 (putHd q k v0 v1 r 4
    (putHd q k v0 v1 r 3 (putHd q k v0 v1 r 2 (putHd q k v0 v1 r 1 (putHd q k v0 v1 r 0 f)))))))

theorem Hds.all (r : Fin 2) (f : Vec F S512x1024 .bf16) : Hds q k v0 v1 r 8 (putHalf q k v0 v1 r f) :=
  .step 7 (.step 6 (.step 5 (.step 4 (.step 3 (.step 2 (.step 1 (.step 0 (.zero r f))))))))

end

/-- Rows half `r` of the attention buffer is done. -/
def Att (A : Args F) (c : Dev nD) (r : Fin 2) (f : Vec F S512x1024 .bf16) : Prop :=
  ∀ inb, window (s := S512x1024) f ![256 * r.val, 0] S256x1024.size inb = A.att c r

theorem Att.done (A : Args F) (c : Dev nD) (r : Fin 2) (f : Vec F S512x1024 .bf16) :
    Att A c r (putHalf (A.q c) (A.k c) (A.v0 c) (A.v1 c) r f) := fun inb => (Hds.all r f).rows inb

theorem Att.head {A : Args F} {c : Dev nD} {r r' : Fin 2} {f : Vec F S512x1024 .bf16} (H : Att A c r f) (hne : r ≠ r') (q k v0 v1) (h : Fin 8) :
    Att A c r (putHd q k v0 v1 r' h f) := by
  intro inb
  rw [← H inb]
  refine window_put_of_disjoint (s := S512x1024) f _ _ _ _ inb _ 0 ?_
  have h1 : r.val ≠ r'.val := fun e => hne (Fin.ext e)
  show 256 * r.val + 256 ≤ 256 * r'.val ∨ 256 * r'.val + 256 ≤ 256 * r.val
  omega

theorem Att.other {A : Args F} {c : Dev nD} {r r' : Fin 2} {f : Vec F S512x1024 .bf16} (H : Att A c r f) (hne : r ≠ r') (q k v0 v1) :
    Att A c r (putHalf q k v0 v1 r' f) :=
  (((((((H.head hne q k v0 v1 0).head hne q k v0 v1 1).head hne q k v0 v1 2).head hne q k v0 v1 3).head hne q k v0 v1 4).head hne q k v0 v1 5).head hne q k v0 v1 6).head hne q k v0 v1 7

end Cert.AttnProof

end
-- ==== Proof.Loads.lean ====
/-
# The first parts: local copies, the barrier's signals, the projections
-/
module

public import proofs.«01_k».proof.Proof.Rows

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable (A : Args F) (K : Dev nD × Ck → ℕ) {c : Dev nD}

/-- The device's number as the program computes it. -/
abbrev v2w (c : Dev nD) : BitVec 32 := Scalar.remsi (Scalar.divsi (Dev.word c) 1#32) 8#32
abbrev barArr : Sems sig S_ := SemArray.scalar (sig.barrier 0 rfl)

/-- The arguments' blocks as the local copies find them. -/
def argsIn (c : Dev nD) : sProp 𝕄 :=
  iprop(pts c main_arg0 (A.x c) ∗ pts c main_arg1 (A.wq c)
    ∗ (((c : Thread nD τ).loc main_arg3) ↦[(kSrc c).view.set]{fullShare} A.wk c)
    ∗ (((c : Thread nD τ).loc main_arg4) ↦[(vSrc c).view.set]{fullShare} A.wv c) ∗ pts c main_arg2 (A.wo c))

def dsts (c : Dev nD) : sProp 𝕄 :=
  iprop((∃ f, pts (F := F) c cc0_scratch1 f) ∗ (∃ f, pts (F := F) c cc0_scratch2 f) ∗ (∃ f, pts (F := F) c cc0_scratch3 f) ∗ (∃ f, pts (F := F) c cc0_scratch4 f) ∗ (∃ f, pts (F := F) c cc0_scratch5 f))

omit [FloatOps F] in
theorem xSrc_set : (xSrc.view.set : Finset _) = Finset.univ := by
  refine (View.set_reshape _ _).trans ?_
  refine (View.set_slice_whole main_arg0 _).trans ?_
  ext y
  simp only [Finset.mem_univ, iff_true]
  exact View.mem_set_unit_zero (S := S1x512x1024) (funext fun a => by fin_cases a <;> rfl) _ y

theorem cpay0 (A : Args F) (c : Dev nD) (f : Vec F S512x1024 .f32) :
    iprop(((Memref.whole cc0_scratch1 : Memref sig .tc .vmem S512x1024 .f32).view.loc (c : Thread nD τ) ↦[Finset.univ]{fullShare} ((Memref.whole cc0_scratch1 : Memref sig .tc .vmem S512x1024 .f32).view.write (Elt F) f (xSrc.view.read (Elt F) (A.x c)) Finset.univ))
      ∗ (xSrc.view.loc (c : Thread nD τ) ↦[Finset.univ]{fullShare} (A.x c : Buf (Elt F) (xSrc.view.loc (c : Thread nD τ))))) ⊢ loadPay A.vals c 0 := by
  have hw : (Memref.whole cc0_scratch1 : Memref sig .tc .vmem S512x1024 .f32).view.write (Elt F) f (xSrc.view.read (Elt F) (A.x c)) Finset.univ = (xSrc.view.read (Elt F) (A.x c) : Vec F S512x1024 .f32) :=
    View.write_whole_univ _ _ _
  rw [hw]
  exact .rfl

theorem cpay1 (A : Args F) (c : Dev nD) (f : Vec F S1024x1024 .f32) :
    iprop(((Memref.whole cc0_scratch2 : Memref sig .tc .vmem S1024x1024 .f32).view.loc (c : Thread nD τ) ↦[Finset.univ]{fullShare} ((Memref.whole cc0_scratch2 : Memref sig .tc .vmem S1024x1024 .f32).view.write (Elt F) f ((Memref.whole main_arg1 : Memref sig .tc .hbm S1024x1024 .f32).view.read (Elt F) (A.wq c)) Finset.univ))
      ∗ ((Memref.whole main_arg1 : Memref sig .tc .hbm S1024x1024 .f32).view.loc (c : Thread nD τ) ↦[Finset.univ]{fullShare} (A.wq c : Buf (Elt F) ((Memref.whole main_arg1 : Memref sig .tc .hbm S1024x1024 .f32).view.loc (c : Thread nD τ))))) ⊢ loadPay A.vals c 1 := by
  have hw : (Memref.whole cc0_scratch2 : Memref sig .tc .vmem S1024x1024 .f32).view.write (Elt F) f ((Memref.whole main_arg1 : Memref sig .tc .hbm S1024x1024 .f32).view.read (Elt F) (A.wq c)) Finset.univ = ((Memref.whole main_arg1 : Memref sig .tc .hbm S1024x1024 .f32).view.read (Elt F) (A.wq c) : Vec F S1024x1024 .f32) :=
    View.write_whole_univ _ _ _
  rw [hw]
  exact .rfl

theorem cpay2 (A : Args F) (c : Dev nD) (f : Vec F S1024x256 .f32) :
    iprop(((Memref.whole cc0_scratch3 : Memref sig .tc .vmem S1024x256 .f32).view.loc (c : Thread nD τ) ↦[Finset.univ]{fullShare} ((Memref.whole cc0_scratch3 : Memref sig .tc .vmem S1024x256 .f32).view.write (Elt F) f ((kSrc c).view.read (Elt F) (A.wk c)) Finset.univ))
      ∗ ((kSrc c).view.loc (c : Thread nD τ) ↦[(kSrc c).view.set]{fullShare} (A.wk c : Buf (Elt F) ((kSrc c).view.loc (c : Thread nD τ))))) ⊢ loadPay A.vals c 2 := by
  have hw : (Memref.whole cc0_scratch3 : Memref sig .tc .vmem S1024x256 .f32).view.write (Elt F) f ((kSrc c).view.read (Elt F) (A.wk c)) Finset.univ = ((kSrc c).view.read (Elt F) (A.wk c) : Vec F S1024x256 .f32) :=
    View.write_whole_univ _ _ _
  rw [hw]
  exact .rfl

theorem cpay3 (A : Args F) (c : Dev nD) (f : Vec F S1024x256 .f32) :
    iprop(((Memref.whole cc0_scratch4 : Memref sig .tc .vmem S1024x256 .f32).view.loc (c : Thread nD τ) ↦[Finset.univ]{fullShare} ((Memref.whole cc0_scratch4 : Memref sig .tc .vmem S1024x256 .f32).view.write (Elt F) f ((vSrc c).view.read (Elt F) (A.wv c)) Finset.univ))
      ∗ ((vSrc c).view.loc (c : Thread nD τ) ↦[(vSrc c).view.set]{fullShare} (A.wv c : Buf (Elt F) ((vSrc c).view.loc (c : Thread nD τ))))) ⊢ loadPay A.vals c 3 := by
  have hw : (Memref.whole cc0_scratch4 : Memref sig .tc .vmem S1024x256 .f32).view.write (Elt F) f ((vSrc c).view.read (Elt F) (A.wv c)) Finset.univ = ((vSrc c).view.read (Elt F) (A.wv c) : Vec F S1024x256 .f32) :=
    View.write_whole_univ _ _ _
  rw [hw]
  exact .rfl

theorem cpay4 (A : Args F) (c : Dev nD) (f : Vec F S1024x1024 .f32) :
    iprop(((Memref.whole cc0_scratch5 : Memref sig .tc .vmem S1024x1024 .f32).view.loc (c : Thread nD τ) ↦[Finset.univ]{fullShare} ((Memref.whole cc0_scratch5 : Memref sig .tc .vmem S1024x1024 .f32).view.write (Elt F) f ((Memref.whole main_arg2 : Memref sig .tc .hbm S1024x1024 .f32).view.read (Elt F) (A.wo c)) Finset.univ))
      ∗ ((Memref.whole main_arg2 : Memref sig .tc .hbm S1024x1024 .f32).view.loc (c : Thread nD τ) ↦[Finset.univ]{fullShare} (A.wo c : Buf (Elt F) ((Memref.whole main_arg2 : Memref sig .tc .hbm S1024x1024 .f32).view.loc (c : Thread nD τ))))) ⊢ loadPay A.vals c 4 := by
  have hw : (Memref.whole cc0_scratch5 : Memref sig .tc .vmem S1024x1024 .f32).view.write (Elt F) f ((Memref.whole main_arg2 : Memref sig .tc .hbm S1024x1024 .f32).view.read (Elt F) (A.wo c)) Finset.univ = ((Memref.whole main_arg2 : Memref sig .tc .hbm S1024x1024 .f32).view.read (Elt F) (A.wo c) : Vec F S1024x1024 .f32) :=
    View.write_whole_univ _ _ _
  rw [hw]
  exact .rfl

set_option maxHeartbeats 800000 in
theorem wp_pr9 {Kt : _ → sProp 𝕄} :
    iprop(records A.vals K ∗ Ow c (owT c 0 + owB c 0) ∗ (tokL c 0 ∗ tokL c 1 ∗ tokL c 2 ∗ tokL c 3 ∗ tokL c 4) ∗ argsIn A c ∗ dsts c
        ∗ (tokB c 0 ∗ barPay (F := F) (cx c 0) 0) ∗ (tokB c 1 ∗ barPay (F := F) (cx c 1) 1)
        ∗ (∀ w, ((midL c 0 ∗ midL c 1 ∗ midL c 2 ∗ midL c 3 ∗ midL c 4) ∗ Ow c (owT c 0 + owB c 2)) -∗ Kt ⟨c, v2w c, barArr, w, 1#32⟩))
      ⊢ wpc c (pr9 (F := F)) Kt := by
  simp only [pr9, k0_part9_eq_skeleton]; unfold k0_part9_skel
  simp only [semSignalWord, semWaitWord, Prog.lift, Prog.bind_op, Prog.bind_ret, Prog.pure_eq_ret, wp_deviceId]
  unfold argsIn dsts
  iintro ⟨#HR, HO, ⟨HL0, HL1, HL2, HL3, HL4⟩, ⟨Hx, Hq, Hk, Hv, Ho⟩, ⟨⟨%f1, H1⟩, ⟨%f2, H2⟩, ⟨%f3, H3⟩, ⟨%f4, H4⟩, ⟨%f5, H5⟩⟩, ⟨HB0, HP0⟩, ⟨HB1, HP1⟩, Hk'⟩
  iapply (wp_copy A.vals K (c := c) 0 (src := xSrc) (dst := Memref.whole cc0_scratch1) (q := fullShare) (fd := f1) rfl xSrc_set (View.set_whole _) rfl (cpay0 A c f1)) $$ [HL0 Hx H1]
  · isplitr; · iexact HR
    isplitl [HL0]; · iexact HL0
    isplitl [Hx] <;> iassumption
  iintro HL0
  iapply (wp_copy A.vals K (c := c) 1 (src := (Memref.whole main_arg1)) (dst := Memref.whole cc0_scratch2) (q := fullShare) (fd := f2) rfl (View.set_whole _) (View.set_whole _) rfl (cpay1 A c f2)) $$ [HL1 Hq H2]
  · isplitr; · iexact HR
    isplitl [HL1]; · iexact HL1
    isplitl [Hq] <;> iassumption
  iintro HL1
  iapply (wp_copy A.vals K (c := c) 2 (src := (kSrc c)) (dst := Memref.whole cc0_scratch3) (q := fullShare) (fd := f3) rfl rfl (View.set_whole _) rfl (cpay2 A c f3)) $$ [HL2 Hk H3]
  · isplitr; · iexact HR
    isplitl [HL2]; · iexact HL2
    isplitl [Hk] <;> iassumption
  iintro HL2
  iapply (wp_copy A.vals K (c := c) 3 (src := (vSrc c)) (dst := Memref.whole cc0_scratch4) (q := fullShare) (fd := f4) rfl rfl (View.set_whole _) rfl (cpay3 A c f4)) $$ [HL3 Hv H4]
  · isplitr; · iexact HR
    isplitl [HL3]; · iexact HL3
    isplitl [Hv] <;> iassumption
  iintro HL3
  iapply (wp_copy A.vals K (c := c) 4 (src := (Memref.whole main_arg2)) (dst := Memref.whole cc0_scratch5) (q := fullShare) (fd := f5) rfl (View.set_whole _) (View.set_whole _) rfl (cpay4 A c f5)) $$ [HL4 Ho H5]
  · isplitr; · iexact HR
    isplitl [HL4]; · iexact HL4
    isplitl [Ho] <;> iassumption
  iintro HL4
  iapply (wp_sig A.vals K (c := c) 0 _ (dev1_eq c) rfl rfl) $$ [HO HB0 HP0]
  · isplitr; · iexact HR
    isplitl [HO]; · iexact HO
    isplitl [HB0] <;> iassumption
  iintro HO
  iapply (wp_sig A.vals K (c := c) 1 _ (dev2_eq c) rfl rfl) $$ [HO HB1 HP1]
  · isplitr; · iexact HR
    isplitl [HO]; · iexact HO
    isplitl [HB1] <;> iassumption
  iintro HO
  iapply wpc_ret
  iapply Hk'
  isplitl [HL0 HL1 HL2 HL3 HL4]
  · isplitl [HL0]; · iexact HL0
    isplitl [HL1]; · iexact HL1
    isplitl [HL2]; · iexact HL2
    isplitl [HL3] <;> iassumption
  iexact HO

/-- A local copy that has landed. -/
def doneL (c : Dev nD) (i : Fin 5) : sProp 𝕄 := iprop(semVal (loadCell c i) 0 ∗ loadPay A.vals c i)

theorem lp0 (c : Dev nD) : loadPay A.vals c 0 = iprop(pts c cc0_scratch1 (A.xf c) ∗ pts c main_arg0 (A.x c)) := rfl
theorem lp1 (c : Dev nD) : loadPay A.vals c 1 = iprop(pts c cc0_scratch2 (A.wq c) ∗ pts c main_arg1 (A.wq c)) := rfl
theorem lp2 (c : Dev nD) : loadPay A.vals c 2 = iprop(pts c cc0_scratch3 (A.kf c) ∗ (((c : Thread nD τ).loc main_arg3) ↦[(kSrc c).view.set]{fullShare} A.wk c)) := rfl
theorem lp3 (c : Dev nD) : loadPay A.vals c 3 = iprop(pts c cc0_scratch4 (A.vf c) ∗ (((c : Thread nD τ).loc main_arg4) ↦[(vSrc c).view.set]{fullShare} A.wv c)) := rfl
theorem lp4 (c : Dev nD) : loadPay A.vals c 4 = iprop(pts c cc0_scratch5 (A.wo c) ∗ pts c main_arg2 (A.wo c)) := rfl

set_option maxHeartbeats 800000 in
theorem wp_pr10 (w w' : BitVec 32) {Kt : _ → sProp 𝕄} :
    iprop(records A.vals K ∗ Ow c (owT c 0 + owB c 2) ∗ (midL c 0 ∗ midL c 1)
        ∗ (tokB c 2 ∗ barPay (F := F) (cx c 2) 2) ∗ (tokB c 3 ∗ barPay (F := F) (cx c 3) 3) ∗ (tokB c 4 ∗ barPay (F := F) (cx c 4) 4)
        ∗ (tokB c 5 ∗ barPay (F := F) (cx c 5) 5) ∗ (tokB c 6 ∗ barPay (F := F) (cx c 6) 6)
        ∗ ((doneL A c 0 ∗ doneL A c 1 ∗ Ow c (owT c 0 + owB c 7)) -∗ Kt ⟨A.xb c, k0_pay38 (A.xf c) (A.wq c), scale⟩))
      ⊢ wpc c (pr10 (F := F) c (v2w c) barArr w w') Kt := by
  simp only [pr10, k0_part10_eq_skeleton]; unfold k0_part10_skel
  simp only [semSignalWord, semWaitWord, Prog.lift, Prog.bind_op, Prog.bind_ret, Prog.pure_eq_ret]
  unfold doneL
  iintro ⟨#HR, HO, ⟨HL0, HL1⟩, ⟨HB2, HP2⟩, ⟨HB3, HP3⟩, ⟨HB4, HP4⟩, ⟨HB5, HP5⟩, ⟨HB6, HP6⟩, Hk'⟩
  iapply (wp_sig A.vals K (c := c) 2 _ (dev3_eq c) rfl rfl) $$ [HO HB2 HP2]
  · isplitr; · iexact HR
    isplitl [HO]; · iexact HO
    isplitl [HB2] <;> iassumption
  iintro HO
  iapply (wp_sig A.vals K (c := c) 3 _ (dev4_eq c) rfl rfl) $$ [HO HB3 HP3]
  · isplitr; · iexact HR
    isplitl [HO]; · iexact HO
    isplitl [HB3] <;> iassumption
  iintro HO
  iapply (wp_sig A.vals K (c := c) 4 _ (dev5_eq c) rfl rfl) $$ [HO HB4 HP4]
  · isplitr; · iexact HR
    isplitl [HO]; · iexact HO
    isplitl [HB4] <;> iassumption
  iintro HO
  iapply (wp_sig A.vals K (c := c) 5 _ (dev6_eq c) rfl rfl) $$ [HO HB5 HP5]
  · isplitr; · iexact HR
    isplitl [HO]; · iexact HO
    isplitl [HB5] <;> iassumption
  iintro HO
  iapply (wp_sig A.vals K (c := c) 6 _ (dev7_eq c) rfl rfl) $$ [HO HB6 HP6]
  · isplitr; · iexact HR
    isplitl [HO]; · iexact HO
    isplitl [HB6] <;> iassumption
  iintro HO
  iapply (wp_waitL A.vals K (c := c) 0 rfl rfl 0 7) $$ [HO HL0]
  · isplitr; · iexact HR
    isplitl [HL0]; · iexact HL0
    iexact HO
  iintro ⟨Hz0, Hp, HO⟩
  ihave Hp' := (Entails.of_eq (lp0 A c)) $$ Hp
  icases Hp' with ⟨Hs0, Ha0⟩
  iapply (wp_waitL A.vals K (c := c) 1 rfl rfl 0 7) $$ [HO HL1]
  · isplitr; · iexact HR
    isplitl [HL1]; · iexact HL1
    iexact HO
  iintro ⟨Hz1, Hp, HO⟩
  ihave Hp' := (Entails.of_eq (lp1 A c)) $$ Hp
  icases Hp' with ⟨Hs1, Ha1⟩
  iapply (wp_loadF (m := Memref.whole cc0_scratch1) (A.xf c) rfl) $$ Hs0; iintro Hs0
  iapply (wp_loadF (m := Memref.whole cc0_scratch2) (A.wq c) rfl) $$ Hs1; iintro Hs1
  iapply wpc_ret
  ispecialize Hk' $$ [Hz0 Hs0 Ha0 Hz1 Hs1 Ha1 HO]
  · isplitl [Hz0 Hs0 Ha0]
    · isplitl [Hz0]; · iexact Hz0
      rw [lp0]; isplitl [Hs0] <;> iassumption
    isplitl [Hz1 Hs1 Ha1]
    · isplitl [Hz1]; · iexact Hz1
      rw [lp1]; isplitl [Hs1] <;> iassumption
    iexact HO
  iexact Hk'

/-- The attention buffer and the accumulator with pure facts. -/
def bufs (c : Dev nD) (P : Vec F S512x1024 .bf16 → Vec F S512x1024 .f32 → Prop) : sProp 𝕄 :=
  iprop(∃ f g, ⌜P f g⌝ ∗ pts c cc0_scratch0 f ∗ pts c cc0_scratch6 g)

/-- After the first conditional half: bit 2 clear, the second half's rows are done and projected. -/
def P11 (c : Dev nD) (f : Vec F S512x1024 .bf16) (g : Vec F S512x1024 .f32) : Prop :=
  bt2 c = 0 → Att A c 1 f ∧ Blk 256 0 256 (A.l0 c 1) g

abbrev v81w (c : Dev nD) : BitVec 1 := Scalar.cmpi .eq (Scalar.andi (v2w c) 4#32) 0#32
abbrev v83w (c : Dev nD) : BitVec 1 := Scalar.cmpi .eq (Scalar.andi (v2w c) 2#32) 0#32
theorem v81w_eq (c : Dev nD) : v81w c = if bt2 c = 0 then 1#1 else 0#1 := by revert c; decide
theorem v83w_eq (c : Dev nD) : v83w c = if bt1 c = 0 then 1#1 else 0#1 := by revert c; decide

theorem acc_pay49 (c : Dev nD) : k0_pay49 (A.woL c) (A.att c 1) = A.l0 c 1 := rfl

set_option maxHeartbeats 1600000 in
theorem wp_pr11 {Kt : _ → sProp 𝕄} :
    iprop(records A.vals K ∗ Ow c (owT c 0 + owB c 7) ∗ (midL c 2 ∗ midL c 3 ∗ midL c 4)
        ∗ bufs c (fun _ _ => True)
        ∗ (∀ v81 v83, ⌜(v81 = if bt2 c = 0 then 1#1 else 0#1) ∧ (v83 = if bt1 c = 0 then 1#1 else 0#1)⌝
            -∗ (doneL A c 2 ∗ doneL A c 3 ∗ doneL A c 4 ∗ Ow c (owT c 0 + owB c 7) ∗ bufs c (P11 A c))
            -∗ Kt ⟨A.q c, A.k c, A.v0 c, A.v1 c, A.wl c, A.wr c, v81, v83, 1#1⟩))
      ⊢ wpc c (pr11 (F := F) c (v2w c) (A.xb c) (k0_pay38 (A.xf c) (A.wq c)) scale) Kt := by
  simp only [pr11, k0_part11_eq_skeleton]; unfold k0_part11_skel
  unfold doneL bufs
  dsimp only
  have hv1 := v81w_eq c
  have hv3 := v83w_eq c
  unfold v81w at hv1
  unfold v83w at hv3
  generalize ha : (Scalar.cmpi .eq (Scalar.andi (v2w c) 4#32) 0#32) = a at hv1 ⊢
  generalize hb : (Scalar.cmpi .eq (Scalar.andi (v2w c) 2#32) 0#32) = b at hv3 ⊢
  clear ha hb
  rcases Classical.em (bt2 c = 0) with hb2 | hb2
  · obtain rfl : a = 1#1 := hv1.trans (if_pos hb2)
    simp only [ctT, ctF, cxT, cxF, c01, c11, dite_true, dite_false]
    simp only [semSignalWord, semWaitWord, Prog.lift, Prog.bind_op, Prog.bind_ret, Prog.pure_eq_ret]
    iintro ⟨#HR, HO, ⟨HL2, HL3, HL4⟩, ⟨%f, %g, %hfg, Hf, Hg⟩, Hk'⟩
    iapply (wp_waitL A.vals K (c := c) 2 rfl rfl 0 7) $$ [HO HL2]
    · isplitr; · iexact HR
      isplitl [HL2]; · iexact HL2
      iexact HO
    iintro ⟨Hz2, Hp, HO⟩
    ihave Hp' := (Entails.of_eq (lp2 A c)) $$ Hp
    icases Hp' with ⟨Hs2, Ha2⟩
    iapply (wp_loadF (m := Memref.whole cc0_scratch3) (A.kf c) rfl) $$ Hs2; iintro Hs2
    iapply (wp_waitL A.vals K (c := c) 3 rfl rfl 0 7) $$ [HO HL3]
    · isplitr; · iexact HR
      isplitl [HL3]; · iexact HL3
      iexact HO
    iintro ⟨Hz3, Hp, HO⟩
    ihave Hp' := (Entails.of_eq (lp3 A c)) $$ Hp
    icases Hp' with ⟨Hs3, Ha3⟩
    iapply (wp_loadF (m := Memref.whole cc0_scratch4) (A.vf c) rfl) $$ Hs3; iintro Hs3
    iapply (wp_waitL A.vals K (c := c) 4 rfl rfl 0 7) $$ [HO HL4]
    · isplitr; · iexact HR
      isplitl [HL4]; · iexact HL4
      iexact HO
    iintro ⟨Hz4, Hp, HO⟩
    ihave Hp' := (Entails.of_eq (lp4 A c)) $$ Hp
    icases Hp' with ⟨Hs4, Ha4⟩
    iapply (wp_loadW (m := Memref.whole cc0_scratch5) (A.wo c) rfl) $$ Hs4; iintro Hs4
    iapply (wp_loadW (m := Memref.whole cc0_scratch5) (A.wo c) rfl) $$ Hs4; iintro Hs4
    ihave Hf := (Entails.of_eq rfl : pts c cc0_scratch0 f ⊢ pts c cc0_scratch0 f) $$ Hf
    iapply wpc_bind
    iapply (wp_pr1 (c := c) (A.q c) (A.k c) (A.v0 c) (A.v1 c) _)
    isplitl [Hf]; · iexact Hf
    iintro Hf
    iapply wpc_bind
    iapply (wp_pr2 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 1 6 (putHd (A.q c) (A.k c) (A.v0 c) (A.v1 c) 1 5 (putHd (A.q c) (A.k c) (A.v0 c) (A.v1 c) 1 4 (putHd (A.q c) (A.k c) (A.v0 c) (A.v1 c) 1 3 (putHd (A.q c) (A.k c) (A.v0 c) (A.v1 c) 1 2 (putHd (A.q c) (A.k c) (A.v0 c) (A.v1 c) 1 1 (putHd (A.q c) (A.k c) (A.v0 c) (A.v1 c) 1 0 f))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 1 7 (putHd (A.q c) (A.k c) (A.v0 c) (A.v1 c) 1 6 (putHd (A.q c) (A.k c) (A.v0 c) (A.v1 c) 1 5 (putHd (A.q c) (A.k c) (A.v0 c) (A.v1 c) 1 4 (putHd (A.q c) (A.k c) (A.v0 c) (A.v1 c) 1 3 (putHd (A.q c) (A.k c) (A.v0 c) (A.v1 c) 1 2 (putHd (A.q c) (A.k c) (A.v0 c) (A.v1 c) 1 1 (putHd (A.q c) (A.k c) (A.v0 c) (A.v1 c) 1 0 f)))))))) (write_put cc0_scratch0 _ _ _ _ _)) $$ Hf; iintro Hf
    iapply (wp_loadV (m := Memref.whole cc0_scratch0) (off := ![256, 0]) (size := S256x1024.size) (putHalf (A.q c) (A.k c) (A.v0 c) (A.v1 c) 1 f) rfl (A.att c 1) (Att.done A c 1 f _)) $$ Hf; iintro Hf
    iapply (wp_loadW (m := Memref.whole cc0_scratch6) _ rfl) $$ Hg; iintro Hg
    iapply (wp_storeW (m := Memref.whole cc0_scratch6) _ (write_put cc0_scratch6 _ _ _ _ _)) $$ Hg; iintro Hg
    iapply wpc_ret
    ispecialize Hk' $$ %1#1 %b [] [Hz2 Hs2 Ha2 Hz3 Hs3 Ha3 Hz4 Hs4 Ha4 HO Hf Hg]
    · ipureintro; exact ⟨hv1, hv3⟩
    · isplitl [Hz2 Hs2 Ha2]
      · isplitl [Hz2]; · iexact Hz2
        rw [lp2]; isplitl [Hs2] <;> iassumption
      isplitl [Hz3 Hs3 Ha3]
      · isplitl [Hz3]; · iexact Hz3
        rw [lp3]; isplitl [Hs3] <;> iassumption
      isplitl [Hz4 Hs4 Ha4]
      · isplitl [Hz4]; · iexact Hz4
        rw [lp4]; isplitl [Hs4] <;> iassumption
      isplitl [HO]; · iexact HO
      iexists _, _
      isplitr [Hf Hg]
      rotate_left
      · isplitl [Hf]; · iexact Hf
        iexact Hg
      · ipureintro; intro _; exact ⟨Att.done A c 1 f, Blk.store (h := 0) _ _ rfl⟩
    iexact Hk'
  · obtain rfl : a = 0#1 := hv1.trans (if_neg hb2)
    simp only [ctT, ctF, cxT, cxF, c01, c11, dite_true, dite_false]
    simp only [semSignalWord, semWaitWord, Prog.lift, Prog.bind_op, Prog.bind_ret, Prog.pure_eq_ret]
    iintro ⟨#HR, HO, ⟨HL2, HL3, HL4⟩, ⟨%f, %g, %hfg, Hf, Hg⟩, Hk'⟩
    iapply (wp_waitL A.vals K (c := c) 2 rfl rfl 0 7) $$ [HO HL2]
    · isplitr; · iexact HR
      isplitl [HL2]; · iexact HL2
      iexact HO
    iintro ⟨Hz2, Hp, HO⟩
    ihave Hp' := (Entails.of_eq (lp2 A c)) $$ Hp
    icases Hp' with ⟨Hs2, Ha2⟩
    iapply (wp_loadF (m := Memref.whole cc0_scratch3) (A.kf c) rfl) $$ Hs2; iintro Hs2
    iapply (wp_waitL A.vals K (c := c) 3 rfl rfl 0 7) $$ [HO HL3]
    · isplitr; · iexact HR
      isplitl [HL3]; · iexact HL3
      iexact HO
    iintro ⟨Hz3, Hp, HO⟩
    ihave Hp' := (Entails.of_eq (lp3 A c)) $$ Hp
    icases Hp' with ⟨Hs3, Ha3⟩
    iapply (wp_loadF (m := Memref.whole cc0_scratch4) (A.vf c) rfl) $$ Hs3; iintro Hs3
    iapply (wp_waitL A.vals K (c := c) 4 rfl rfl 0 7) $$ [HO HL4]
    · isplitr; · iexact HR
      isplitl [HL4]; · iexact HL4
      iexact HO
    iintro ⟨Hz4, Hp, HO⟩
    ihave Hp' := (Entails.of_eq (lp4 A c)) $$ Hp
    icases Hp' with ⟨Hs4, Ha4⟩
    iapply (wp_loadW (m := Memref.whole cc0_scratch5) (A.wo c) rfl) $$ Hs4; iintro Hs4
    iapply (wp_loadW (m := Memref.whole cc0_scratch5) (A.wo c) rfl) $$ Hs4; iintro Hs4
    iapply wpc_ret
    ispecialize Hk' $$ %0#1 %b [] [Hz2 Hs2 Ha2 Hz3 Hs3 Ha3 Hz4 Hs4 Ha4 HO Hf Hg]
    · ipureintro; exact ⟨hv1, hv3⟩
    · isplitl [Hz2 Hs2 Ha2]
      · isplitl [Hz2]; · iexact Hz2
        rw [lp2]; isplitl [Hs2] <;> iassumption
      isplitl [Hz3 Hs3 Ha3]
      · isplitl [Hz3]; · iexact Hz3
        rw [lp3]; isplitl [Hs3] <;> iassumption
      isplitl [Hz4 Hs4 Ha4]
      · isplitl [Hz4]; · iexact Hz4
        rw [lp4]; isplitl [Hs4] <;> iassumption
      isplitl [HO]; · iexact HO
      iexists f, g
      isplitr [Hf Hg]
      · ipureintro; intro h; exact absurd h hb2
      isplitl [Hf] <;> iassumption
    iexact Hk'

end Cert.AttnProof

end
-- ==== Proof.Rs1.lean ====
/-
# The barrier, and the first exchange of each column half
-/
module

public import proofs.«01_k».proof.Proof.Loads

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable (A : Args F) (K : Dev nD × Ck → ℕ) {c : Dev nD}

theorem fin2 (x : Fin 2) : x = 0 ∨ x = 1 := by revert x; decide

/-- The transfers from place `n` on, before they are issued, with the slots they land in. -/
def pend (c : Dev nD) (n : ℕ) : sProp 𝕄 :=
  bigSep (Finset.univ.filter fun t : T => n ≤ ord t) fun t => iprop(tokT (F := F) c t ∗ slot (F := F) (peer c t) t)

theorem pend_zero (c : Dev nD) : iprop((bigSep Finset.univ fun t : T => tokT (F := F) c t) ∗ bigSep Finset.univ fun t : T => slot (F := F) (peer c t) t) ⊢ pend (F := F) c 0 := by
  unfold pend
  rw [Finset.filter_true_of_mem fun t _ => Nat.zero_le _, bigSep_sep']

theorem pend_take (c : Dev nD) (t : T) (n : ℕ) (hn : ord t = n) : pend (F := F) c n ⊢ iprop((tokT c t ∗ slot (peer c t) t) ∗ pend c (n + 1)) := by
  subst hn
  unfold pend
  have h : (Finset.univ.filter fun t' : T => ord t ≤ ord t') = insert t (Finset.univ.filter fun t' : T => ord t + 1 ≤ ord t') := by
    ext t'
    simp only [Finset.mem_filter, Finset.mem_univ, true_and, Finset.mem_insert]
    constructor
    · intro h
      by_cases e : ord t' = ord t
      · exact .inl (ord_inj e)
      · right; omega
    · rintro (rfl | h)
      · exact le_rfl
      · omega
  rw [h, bigSep_insert (by simp)]
  exact .rfl

/-- A send into its pending slot. -/
theorem wp_sendP (t : T) (n : Dev nD) (hn : n = peer c t) {sp sp' : Space} {s : Shape} {e : EltTy} {src : Memref sig .tc sp s e} {dst : Memref sig .tc sp' s e}
    {hsc : dst.view.ref.isScScratch = false} {sS sR : DmaSem sig} (hS : sS = sendS t) (hR : sR = recvS t)
    {hsrc : src.view.WordExact} {hdst : dst.view.WordExact}
    {hsem : DmaTarget.Typed sp (SemLoc.dma sR) (.remote (Dev.tc n : Thread nD τ) dst (SemLoc.dma sS) hsc)}
    {α : Type} {k : PUnit → Prog (TpuEff nD τ sig (Elt F) Λ₀ .tc) α} {Qt : α → sProp 𝕄} {q : PosShare TreeShare}
    {fs : Buf (Elt F) (src.view.loc (c : Thread nD τ))}
    {Ss : Finset (Idx (src.view.loc (c : Thread nD τ)))} {Sd : Finset (Idx (dst.view.loc (peer c t : Thread nD τ)))} (hSs : src.view.set = Ss) (hSd : dst.view.set = Sd)
    (hN : dst.view.amount (SemLoc.dma sR) = amt t) (m : ℕ) (hm : ord t = m)
    (h1 : (src.view.loc (c : Thread nD τ) ↦[Ss]{q} fs) ⊢ sendPay A.vals c t)
    (hslot : slot (F := F) (peer c t) t ⊢ iprop(∃ fd, dst.view.loc (peer c t : Thread nD τ) ↦[Sd]{fullShare} fd))
    (h2 : ∀ fd, (dst.view.loc (peer c t : Thread nD τ) ↦[Sd]{fullShare} (dst.view.write (Elt F) fd (src.view.read (Elt F) fs) Finset.univ)) ⊢ recvPay A.vals (peer c t) t) :
    iprop(records A.vals K ∗ pend c m ∗ Ow c (owT c m) ∗ (src.view.loc (c : Thread nD τ) ↦[Ss]{q} fs))
      ⊢ iprop(((pend c (m + 1) ∗ sndT (F := F) c t ∗ rcvT c t ∗ Ow c (owT c (m + 1))) -∗ wpc c (k ⟨⟩) Qt)
          -∗ wpc c (.op (.enqueueDma src (.remote (Dev.tc n : Thread nD τ) dst (SemLoc.dma sS) hsc) (SemLoc.dma sR) hsrc hdst hsem) k) Qt) := by
  subst hn hm
  iintro ⟨#HR, HP, HO, Hs⟩ Hk
  ihave HP' := (pend_take c t _ rfl) $$ HP
  icases HP' with ⟨⟨Ht, Hd⟩, HP⟩
  ihave Hd' := hslot $$ Hd
  icases Hd' with ⟨%fd, Hd⟩
  iapply (wp_send A.vals K (c := c) t _ rfl hS hR hSs hSd hN h1 (h2 fd)) $$ [Ht HO Hs Hd]
  · isplitr; · iexact HR
    isplitl [Ht]; · iexact Ht
    isplitl [HO]; · iexact HO
    isplitl [Hs]; · iexact Hs
    iexact Hd
  iintro ⟨H1, H2, HO⟩
  iapply Hk
  isplitl [HP]; · iexact HP
  isplitl [H1]; · iexact H1
  isplitl [H2] <;> iassumption

/-- A buffer at some contents. -/
abbrev anyS (c : Dev nD) (b : Ref sig .tc) : sProp 𝕄 := iprop(∃ f, pts (F := F) c b f)
/-- A transfer under way. -/
abbrev midT (c : Dev nD) (t : T) : sProp 𝕄 := iprop(sndT (F := F) c t ∗ rcvT c t)

theorem land0 (c : Dev nD) (fd) :
    (((peer c (.inl 0) : Dev nD) : Thread nD τ).loc cc0_scratch13 ↦{fullShare} ((Memref.whole cc0_scratch13).view.write (Elt F) fd ((Memref.whole cc0_scratch7).view.read (Elt F) (A.sa0 c)) Finset.univ))
      ⊢ recvPay A.vals (peer c (.inl 0)) (.inl 0) := by
  rw [show (Memref.whole cc0_scratch13).view.write (Elt F) fd ((Memref.whole cc0_scratch7).view.read (Elt F) (A.sa0 c)) Finset.univ = A.sa0 c from
    View.write_whole_univ cc0_scratch13 fd _]
  show _ ⊢ pts (cx c 3) cc0_scratch13 (A.sa0 (cx (cx c 3) 3))
  rw [cx_cx]
  exact .rfl

theorem sp0 (c : Dev nD) : pts c cc0_scratch7 (A.sa0 c) ⊢ sendPay A.vals c (.inl 0) := .rfl
theorem sl0 (c : Dev nD) : slot (F := F) (peer c (.inl 0)) (.inl 0) ⊢ iprop(∃ fd, ((peer c (.inl 0) : Dev nD) : Thread nD τ).loc cc0_scratch13 ↦{fullShare} fd) := .rfl

theorem land1 (c : Dev nD) (fd) :
    (((peer c (.inl 1) : Dev nD) : Thread nD τ).loc cc0_scratch16 ↦{fullShare} ((Memref.whole cc0_scratch16).view.write (Elt F) fd ((Memref.whole cc0_scratch10).view.read (Elt F) (A.sb0 c)) Finset.univ))
      ⊢ recvPay A.vals (peer c (.inl 1)) (.inl 1) := by
  rw [show (Memref.whole cc0_scratch16).view.write (Elt F) fd ((Memref.whole cc0_scratch10).view.read (Elt F) (A.sb0 c)) Finset.univ = A.sb0 c from
    View.write_whole_univ cc0_scratch16 fd _]
  show _ ⊢ pts (cx c 2) cc0_scratch16 (A.sb0 (cx (cx c 2) 2))
  rw [cx_cx]
  exact .rfl

theorem sp1 (c : Dev nD) : pts c cc0_scratch10 (A.sb0 c) ⊢ sendPay A.vals c (.inl 1) := .rfl
theorem sl1 (c : Dev nD) : slot (F := F) (peer c (.inl 1)) (.inl 1) ⊢ iprop(∃ fd, ((peer c (.inl 1) : Dev nD) : Thread nD τ).loc cc0_scratch16 ↦{fullShare} fd) := .rfl

theorem land2 (c : Dev nD) (fd) :
    (((peer c (.inl 2) : Dev nD) : Thread nD τ).loc cc0_scratch14 ↦{fullShare} ((Memref.whole cc0_scratch14).view.write (Elt F) fd ((Memref.whole cc0_scratch8).view.read (Elt F) (A.sa1 c)) Finset.univ))
      ⊢ recvPay A.vals (peer c (.inl 2)) (.inl 2) := by
  rw [show (Memref.whole cc0_scratch14).view.write (Elt F) fd ((Memref.whole cc0_scratch8).view.read (Elt F) (A.sa1 c)) Finset.univ = A.sa1 c from
    View.write_whole_univ cc0_scratch14 fd _]
  show _ ⊢ pts (cx c 2) cc0_scratch14 (A.sa1 (cx (cx c 2) 2))
  rw [cx_cx]
  exact .rfl

theorem sp2 (c : Dev nD) : pts c cc0_scratch8 (A.sa1 c) ⊢ sendPay A.vals c (.inl 2) := .rfl
theorem sl2 (c : Dev nD) : slot (F := F) (peer c (.inl 2)) (.inl 2) ⊢ iprop(∃ fd, ((peer c (.inl 2) : Dev nD) : Thread nD τ).loc cc0_scratch14 ↦{fullShare} fd) := .rfl

theorem land3 (c : Dev nD) (fd) :
    (((peer c (.inl 3) : Dev nD) : Thread nD τ).loc cc0_scratch17 ↦{fullShare} ((Memref.whole cc0_scratch17).view.write (Elt F) fd ((Memref.whole cc0_scratch11).view.read (Elt F) (A.sb1 c)) Finset.univ))
      ⊢ recvPay A.vals (peer c (.inl 3)) (.inl 3) := by
  rw [show (Memref.whole cc0_scratch17).view.write (Elt F) fd ((Memref.whole cc0_scratch11).view.read (Elt F) (A.sb1 c)) Finset.univ = A.sb1 c from
    View.write_whole_univ cc0_scratch17 fd _]
  show _ ⊢ pts (cx c 0) cc0_scratch17 (A.sb1 (cx (cx c 0) 0))
  rw [cx_cx]
  exact .rfl

theorem sp3 (c : Dev nD) : pts c cc0_scratch11 (A.sb1 c) ⊢ sendPay A.vals c (.inl 3) := .rfl
theorem sl3 (c : Dev nD) : slot (F := F) (peer c (.inl 3)) (.inl 3) ⊢ iprop(∃ fd, ((peer c (.inl 3) : Dev nD) : Thread nD τ).loc cc0_scratch17 ↦{fullShare} fd) := .rfl

theorem land4 (c : Dev nD) (fd) :
    (((peer c (.inl 4) : Dev nD) : Thread nD τ).loc cc0_scratch15 ↦{fullShare} ((Memref.whole cc0_scratch15).view.write (Elt F) fd ((Memref.whole cc0_scratch9).view.read (Elt F) (A.sa2 c)) Finset.univ))
      ⊢ recvPay A.vals (peer c (.inl 4)) (.inl 4) := by
  rw [show (Memref.whole cc0_scratch15).view.write (Elt F) fd ((Memref.whole cc0_scratch9).view.read (Elt F) (A.sa2 c)) Finset.univ = A.sa2 c from
    View.write_whole_univ cc0_scratch15 fd _]
  show _ ⊢ pts (cx c 0) cc0_scratch15 (A.sa2 (cx (cx c 0) 0))
  rw [cx_cx]
  exact .rfl

theorem sp4 (c : Dev nD) : pts c cc0_scratch9 (A.sa2 c) ⊢ sendPay A.vals c (.inl 4) := .rfl
theorem sl4 (c : Dev nD) : slot (F := F) (peer c (.inl 4)) (.inl 4) ⊢ iprop(∃ fd, ((peer c (.inl 4) : Dev nD) : Thread nD τ).loc cc0_scratch15 ↦{fullShare} fd) := .rfl

theorem land5 (c : Dev nD) (fd) :
    (((peer c (.inl 5) : Dev nD) : Thread nD τ).loc cc0_scratch18 ↦{fullShare} ((Memref.whole cc0_scratch18).view.write (Elt F) fd ((Memref.whole cc0_scratch12).view.read (Elt F) (A.sb2 c)) Finset.univ))
      ⊢ recvPay A.vals (peer c (.inl 5)) (.inl 5) := by
  rw [show (Memref.whole cc0_scratch18).view.write (Elt F) fd ((Memref.whole cc0_scratch12).view.read (Elt F) (A.sb2 c)) Finset.univ = A.sb2 c from
    View.write_whole_univ cc0_scratch18 fd _]
  show _ ⊢ pts (cx c 3) cc0_scratch18 (A.sb2 (cx (cx c 3) 3))
  rw [cx_cx]
  exact .rfl

theorem sp5 (c : Dev nD) : pts c cc0_scratch12 (A.sb2 c) ⊢ sendPay A.vals c (.inl 5) := .rfl
theorem sl5 (c : Dev nD) : slot (F := F) (peer c (.inl 5)) (.inl 5) ⊢ iprop(∃ fd, ((peer c (.inl 5) : Dev nD) : Thread nD τ).loc cc0_scratch18 ↦{fullShare} fd) := .rfl

/-- After part 12: both halves of the attention rows, the right half's second rows when bit 1 is clear. -/
def P12 (c : Dev nD) (f : Vec F S512x1024 .bf16) (g : Vec F S512x1024 .f32) : Prop :=
  Att A c 0 f ∧ Att A c 1 f ∧ (bt1 c = 0 → Blk 256 1 256 (A.r0 c 1) g)

/-- After part 13: the kept half of each column half. -/
def P13 (c : Dev nD) (f : Vec F S512x1024 .bf16) (g : Vec F S512x1024 .f32) : Prop :=
  Blk 256 0 (kA1 c) (A.l0 c (bt2 c)) g ∧ Blk 256 1 (kB1 c) (A.r0 c (bt1 c)) g

set_option maxHeartbeats 4000000 in
theorem wp_pr12 (w : BitVec 32) (v81 v83 : BitVec 1) (hv1 : v81 = if bt2 c = 0 then 1#1 else 0#1) (hv3 : v83 = if bt1 c = 0 then 1#1 else 0#1) {Kt : _ → sProp 𝕄} :
    iprop(records A.vals K ∗ Ow c (owT c 0 + owB c 7) ∗ ownB c ∗ (bigSep Finset.univ fun t : T => tokT (F := F) c t) ∗ bufs c (P11 A c) ∗ anyS (F := F) c cc0_scratch7
        ∗ (∀ w1 b, ⌜b = if bt1 c = 0 then 0#1 else 1#1⌝
            -∗ (semVal (barCell c) 0 ∗ pend c 1 ∗ midT (F := F) c (.inl 0) ∗ Ow c (owT c 1) ∗ bufs c (P12 A c))
            -∗ Kt ⟨w1, b⟩))
      ⊢ wpc c (pr12 (F := F) c w barArr (A.q c) (A.k c) (A.v0 c) (A.v1 c) (A.wl c) (A.wr c) v81 v83 1#1) Kt := by
  simp only [pr12, k0_part12_eq_skeleton]; unfold k0_part12_skel
  unfold bufs
  rw [owB_end, add_zero]
  rcases fin2 (bt2 c) with e2 | e2 <;> rcases fin2 (bt1 c) with e1 | e1
  · obtain rfl : v81 = 1#1 := hv1.trans (if_pos e2)
    obtain rfl : v83 = 1#1 := hv3.trans (if_pos e1)
    simp only [ctT, ctF, cxT, cxF, c01, c11, dite_true, dite_false]
    simp only [semSignalWord, semWaitWord, Prog.lift, Prog.bind_op, Prog.bind_ret, Prog.pure_eq_ret]
    iintro ⟨#HR, HO, HB, HT, ⟨%f, %g, %hfg, Hf, Hg⟩, ⟨%f7, H7⟩, Hk'⟩
    obtain ⟨hA, hS⟩ := hfg e2
    have hB : Blk 256 0 (sA1 c) (A.l0 c (fl (bt2 c))) g := by rw [sA1, e2]; exact hS
    iapply (wp_barrier A.vals K (c := c) rfl rfl) $$ [HO HB]
    · isplitr; · iexact HR
      isplitl [HO]; · iexact HO
      iexact HB
    iintro ⟨HO, Hbar, Hsl⟩
    ihave HP := (pend_zero (F := F) c) $$ [HT Hsl]
    · isplitl [HT]; · iexact HT
      iexact Hsl
    iapply (wp_loadV (m := Memref.whole cc0_scratch6) (off := (k0_off2 c)) (size := S256x512.size) (g) rfl (A.l0 c (fl (bt2 c))) (Blk.load hB (off2_eq c) _)) $$ Hg; iintro Hg
    iapply (wp_loadF (m := Memref.whole cc0_scratch7) _ rfl) $$ H7; iintro H7
    iapply (wp_storeW (m := Memref.whole cc0_scratch7) (A.sa0 c) (write_full cc0_scratch7 _ _ _ _)) $$ H7; iintro H7
    iapply (wp_sendP A K (c := c) (.inl 0) _ (dev8_eq c) (src := Memref.whole cc0_scratch7) (dst := Memref.whole cc0_scratch13) (fs := A.sa0 c) (q := fullShare) rfl rfl (View.set_whole _) (View.set_whole _) rfl 0 rfl (sp0 A c) (sl0 c) (land0 A c)) $$ [HP HO H7]
    · isplitr; · iexact HR
      isplitl [HP]; · iexact HP
      isplitl [HO]; · iexact HO
      iexact H7
    iintro ⟨HP, Hsn0, Hrc0, HO⟩
    iapply wpc_bind
    iapply (wp_pr5 (c := c) (A.q c) (A.k c) (A.v0 c) (A.v1 c) _)
    isplitl [Hf]; · iexact Hf
    iintro Hf
    iapply wpc_bind
    iapply (wp_pr6 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 0 7 (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f)))))))) (write_put cc0_scratch0 _ _ _ _ _)) $$ Hf; iintro Hf
    have hA1 : Att A c 1 (putHalf (A.q c) (A.k c) (A.v0 c) (A.v1 c) 0 f) := hA.other (by decide) (A.q c) (A.k c) (A.v0 c) (A.v1 c)
    have hA0 : Att A c 0 (putHalf (A.q c) (A.k c) (A.v0 c) (A.v1 c) 0 f) := Att.done A c 0 _
    iapply (wp_loadV (m := Memref.whole cc0_scratch0) (off := ![256, 0]) (size := S256x1024.size) ((putHalf (A.q c) (A.k c) (A.v0 c) (A.v1 c) 0 f)) rfl (A.att c 1) (hA1 _)) $$ Hf; iintro Hf
    iapply (wp_loadW (m := Memref.whole cc0_scratch6) _ rfl) $$ Hg; iintro Hg
    iapply (wp_storeW (m := Memref.whole cc0_scratch6) _ (write_put cc0_scratch6 _ _ _ _ _)) $$ Hg; iintro Hg
    iapply wpc_ret
    ispecialize Hk' $$ %_ %0#1 [] [Hbar HP Hsn0 Hrc0 HO Hf Hg]
    · ipureintro; rw [e1]; decide
    · isplitl [Hbar]; · iexact Hbar
      isplitl [HP]; · iexact HP
      isplitl [Hsn0 Hrc0]
      · isplitl [Hsn0] <;> iassumption
      isplitl [HO]; · iexact HO
      iexists _, _
      isplitr [Hf Hg]
      rotate_left
      · isplitl [Hf]; · iexact Hf
        iexact Hg
      · ipureintro; exact ⟨hA0, hA1, fun _ => Blk.store (h := 1) _ _ rfl⟩
    iexact Hk'
  · obtain rfl : v81 = 1#1 := hv1.trans (if_pos e2)
    obtain rfl : v83 = 0#1 := hv3.trans (if_neg (by rw [e1]; decide))
    simp only [ctT, ctF, cxT, cxF, c01, c11, dite_true, dite_false]
    simp only [semSignalWord, semWaitWord, Prog.lift, Prog.bind_op, Prog.bind_ret, Prog.pure_eq_ret]
    iintro ⟨#HR, HO, HB, HT, ⟨%f, %g, %hfg, Hf, Hg⟩, ⟨%f7, H7⟩, Hk'⟩
    obtain ⟨hA, hS⟩ := hfg e2
    have hB : Blk 256 0 (sA1 c) (A.l0 c (fl (bt2 c))) g := by rw [sA1, e2]; exact hS
    iapply (wp_barrier A.vals K (c := c) rfl rfl) $$ [HO HB]
    · isplitr; · iexact HR
      isplitl [HO]; · iexact HO
      iexact HB
    iintro ⟨HO, Hbar, Hsl⟩
    ihave HP := (pend_zero (F := F) c) $$ [HT Hsl]
    · isplitl [HT]; · iexact HT
      iexact Hsl
    iapply (wp_loadV (m := Memref.whole cc0_scratch6) (off := (k0_off2 c)) (size := S256x512.size) (g) rfl (A.l0 c (fl (bt2 c))) (Blk.load hB (off2_eq c) _)) $$ Hg; iintro Hg
    iapply (wp_loadF (m := Memref.whole cc0_scratch7) _ rfl) $$ H7; iintro H7
    iapply (wp_storeW (m := Memref.whole cc0_scratch7) (A.sa0 c) (write_full cc0_scratch7 _ _ _ _)) $$ H7; iintro H7
    iapply (wp_sendP A K (c := c) (.inl 0) _ (dev8_eq c) (src := Memref.whole cc0_scratch7) (dst := Memref.whole cc0_scratch13) (fs := A.sa0 c) (q := fullShare) rfl rfl (View.set_whole _) (View.set_whole _) rfl 0 rfl (sp0 A c) (sl0 c) (land0 A c)) $$ [HP HO H7]
    · isplitr; · iexact HR
      isplitl [HP]; · iexact HP
      isplitl [HO]; · iexact HO
      iexact H7
    iintro ⟨HP, Hsn0, Hrc0, HO⟩
    iapply wpc_bind
    iapply (wp_pr5 (c := c) (A.q c) (A.k c) (A.v0 c) (A.v1 c) _)
    isplitl [Hf]; · iexact Hf
    iintro Hf
    iapply wpc_bind
    iapply (wp_pr6 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 0 7 (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f)))))))) (write_put cc0_scratch0 _ _ _ _ _)) $$ Hf; iintro Hf
    have hA1 : Att A c 1 (putHalf (A.q c) (A.k c) (A.v0 c) (A.v1 c) 0 f) := hA.other (by decide) (A.q c) (A.k c) (A.v0 c) (A.v1 c)
    have hA0 : Att A c 0 (putHalf (A.q c) (A.k c) (A.v0 c) (A.v1 c) 0 f) := Att.done A c 0 _
    iapply wpc_ret
    ispecialize Hk' $$ %_ %1#1 [] [Hbar HP Hsn0 Hrc0 HO Hf Hg]
    · ipureintro; rw [e1]; decide
    · isplitl [Hbar]; · iexact Hbar
      isplitl [HP]; · iexact HP
      isplitl [Hsn0 Hrc0]
      · isplitl [Hsn0] <;> iassumption
      isplitl [HO]; · iexact HO
      iexists _, _
      isplitr [Hf Hg]
      rotate_left
      · isplitl [Hf]; · iexact Hf
        iexact Hg
      · ipureintro; exact ⟨hA0, hA1, fun h => absurd (e1.symm.trans h) (by decide)⟩
    iexact Hk'
  · obtain rfl : v81 = 0#1 := hv1.trans (if_neg (by rw [e2]; decide))
    obtain rfl : v83 = 1#1 := hv3.trans (if_pos e1)
    simp only [ctT, ctF, cxT, cxF, c01, c11, dite_true, dite_false]
    simp only [semSignalWord, semWaitWord, Prog.lift, Prog.bind_op, Prog.bind_ret, Prog.pure_eq_ret]
    iintro ⟨#HR, HO, HB, HT, ⟨%f, %g, %hfg, Hf, Hg⟩, ⟨%f7, H7⟩, Hk'⟩
    iapply wpc_bind
    iapply (wp_pr3 (c := c) (A.q c) (A.k c) (A.v0 c) (A.v1 c) _)
    isplitl [Hf]; · iexact Hf
    iintro Hf
    iapply wpc_bind
    iapply (wp_pr4 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 0 7 (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f)))))))) (write_put cc0_scratch0 _ _ _ _ _)) $$ Hf; iintro Hf
    iapply (wp_loadV (m := Memref.whole cc0_scratch0) (off := ![0, 0]) (size := S256x1024.size) (putHalf (A.q c) (A.k c) (A.v0 c) (A.v1 c) 0 f) rfl (A.att c 0) (Att.done A c 0 f _)) $$ Hf; iintro Hf
    iapply (wp_loadW (m := Memref.whole cc0_scratch6) _ rfl) $$ Hg; iintro Hg
    iapply (wp_storeW (m := Memref.whole cc0_scratch6) (put (s := S512x1024) g ![0, 0] S256x512.size (A.l0 c 0)) (write_put cc0_scratch6 _ _ _ _ _)) $$ Hg; iintro Hg
    have hB : Blk 256 0 (sA1 c) (A.l0 c (fl (bt2 c))) (put (s := S512x1024) g ![0, 0] S256x512.size (A.l0 c 0)) := by rw [sA1, e2]; exact Blk.store (h := 0) _ _ rfl
    iapply (wp_barrier A.vals K (c := c) rfl rfl) $$ [HO HB]
    · isplitr; · iexact HR
      isplitl [HO]; · iexact HO
      iexact HB
    iintro ⟨HO, Hbar, Hsl⟩
    ihave HP := (pend_zero (F := F) c) $$ [HT Hsl]
    · isplitl [HT]; · iexact HT
      iexact Hsl
    iapply (wp_loadV (m := Memref.whole cc0_scratch6) (off := (k0_off2 c)) (size := S256x512.size) ((put (s := S512x1024) g ![0, 0] S256x512.size (A.l0 c 0))) rfl (A.l0 c (fl (bt2 c))) (Blk.load hB (off2_eq c) _)) $$ Hg; iintro Hg
    iapply (wp_loadF (m := Memref.whole cc0_scratch7) _ rfl) $$ H7; iintro H7
    iapply (wp_storeW (m := Memref.whole cc0_scratch7) (A.sa0 c) (write_full cc0_scratch7 _ _ _ _)) $$ H7; iintro H7
    iapply (wp_sendP A K (c := c) (.inl 0) _ (dev8_eq c) (src := Memref.whole cc0_scratch7) (dst := Memref.whole cc0_scratch13) (fs := A.sa0 c) (q := fullShare) rfl rfl (View.set_whole _) (View.set_whole _) rfl 0 rfl (sp0 A c) (sl0 c) (land0 A c)) $$ [HP HO H7]
    · isplitr; · iexact HR
      isplitl [HP]; · iexact HP
      isplitl [HO]; · iexact HO
      iexact H7
    iintro ⟨HP, Hsn0, Hrc0, HO⟩
    iapply wpc_bind
    iapply (wp_pr7 (c := c) (A.q c) (A.k c) (A.v0 c) (A.v1 c) _)
    isplitl [Hf]; · iexact Hf
    iintro Hf
    iapply wpc_bind
    iapply (wp_pr8 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 1 6 (putHd (A.q c) (A.k c) (A.v0 c) (A.v1 c) 1 5 (putHd (A.q c) (A.k c) (A.v0 c) (A.v1 c) 1 4 (putHd (A.q c) (A.k c) (A.v0 c) (A.v1 c) 1 3 (putHd (A.q c) (A.k c) (A.v0 c) (A.v1 c) 1 2 (putHd (A.q c) (A.k c) (A.v0 c) (A.v1 c) 1 1 (putHd (A.q c) (A.k c) (A.v0 c) (A.v1 c) 1 0 (putHalf (A.q c) (A.k c) (A.v0 c) (A.v1 c) 0 f)))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 1 7 (putHd (A.q c) (A.k c) (A.v0 c) (A.v1 c) 1 6 (putHd (A.q c) (A.k c) (A.v0 c) (A.v1 c) 1 5 (putHd (A.q c) (A.k c) (A.v0 c) (A.v1 c) 1 4 (putHd (A.q c) (A.k c) (A.v0 c) (A.v1 c) 1 3 (putHd (A.q c) (A.k c) (A.v0 c) (A.v1 c) 1 2 (putHd (A.q c) (A.k c) (A.v0 c) (A.v1 c) 1 1 (putHd (A.q c) (A.k c) (A.v0 c) (A.v1 c) 1 0 (putHalf (A.q c) (A.k c) (A.v0 c) (A.v1 c) 0 f))))))))) (write_put cc0_scratch0 _ _ _ _ _)) $$ Hf; iintro Hf
    have hA0 : Att A c 0 (putHalf (A.q c) (A.k c) (A.v0 c) (A.v1 c) 1 (putHalf (A.q c) (A.k c) (A.v0 c) (A.v1 c) 0 f)) := (Att.done A c 0 _).other (by decide) (A.q c) (A.k c) (A.v0 c) (A.v1 c)
    have hA1 : Att A c 1 (putHalf (A.q c) (A.k c) (A.v0 c) (A.v1 c) 1 (putHalf (A.q c) (A.k c) (A.v0 c) (A.v1 c) 0 f)) := Att.done A c 1 _
    iapply (wp_loadV (m := Memref.whole cc0_scratch0) (off := ![256, 0]) (size := S256x1024.size) ((putHalf (A.q c) (A.k c) (A.v0 c) (A.v1 c) 1 (putHalf (A.q c) (A.k c) (A.v0 c) (A.v1 c) 0 f))) rfl (A.att c 1) (hA1 _)) $$ Hf; iintro Hf
    iapply (wp_loadW (m := Memref.whole cc0_scratch6) _ rfl) $$ Hg; iintro Hg
    iapply (wp_storeW (m := Memref.whole cc0_scratch6) _ (write_put cc0_scratch6 _ _ _ _ _)) $$ Hg; iintro Hg
    iapply wpc_ret
    ispecialize Hk' $$ %_ %0#1 [] [Hbar HP Hsn0 Hrc0 HO Hf Hg]
    · ipureintro; rw [e1]; decide
    · isplitl [Hbar]; · iexact Hbar
      isplitl [HP]; · iexact HP
      isplitl [Hsn0 Hrc0]
      · isplitl [Hsn0] <;> iassumption
      isplitl [HO]; · iexact HO
      iexists _, _
      isplitr [Hf Hg]
      rotate_left
      · isplitl [Hf]; · iexact Hf
        iexact Hg
      · ipureintro; exact ⟨hA0, hA1, fun _ => Blk.store (h := 1) _ _ rfl⟩
    iexact Hk'
  · obtain rfl : v81 = 0#1 := hv1.trans (if_neg (by rw [e2]; decide))
    obtain rfl : v83 = 0#1 := hv3.trans (if_neg (by rw [e1]; decide))
    simp only [ctT, ctF, cxT, cxF, c01, c11, dite_true, dite_false]
    simp only [semSignalWord, semWaitWord, Prog.lift, Prog.bind_op, Prog.bind_ret, Prog.pure_eq_ret]
    iintro ⟨#HR, HO, HB, HT, ⟨%f, %g, %hfg, Hf, Hg⟩, ⟨%f7, H7⟩, Hk'⟩
    iapply wpc_bind
    iapply (wp_pr3 (c := c) (A.q c) (A.k c) (A.v0 c) (A.v1 c) _)
    isplitl [Hf]; · iexact Hf
    iintro Hf
    iapply wpc_bind
    iapply (wp_pr4 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 0 7 (putHd (A.q c) (A.k c) (A.v0 c) (A.v1 c) 0 6 (putHd (A.q c) (A.k c) (A.v0 c) (A.v1 c) 0 5 (putHd (A.q c) (A.k c) (A.v0 c) (A.v1 c) 0 4 (putHd (A.q c) (A.k c) (A.v0 c) (A.v1 c) 0 3 (putHd (A.q c) (A.k c) (A.v0 c) (A.v1 c) 0 2 (putHd (A.q c) (A.k c) (A.v0 c) (A.v1 c) 0 1 (putHd (A.q c) (A.k c) (A.v0 c) (A.v1 c) 0 0 f)))))))) (write_put cc0_scratch0 _ _ _ _ _)) $$ Hf; iintro Hf
    iapply (wp_loadV (m := Memref.whole cc0_scratch0) (off := ![0, 0]) (size := S256x1024.size) (putHalf (A.q c) (A.k c) (A.v0 c) (A.v1 c) 0 f) rfl (A.att c 0) (Att.done A c 0 f _)) $$ Hf; iintro Hf
    iapply (wp_loadW (m := Memref.whole cc0_scratch6) _ rfl) $$ Hg; iintro Hg
    iapply (wp_storeW (m := Memref.whole cc0_scratch6) (put (s := S512x1024) g ![0, 0] S256x512.size (A.l0 c 0)) (write_put cc0_scratch6 _ _ _ _ _)) $$ Hg; iintro Hg
    have hB : Blk 256 0 (sA1 c) (A.l0 c (fl (bt2 c))) (put (s := S512x1024) g ![0, 0] S256x512.size (A.l0 c 0)) := by rw [sA1, e2]; exact Blk.store (h := 0) _ _ rfl
    iapply (wp_barrier A.vals K (c := c) rfl rfl) $$ [HO HB]
    · isplitr; · iexact HR
      isplitl [HO]; · iexact HO
      iexact HB
    iintro ⟨HO, Hbar, Hsl⟩
    ihave HP := (pend_zero (F := F) c) $$ [HT Hsl]
    · isplitl [HT]; · iexact HT
      iexact Hsl
    iapply (wp_loadV (m := Memref.whole cc0_scratch6) (off := (k0_off2 c)) (size := S256x512.size) ((put (s := S512x1024) g ![0, 0] S256x512.size (A.l0 c 0))) rfl (A.l0 c (fl (bt2 c))) (Blk.load hB (off2_eq c) _)) $$ Hg; iintro Hg
    iapply (wp_loadF (m := Memref.whole cc0_scratch7) _ rfl) $$ H7; iintro H7
    iapply (wp_storeW (m := Memref.whole cc0_scratch7) (A.sa0 c) (write_full cc0_scratch7 _ _ _ _)) $$ H7; iintro H7
    iapply (wp_sendP A K (c := c) (.inl 0) _ (dev8_eq c) (src := Memref.whole cc0_scratch7) (dst := Memref.whole cc0_scratch13) (fs := A.sa0 c) (q := fullShare) rfl rfl (View.set_whole _) (View.set_whole _) rfl 0 rfl (sp0 A c) (sl0 c) (land0 A c)) $$ [HP HO H7]
    · isplitr; · iexact HR
      isplitl [HP]; · iexact HP
      isplitl [HO]; · iexact HO
      iexact H7
    iintro ⟨HP, Hsn0, Hrc0, HO⟩
    iapply wpc_bind
    iapply (wp_pr7 (c := c) (A.q c) (A.k c) (A.v0 c) (A.v1 c) _)
    isplitl [Hf]; · iexact Hf
    iintro Hf
    iapply wpc_bind
    iapply (wp_pr8 (c := c) (A.q c) (A.k c) (A.v0 c) (A.v1 c) _)
    isplitl [Hf]; · iexact Hf
    iintro Hf
    iapply (wp_loadW (m := Memref.whole cc0_scratch0) _ rfl) $$ Hf; iintro Hf
    iapply (wp_storeW (m := Memref.whole cc0_scratch0) (putHd (A.q c) (A.k c) (A.v0 c) (A.v1 c) 1 6 (putHd (A.q c) (A.k c) (A.v0 c) (A.v1 c) 1 5 (putHd (A.q c) (A.k c) (A.v0 c) (A.v1 c) 1 4 (putHd (A.q c) (A.k c) (A.v0 c) (A.v1 c) 1 3 (putHd (A.q c) (A.k c) (A.v0 c) (A.v1 c) 1 2 (putHd (A.q c) (A.k c) (A.v0 c) (A.v1 c) 1 1 (putHd (A.q c) (A.k c) (A.v0 c) (A.v1 c) 1 0 (putHalf (A.q c) (A.k c) (A.v0 c) (A.v1 c) 0 f)))))))) (write_put cc0_scratch0 _ _ _ _ _)) $$ Hf; iintro Hf
    iapply (wp_loadW (m := Memref.whole cc0_scratch0) _ rfl) $$ Hf; iintro Hf
    iapply (wp_storeW (m := Memref.whole cc0_scratch0) (putHd (A.q c) (A.k c) (A.v0 c) (A.v1 c) 1 7 (putHd (A.q c) (A.k c) (A.v0 c) (A.v1 c) 1 6 (putHd (A.q c) (A.k c) (A.v0 c) (A.v1 c) 1 5 (putHd (A.q c) (A.k c) (A.v0 c) (A.v1 c) 1 4 (putHd (A.q c) (A.k c) (A.v0 c) (A.v1 c) 1 3 (putHd (A.q c) (A.k c) (A.v0 c) (A.v1 c) 1 2 (putHd (A.q c) (A.k c) (A.v0 c) (A.v1 c) 1 1 (putHd (A.q c) (A.k c) (A.v0 c) (A.v1 c) 1 0 (putHalf (A.q c) (A.k c) (A.v0 c) (A.v1 c) 0 f))))))))) (write_put cc0_scratch0 _ _ _ _ _)) $$ Hf; iintro Hf
    have hA0 : Att A c 0 (putHalf (A.q c) (A.k c) (A.v0 c) (A.v1 c) 1 (putHalf (A.q c) (A.k c) (A.v0 c) (A.v1 c) 0 f)) := (Att.done A c 0 _).other (by decide) (A.q c) (A.k c) (A.v0 c) (A.v1 c)
    have hA1 : Att A c 1 (putHalf (A.q c) (A.k c) (A.v0 c) (A.v1 c) 1 (putHalf (A.q c) (A.k c) (A.v0 c) (A.v1 c) 0 f)) := Att.done A c 1 _
    iapply wpc_ret
    ispecialize Hk' $$ %_ %1#1 [] [Hbar HP Hsn0 Hrc0 HO Hf Hg]
    · ipureintro; rw [e1]; decide
    · isplitl [Hbar]; · iexact Hbar
      isplitl [HP]; · iexact HP
      isplitl [Hsn0 Hrc0]
      · isplitl [Hsn0] <;> iassumption
      isplitl [HO]; · iexact HO
      iexists _, _
      isplitr [Hf Hg]
      rotate_left
      · isplitl [Hf]; · iexact Hf
        iexact Hg
      · ipureintro; exact ⟨hA0, hA1, fun h => absurd (e1.symm.trans h) (by decide)⟩
    iexact Hk'

set_option maxHeartbeats 4000000 in
theorem wp_pr13 (w : BitVec 32) (v81 v83 v116 : BitVec 1) (hv1 : v81 = if bt2 c = 0 then 1#1 else 0#1) (hv3 : v83 = if bt1 c = 0 then 1#1 else 0#1)
    (hv4 : v116 = if bt1 c = 0 then 0#1 else 1#1) {Kt : _ → sProp 𝕄} :
    iprop(records A.vals K ∗ Ow c (owT c 1) ∗ pend c 1 ∗ bufs c (P12 A c) ∗ anyS (F := F) c cc0_scratch10
        ∗ (∀ w1 w2, (pend c 2 ∗ midT (F := F) c (.inl 1) ∗ Ow c (owT c 2) ∗ bufs c (P13 A c)) -∗ Kt ⟨w1, w2, 0#32, 256#32⟩))
      ⊢ wpc c (pr13 (F := F) c w (A.wl c) (A.wr c) v81 v83 v116) Kt := by
  simp only [pr13, k0_part13_eq_skeleton]; unfold k0_part13_skel
  unfold bufs
  rcases fin2 (bt2 c) with e2 | e2 <;> rcases fin2 (bt1 c) with e1 | e1
  · obtain rfl : v81 = 1#1 := hv1.trans (if_pos e2)
    obtain rfl : v83 = 1#1 := hv3.trans (if_pos e1)
    obtain rfl : v116 = 0#1 := hv4.trans (if_pos e1)
    simp only [ctT, ctF, cxT, cxF, c01, c11, dite_true, dite_false]
    simp only [semSignalWord, semWaitWord, Prog.lift, Prog.bind_op, Prog.bind_ret, Prog.pure_eq_ret]
    iintro ⟨#HR, HO, HP, ⟨%f, %g, %hfg, Hf, Hg⟩, ⟨%f7, H7⟩, Hk'⟩
    obtain ⟨hA0, hA1, hS⟩ := hfg
    have hB : Blk 256 1 (sB1 c) (A.r0 c (fl (bt1 c))) g := by rw [sB1, e1]; exact hS e1
    iapply (wp_loadV (m := Memref.whole cc0_scratch6) (off := (k0_off3 c)) (size := S256x512.size) (g) rfl (A.r0 c (fl (bt1 c))) (Blk.load hB (off3_eq c) _)) $$ Hg; iintro Hg
    iapply (wp_loadF (m := Memref.whole cc0_scratch10) _ rfl) $$ H7; iintro H7
    iapply (wp_storeW (m := Memref.whole cc0_scratch10) (A.sb0 c) (write_full cc0_scratch10 _ _ _ _)) $$ H7; iintro H7
    iapply (wp_sendP A K (c := c) (.inl 1) _ (dev9_eq c) (src := Memref.whole cc0_scratch10) (dst := Memref.whole cc0_scratch16) (fs := A.sb0 c) (q := fullShare) rfl rfl (View.set_whole _) (View.set_whole _) rfl 1 rfl (sp1 A c) (sl1 c) (land1 A c)) $$ [HP HO H7]
    · isplitr; · iexact HR
      isplitl [HP]; · iexact HP
      isplitl [HO]; · iexact HO
      iexact H7
    iintro ⟨HP, Hsn1, Hrc1, HO⟩
    iapply (wp_loadV (m := Memref.whole cc0_scratch0) (off := ![0, 0]) (size := S256x1024.size) (f) rfl (A.att c 0) (hA0 _)) $$ Hf; iintro Hf
    iapply (wp_loadW (m := Memref.whole cc0_scratch6) _ rfl) $$ Hg; iintro Hg
    iapply (wp_storeW (m := Memref.whole cc0_scratch6) (put (s := S512x1024) g ![0, 0] S256x512.size (A.l0 c 0)) (write_put cc0_scratch6 _ _ _ _ _)) $$ Hg; iintro Hg
    iapply (wp_loadV (m := Memref.whole cc0_scratch0) (off := ![0, 0]) (size := S256x1024.size) (f) rfl (A.att c 0) (hA0 _)) $$ Hf; iintro Hf
    iapply (wp_loadW (m := Memref.whole cc0_scratch6) _ rfl) $$ Hg; iintro Hg
    iapply (wp_storeW (m := Memref.whole cc0_scratch6) (put (s := S512x1024) (put (s := S512x1024) g ![0, 0] S256x512.size (A.l0 c 0)) ![0, 512] S256x512.size (A.r0 c 0)) (write_put cc0_scratch6 _ _ _ _ _)) $$ Hg; iintro Hg
    iapply wpc_ret
    ispecialize Hk' $$ %_ %_ [HP Hsn1 Hrc1 HO Hf Hg]
    rotate_left
    · iexact Hk'
    · isplitl [HP]; · iexact HP
      isplitl [Hsn1 Hrc1]
      · isplitl [Hsn1] <;> iassumption
      isplitl [HO]; · iexact HO
      iexists _, _
      isplitr [Hf Hg]
      rotate_left
      · isplitl [Hf]; · iexact Hf
        iexact Hg
      · ipureintro
        refine ⟨?_, ?_⟩
        · rw [kA1, e2]; exact (Blk.store (h := 0) _ _ rfl).keep (h' := 1) (by decide) rfl _
        · rw [kB1, e1]; exact Blk.store (h := 1) _ _ rfl
  · obtain rfl : v81 = 1#1 := hv1.trans (if_pos e2)
    obtain rfl : v83 = 0#1 := hv3.trans (if_neg (by rw [e1]; decide))
    obtain rfl : v116 = 1#1 := hv4.trans (if_neg (by rw [e1]; decide))
    simp only [ctT, ctF, cxT, cxF, c01, c11, dite_true, dite_false]
    simp only [semSignalWord, semWaitWord, Prog.lift, Prog.bind_op, Prog.bind_ret, Prog.pure_eq_ret]
    iintro ⟨#HR, HO, HP, ⟨%f, %g, %hfg, Hf, Hg⟩, ⟨%f7, H7⟩, Hk'⟩
    obtain ⟨hA0, hA1, hS⟩ := hfg
    iapply (wp_loadV (m := Memref.whole cc0_scratch0) (off := ![0, 0]) (size := S256x1024.size) (f) rfl (A.att c 0) (hA0 _)) $$ Hf; iintro Hf
    iapply (wp_loadW (m := Memref.whole cc0_scratch6) _ rfl) $$ Hg; iintro Hg
    iapply (wp_storeW (m := Memref.whole cc0_scratch6) (put (s := S512x1024) g ![0, 512] S256x512.size (A.r0 c 0)) (write_put cc0_scratch6 _ _ _ _ _)) $$ Hg; iintro Hg
    have hB : Blk 256 1 (sB1 c) (A.r0 c (fl (bt1 c))) (put (s := S512x1024) g ![0, 512] S256x512.size (A.r0 c 0)) := by rw [sB1, e1]; exact Blk.store (h := 1) _ _ rfl
    iapply (wp_loadV (m := Memref.whole cc0_scratch6) (off := (k0_off3 c)) (size := S256x512.size) ((put (s := S512x1024) g ![0, 512] S256x512.size (A.r0 c 0))) rfl (A.r0 c (fl (bt1 c))) (Blk.load hB (off3_eq c) _)) $$ Hg; iintro Hg
    iapply (wp_loadF (m := Memref.whole cc0_scratch10) _ rfl) $$ H7; iintro H7
    iapply (wp_storeW (m := Memref.whole cc0_scratch10) (A.sb0 c) (write_full cc0_scratch10 _ _ _ _)) $$ H7; iintro H7
    iapply (wp_sendP A K (c := c) (.inl 1) _ (dev9_eq c) (src := Memref.whole cc0_scratch10) (dst := Memref.whole cc0_scratch16) (fs := A.sb0 c) (q := fullShare) rfl rfl (View.set_whole _) (View.set_whole _) rfl 1 rfl (sp1 A c) (sl1 c) (land1 A c)) $$ [HP HO H7]
    · isplitr; · iexact HR
      isplitl [HP]; · iexact HP
      isplitl [HO]; · iexact HO
      iexact H7
    iintro ⟨HP, Hsn1, Hrc1, HO⟩
    iapply (wp_loadV (m := Memref.whole cc0_scratch0) (off := ![0, 0]) (size := S256x1024.size) (f) rfl (A.att c 0) (hA0 _)) $$ Hf; iintro Hf
    iapply (wp_loadW (m := Memref.whole cc0_scratch6) _ rfl) $$ Hg; iintro Hg
    iapply (wp_storeW (m := Memref.whole cc0_scratch6) (put (s := S512x1024) (put (s := S512x1024) g ![0, 512] S256x512.size (A.r0 c 0)) ![0, 0] S256x512.size (A.l0 c 0)) (write_put cc0_scratch6 _ _ _ _ _)) $$ Hg; iintro Hg
    iapply (wp_loadV (m := Memref.whole cc0_scratch0) (off := ![256, 0]) (size := S256x1024.size) (f) rfl (A.att c 1) (hA1 _)) $$ Hf; iintro Hf
    iapply (wp_loadW (m := Memref.whole cc0_scratch6) _ rfl) $$ Hg; iintro Hg
    iapply (wp_storeW (m := Memref.whole cc0_scratch6) (put (s := S512x1024) (put (s := S512x1024) (put (s := S512x1024) g ![0, 512] S256x512.size (A.r0 c 0)) ![0, 0] S256x512.size (A.l0 c 0)) ![256, 512] S256x512.size (A.r0 c 1)) (write_put cc0_scratch6 _ _ _ _ _)) $$ Hg; iintro Hg
    iapply wpc_ret
    ispecialize Hk' $$ %_ %_ [HP Hsn1 Hrc1 HO Hf Hg]
    rotate_left
    · iexact Hk'
    · isplitl [HP]; · iexact HP
      isplitl [Hsn1 Hrc1]
      · isplitl [Hsn1] <;> iassumption
      isplitl [HO]; · iexact HO
      iexists _, _
      isplitr [Hf Hg]
      rotate_left
      · isplitl [Hf]; · iexact Hf
        iexact Hg
      · ipureintro
        refine ⟨?_, ?_⟩
        · rw [kA1, e2]; exact (Blk.store (h := 0) _ _ rfl).keep (h' := 1) (by decide) rfl _
        · rw [kB1, e1]; exact Blk.store (h := 1) _ _ rfl
  · obtain rfl : v81 = 0#1 := hv1.trans (if_neg (by rw [e2]; decide))
    obtain rfl : v83 = 1#1 := hv3.trans (if_pos e1)
    obtain rfl : v116 = 0#1 := hv4.trans (if_pos e1)
    simp only [ctT, ctF, cxT, cxF, c01, c11, dite_true, dite_false]
    simp only [semSignalWord, semWaitWord, Prog.lift, Prog.bind_op, Prog.bind_ret, Prog.pure_eq_ret]
    iintro ⟨#HR, HO, HP, ⟨%f, %g, %hfg, Hf, Hg⟩, ⟨%f7, H7⟩, Hk'⟩
    obtain ⟨hA0, hA1, hS⟩ := hfg
    have hB : Blk 256 1 (sB1 c) (A.r0 c (fl (bt1 c))) g := by rw [sB1, e1]; exact hS e1
    iapply (wp_loadV (m := Memref.whole cc0_scratch6) (off := (k0_off3 c)) (size := S256x512.size) (g) rfl (A.r0 c (fl (bt1 c))) (Blk.load hB (off3_eq c) _)) $$ Hg; iintro Hg
    iapply (wp_loadF (m := Memref.whole cc0_scratch10) _ rfl) $$ H7; iintro H7
    iapply (wp_storeW (m := Memref.whole cc0_scratch10) (A.sb0 c) (write_full cc0_scratch10 _ _ _ _)) $$ H7; iintro H7
    iapply (wp_sendP A K (c := c) (.inl 1) _ (dev9_eq c) (src := Memref.whole cc0_scratch10) (dst := Memref.whole cc0_scratch16) (fs := A.sb0 c) (q := fullShare) rfl rfl (View.set_whole _) (View.set_whole _) rfl 1 rfl (sp1 A c) (sl1 c) (land1 A c)) $$ [HP HO H7]
    · isplitr; · iexact HR
      isplitl [HP]; · iexact HP
      isplitl [HO]; · iexact HO
      iexact H7
    iintro ⟨HP, Hsn1, Hrc1, HO⟩
    iapply (wp_loadV (m := Memref.whole cc0_scratch0) (off := ![256, 0]) (size := S256x1024.size) (f) rfl (A.att c 1) (hA1 _)) $$ Hf; iintro Hf
    iapply (wp_loadW (m := Memref.whole cc0_scratch6) _ rfl) $$ Hg; iintro Hg
    iapply (wp_storeW (m := Memref.whole cc0_scratch6) (put (s := S512x1024) g ![256, 0] S256x512.size (A.l0 c 1)) (write_put cc0_scratch6 _ _ _ _ _)) $$ Hg; iintro Hg
    iapply (wp_loadV (m := Memref.whole cc0_scratch0) (off := ![0, 0]) (size := S256x1024.size) (f) rfl (A.att c 0) (hA0 _)) $$ Hf; iintro Hf
    iapply (wp_loadW (m := Memref.whole cc0_scratch6) _ rfl) $$ Hg; iintro Hg
    iapply (wp_storeW (m := Memref.whole cc0_scratch6) (put (s := S512x1024) (put (s := S512x1024) g ![256, 0] S256x512.size (A.l0 c 1)) ![0, 512] S256x512.size (A.r0 c 0)) (write_put cc0_scratch6 _ _ _ _ _)) $$ Hg; iintro Hg
    iapply wpc_ret
    ispecialize Hk' $$ %_ %_ [HP Hsn1 Hrc1 HO Hf Hg]
    rotate_left
    · iexact Hk'
    · isplitl [HP]; · iexact HP
      isplitl [Hsn1 Hrc1]
      · isplitl [Hsn1] <;> iassumption
      isplitl [HO]; · iexact HO
      iexists _, _
      isplitr [Hf Hg]
      rotate_left
      · isplitl [Hf]; · iexact Hf
        iexact Hg
      · ipureintro
        refine ⟨?_, ?_⟩
        · rw [kA1, e2]; exact (Blk.store (h := 0) _ _ rfl).keep (h' := 1) (by decide) rfl _
        · rw [kB1, e1]; exact Blk.store (h := 1) _ _ rfl
  · obtain rfl : v81 = 0#1 := hv1.trans (if_neg (by rw [e2]; decide))
    obtain rfl : v83 = 0#1 := hv3.trans (if_neg (by rw [e1]; decide))
    obtain rfl : v116 = 1#1 := hv4.trans (if_neg (by rw [e1]; decide))
    simp only [ctT, ctF, cxT, cxF, c01, c11, dite_true, dite_false]
    simp only [semSignalWord, semWaitWord, Prog.lift, Prog.bind_op, Prog.bind_ret, Prog.pure_eq_ret]
    iintro ⟨#HR, HO, HP, ⟨%f, %g, %hfg, Hf, Hg⟩, ⟨%f7, H7⟩, Hk'⟩
    obtain ⟨hA0, hA1, hS⟩ := hfg
    iapply (wp_loadV (m := Memref.whole cc0_scratch0) (off := ![0, 0]) (size := S256x1024.size) (f) rfl (A.att c 0) (hA0 _)) $$ Hf; iintro Hf
    iapply (wp_loadW (m := Memref.whole cc0_scratch6) _ rfl) $$ Hg; iintro Hg
    iapply (wp_storeW (m := Memref.whole cc0_scratch6) (put (s := S512x1024) g ![0, 512] S256x512.size (A.r0 c 0)) (write_put cc0_scratch6 _ _ _ _ _)) $$ Hg; iintro Hg
    have hB : Blk 256 1 (sB1 c) (A.r0 c (fl (bt1 c))) (put (s := S512x1024) g ![0, 512] S256x512.size (A.r0 c 0)) := by rw [sB1, e1]; exact Blk.store (h := 1) _ _ rfl
    iapply (wp_loadV (m := Memref.whole cc0_scratch6) (off := (k0_off3 c)) (size := S256x512.size) ((put (s := S512x1024) g ![0, 512] S256x512.size (A.r0 c 0))) rfl (A.r0 c (fl (bt1 c))) (Blk.load hB (off3_eq c) _)) $$ Hg; iintro Hg
    iapply (wp_loadF (m := Memref.whole cc0_scratch10) _ rfl) $$ H7; iintro H7
    iapply (wp_storeW (m := Memref.whole cc0_scratch10) (A.sb0 c) (write_full cc0_scratch10 _ _ _ _)) $$ H7; iintro H7
    iapply (wp_sendP A K (c := c) (.inl 1) _ (dev9_eq c) (src := Memref.whole cc0_scratch10) (dst := Memref.whole cc0_scratch16) (fs := A.sb0 c) (q := fullShare) rfl rfl (View.set_whole _) (View.set_whole _) rfl 1 rfl (sp1 A c) (sl1 c) (land1 A c)) $$ [HP HO H7]
    · isplitr; · iexact HR
      isplitl [HP]; · iexact HP
      isplitl [HO]; · iexact HO
      iexact H7
    iintro ⟨HP, Hsn1, Hrc1, HO⟩
    iapply (wp_loadV (m := Memref.whole cc0_scratch0) (off := ![256, 0]) (size := S256x1024.size) (f) rfl (A.att c 1) (hA1 _)) $$ Hf; iintro Hf
    iapply (wp_loadW (m := Memref.whole cc0_scratch6) _ rfl) $$ Hg; iintro Hg
    iapply (wp_storeW (m := Memref.whole cc0_scratch6) (put (s := S512x1024) (put (s := S512x1024) g ![0, 512] S256x512.size (A.r0 c 0)) ![256, 0] S256x512.size (A.l0 c 1)) (write_put cc0_scratch6 _ _ _ _ _)) $$ Hg; iintro Hg
    iapply (wp_loadV (m := Memref.whole cc0_scratch0) (off := ![256, 0]) (size := S256x1024.size) (f) rfl (A.att c 1) (hA1 _)) $$ Hf; iintro Hf
    iapply (wp_loadW (m := Memref.whole cc0_scratch6) _ rfl) $$ Hg; iintro Hg
    iapply (wp_storeW (m := Memref.whole cc0_scratch6) (put (s := S512x1024) (put (s := S512x1024) (put (s := S512x1024) g ![0, 512] S256x512.size (A.r0 c 0)) ![256, 0] S256x512.size (A.l0 c 1)) ![256, 512] S256x512.size (A.r0 c 1)) (write_put cc0_scratch6 _ _ _ _ _)) $$ Hg; iintro Hg
    iapply wpc_ret
    ispecialize Hk' $$ %_ %_ [HP Hsn1 Hrc1 HO Hf Hg]
    rotate_left
    · iexact Hk'
    · isplitl [HP]; · iexact HP
      isplitl [Hsn1 Hrc1]
      · isplitl [Hsn1] <;> iassumption
      isplitl [HO]; · iexact HO
      iexists _, _
      isplitr [Hf Hg]
      rotate_left
      · isplitl [Hf]; · iexact Hf
        iexact Hg
      · ipureintro
        refine ⟨?_, ?_⟩
        · rw [kA1, e2]; exact (Blk.store (h := 0) _ _ rfl).keep (h' := 1) (by decide) rfl _
        · rw [kB1, e1]; exact Blk.store (h := 1) _ _ rfl

end Cert.AttnProof

end
-- ==== Proof.Rs2.lean ====
/-
# The reduce-scatters' later exchanges
-/
module

public import proofs.«01_k».proof.Proof.Rs1

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable (A : Args F) (K : Dev nD × Ck → ℕ) {c : Dev nD}

/-- A reduce-scatter exchange which is over. -/
def rsDone (c : Dev nD) (i : Fin 6) : sProp 𝕄 :=
  iprop(semVal (sendCell c (.inl i)) 0 ∗ semVal (recvCell c (.inl i)) 0 ∗ anyS (F := F) c (srcRef (.inl i)) ∗ anyS (F := F) c (dstRef (.inl i)))

theorem pS0 (c : Dev nD) : sendPay A.vals c (.inl 0) ⊢ pts c cc0_scratch7 (A.sa0 c) := .rfl
theorem pR0 (c : Dev nD) : recvPay A.vals c (.inl 0) ⊢ pts c cc0_scratch13 (A.sa0 (cx c 3)) := .rfl
theorem rD0 (c : Dev nD) (f) (g) : iprop(semVal (sendCell c (.inl 0)) 0 ∗ semVal (recvCell c (.inl 0)) 0 ∗ pts (F := F) c cc0_scratch7 f ∗ pts (F := F) c cc0_scratch13 g) ⊢ rsDone (F := F) c 0 := by
  unfold rsDone
  iintro ⟨H1, H2, H3, H4⟩
  isplitl [H1]; · iexact H1
  isplitl [H2]; · iexact H2
  isplitl [H3]; · iexists f; iexact H3
  iexists g; iexact H4

theorem pS1 (c : Dev nD) : sendPay A.vals c (.inl 1) ⊢ pts c cc0_scratch10 (A.sb0 c) := .rfl
theorem pR1 (c : Dev nD) : recvPay A.vals c (.inl 1) ⊢ pts c cc0_scratch16 (A.sb0 (cx c 2)) := .rfl
theorem rD1 (c : Dev nD) (f) (g) : iprop(semVal (sendCell c (.inl 1)) 0 ∗ semVal (recvCell c (.inl 1)) 0 ∗ pts (F := F) c cc0_scratch10 f ∗ pts (F := F) c cc0_scratch16 g) ⊢ rsDone (F := F) c 1 := by
  unfold rsDone
  iintro ⟨H1, H2, H3, H4⟩
  isplitl [H1]; · iexact H1
  isplitl [H2]; · iexact H2
  isplitl [H3]; · iexists f; iexact H3
  iexists g; iexact H4

theorem pS2 (c : Dev nD) : sendPay A.vals c (.inl 2) ⊢ pts c cc0_scratch8 (A.sa1 c) := .rfl
theorem pR2 (c : Dev nD) : recvPay A.vals c (.inl 2) ⊢ pts c cc0_scratch14 (A.sa1 (cx c 2)) := .rfl
theorem rD2 (c : Dev nD) (f) (g) : iprop(semVal (sendCell c (.inl 2)) 0 ∗ semVal (recvCell c (.inl 2)) 0 ∗ pts (F := F) c cc0_scratch8 f ∗ pts (F := F) c cc0_scratch14 g) ⊢ rsDone (F := F) c 2 := by
  unfold rsDone
  iintro ⟨H1, H2, H3, H4⟩
  isplitl [H1]; · iexact H1
  isplitl [H2]; · iexact H2
  isplitl [H3]; · iexists f; iexact H3
  iexists g; iexact H4

theorem pS3 (c : Dev nD) : sendPay A.vals c (.inl 3) ⊢ pts c cc0_scratch11 (A.sb1 c) := .rfl
theorem pR3 (c : Dev nD) : recvPay A.vals c (.inl 3) ⊢ pts c cc0_scratch17 (A.sb1 (cx c 0)) := .rfl
theorem rD3 (c : Dev nD) (f) (g) : iprop(semVal (sendCell c (.inl 3)) 0 ∗ semVal (recvCell c (.inl 3)) 0 ∗ pts (F := F) c cc0_scratch11 f ∗ pts (F := F) c cc0_scratch17 g) ⊢ rsDone (F := F) c 3 := by
  unfold rsDone
  iintro ⟨H1, H2, H3, H4⟩
  isplitl [H1]; · iexact H1
  isplitl [H2]; · iexact H2
  isplitl [H3]; · iexists f; iexact H3
  iexists g; iexact H4

theorem pS4 (c : Dev nD) : sendPay A.vals c (.inl 4) ⊢ pts c cc0_scratch9 (A.sa2 c) := .rfl
theorem pR4 (c : Dev nD) : recvPay A.vals c (.inl 4) ⊢ pts c cc0_scratch15 (A.sa2 (cx c 0)) := .rfl
theorem rD4 (c : Dev nD) (f) (g) : iprop(semVal (sendCell c (.inl 4)) 0 ∗ semVal (recvCell c (.inl 4)) 0 ∗ pts (F := F) c cc0_scratch9 f ∗ pts (F := F) c cc0_scratch15 g) ⊢ rsDone (F := F) c 4 := by
  unfold rsDone
  iintro ⟨H1, H2, H3, H4⟩
  isplitl [H1]; · iexact H1
  isplitl [H2]; · iexact H2
  isplitl [H3]; · iexists f; iexact H3
  iexists g; iexact H4

theorem pS5 (c : Dev nD) : sendPay A.vals c (.inl 5) ⊢ pts c cc0_scratch12 (A.sb2 c) := .rfl
theorem pR5 (c : Dev nD) : recvPay A.vals c (.inl 5) ⊢ pts c cc0_scratch18 (A.sb2 (cx c 3)) := .rfl
theorem rD5 (c : Dev nD) (f) (g) : iprop(semVal (sendCell c (.inl 5)) 0 ∗ semVal (recvCell c (.inl 5)) 0 ∗ pts (F := F) c cc0_scratch12 f ∗ pts (F := F) c cc0_scratch18 g) ⊢ rsDone (F := F) c 5 := by
  unfold rsDone
  iintro ⟨H1, H2, H3, H4⟩
  isplitl [H1]; · iexact H1
  isplitl [H2]; · iexact H2
  isplitl [H3]; · iexists f; iexact H3
  iexists g; iexact H4

def P14 (c : Dev nD) (f : Vec F S512x1024 .bf16) (g : Vec F S512x1024 .f32) : Prop :=
  Blk 128 0 (kA2 c) (half (A.l1 c) (bt1 c)) g ∧ Blk 256 1 (kB1 c) (A.r0 c (bt1 c)) g
def P15 (c : Dev nD) (f : Vec F S512x1024 .bf16) (g : Vec F S512x1024 .f32) : Prop :=
  Blk 128 0 (kA2 c) (half (A.l1 c) (bt1 c)) g ∧ Blk 128 1 (kB2 c) (half (A.r1 c) (bt0 c)) g
def P16 (c : Dev nD) (f : Vec F S512x1024 .bf16) (g : Vec F S512x1024 .f32) : Prop :=
  Blk 128 0 (kA2 c) (A.l2 c) g ∧ Blk 128 1 (kB2 c) (half (A.r1 c) (bt0 c)) g
def P17 (c : Dev nD) (f : Vec F S512x1024 .bf16) (g : Vec F S512x1024 .f32) : Prop :=
  Blk 64 0 (kA3 c) (quar (A.l2 c) (bt0 c)) g ∧ Blk 128 1 (kB2 c) (A.r2 c) g
def P18 (c : Dev nD) (f : Vec F S512x1024 .bf16) (g : Vec F S512x1024 .f32) : Prop :=
  Blk 64 0 (kA3 c) (quar (A.l2 c) (bt0 c)) g ∧ Blk 64 1 (kB3 c) (quar (A.r2 c) (bt2 c)) g

set_option maxHeartbeats 1600000 in
theorem wp_pr14 (w1 w2 : BitVec 32) (b : BitVec 1) (w3 w4 : BitVec 32) {Kt : _ → sProp 𝕄} :
    iprop(records A.vals K ∗ Ow c (owT c 2) ∗ midT (F := F) c (.inl 0) ∗ bufs c (P13 A c) ∗ anyS (F := F) c cc0_scratch8
        ∗ (∀ u1 u2, (rsDone (F := F) c 0 ∗ Ow c (owT c 2) ∗ pts c cc0_scratch8 (A.sa1 c) ∗ bufs c (P14 A c)) -∗ Kt ⟨u1, u2⟩))
      ⊢ wpc c (pr14 (F := F) c w1 w2 b w3 w4) Kt := by
  simp only [pr14, k0_part14_eq_skeleton]; unfold k0_part14_skel bufs
  simp only [semSignalWord, semWaitWord, Prog.lift, Prog.bind_op, Prog.bind_ret, Prog.pure_eq_ret]
  iintro ⟨#HR, HO, ⟨Hsn0, Hrc0⟩, ⟨%f, %g, %hfg, Hf, Hg⟩, ⟨%f7, H7⟩, Hk'⟩
  obtain ⟨hL, hR⟩ := hfg
  iapply (wp_waitS A.vals K (c := c) (.inl 0) (src := Memref.whole cc0_scratch13) (dst := Memref.whole cc0_scratch7) rfl rfl 2) $$ [HO Hsn0]
  · isplitr; · iexact HR
    isplitl [Hsn0]; · iexact Hsn0
    iexact HO
  iintro ⟨Hzs, Hps, HO⟩
  iapply (wp_waitR A.vals K (c := c) (.inl 0) (src := Memref.whole cc0_scratch7) (dst := Memref.whole cc0_scratch13) rfl rfl 2 (by decide)) $$ [HO Hrc0]
  · isplitr; · iexact HR
    isplitl [Hrc0]; · iexact Hrc0
    iexact HO
  iintro ⟨Hzr, Hpr, HO⟩
  ihave Hs := (pS0 A c) $$ Hps
  ihave Hd := (pR0 A c) $$ Hpr
  iapply (wp_loadV (m := Memref.whole cc0_scratch6) (off := (k0_off4 c)) (size := S256x512.size) (f := g) (g) rfl (A.l0 c (bt2 c)) (Blk.load hL (off4_eq c) _)) $$ Hg; iintro Hg
  iapply (wp_loadF (m := Memref.whole cc0_scratch13) (f := (A.sa0 (cx c 3))) (A.sa0 (cx c 3)) rfl) $$ Hd; iintro Hd
  iapply (wp_loadW (m := Memref.whole cc0_scratch6) _ rfl) $$ Hg; iintro Hg
  iapply (wp_storeW (m := Memref.whole cc0_scratch6) (put (s := S512x1024) g (k0_off4 c) S256x512.size (A.l1 c)) (write_put cc0_scratch6 _ _ _ _ _)) $$ Hg; iintro Hg
  have hL1 : Blk 256 0 (kA1 c) (A.l1 c) (put (s := S512x1024) g (k0_off4 c) S256x512.size (A.l1 c)) := Blk.store _ _ (off4_eq c)
  iapply (wp_loadV (m := Memref.whole cc0_scratch6) (off := (k0_off5 c)) (size := S128x512.size) (f := (put (s := S512x1024) g (k0_off4 c) S256x512.size (A.l1 c))) ((put (s := S512x1024) g (k0_off4 c) S256x512.size (A.l1 c))) rfl (half (A.l1 c) (fl (bt1 c))) (Blk.load (hL1.half (kA1_le c) (fl (bt1 c))) (off5_eq c) _)) $$ Hg; iintro Hg
  iapply (wp_loadF (m := Memref.whole cc0_scratch8) _ rfl) $$ H7; iintro H7
  iapply (wp_storeW (m := Memref.whole cc0_scratch8) (A.sa1 c) (write_full cc0_scratch8 _ _ _ _)) $$ H7; iintro H7
  ihave HD := (rD0 c _ _) $$ [Hzs Hzr Hs Hd]
  · isplitl [Hzs]; · iexact Hzs
    isplitl [Hzr]; · iexact Hzr
    isplitl [Hs]; · iexact Hs
    iexact Hd
  iapply wpc_ret
  ispecialize Hk' $$ %_ %_ [HD HO H7 Hf Hg]
  rotate_left
  · iexact Hk'
  · isplitl [HD]
    · iexact HD
    isplitl [HO]
    · iexact HO
    isplitl [H7]
    · iexact H7
    iexists _, _
    isplitr [Hf Hg]
    rotate_left
    · isplitl [Hf]; · iexact Hf
      iexact Hg
    · ipureintro
      exact ⟨hL1.half (kA1_le c) (bt1 c), hR.keep (h' := 0) (by decide) (off4_eq c) _⟩

set_option maxHeartbeats 1600000 in
theorem wp_pr15 (w1 w2 : BitVec 32) {Kt : _ → sProp 𝕄} :
    iprop(records A.vals K ∗ Ow c (owT c 2) ∗ pend c 2 ∗ pts c cc0_scratch8 (A.sa1 c) ∗ midT (F := F) c (.inl 1) ∗ bufs c (P14 A c) ∗ anyS (F := F) c cc0_scratch11
        ∗ (∀ u1, (pend c 3 ∗ midT (F := F) c (.inl 2) ∗ rsDone (F := F) c 1 ∗ Ow c (owT c 3) ∗ anyS (F := F) c cc0_scratch11 ∗ bufs c (P15 A c)) -∗ Kt ⟨u1, k0_pay68 (half (A.r1 c) (fl (bt0 c)))⟩))
      ⊢ wpc c (pr15 (F := F) c w1 w2) Kt := by
  simp only [pr15, k0_part15_eq_skeleton]; unfold k0_part15_skel bufs
  simp only [semSignalWord, semWaitWord, Prog.lift, Prog.bind_op, Prog.bind_ret, Prog.pure_eq_ret]
  iintro ⟨#HR, HO, HP, H8, ⟨Hsn1, Hrc1⟩, ⟨%f, %g, %hfg, Hf, Hg⟩, ⟨%f7, H7⟩, Hk'⟩
  obtain ⟨hL, hR⟩ := hfg
  iapply (wp_sendP A K (c := c) (.inl 2) _ (dev10_eq c) (src := Memref.whole cc0_scratch8) (dst := Memref.whole cc0_scratch14) (fs := A.sa1 c) (q := fullShare) rfl rfl (View.set_whole _) (View.set_whole _) rfl 2 rfl (sp2 A c) (sl2 c) (land2 A c)) $$ [HP HO H8]
  · isplitr; · iexact HR
    isplitl [HP]; · iexact HP
    isplitl [HO]; · iexact HO
    iexact H8
  iintro ⟨HP, Hsn2, Hrc2, HO⟩
  iapply (wp_waitS A.vals K (c := c) (.inl 1) (src := Memref.whole cc0_scratch16) (dst := Memref.whole cc0_scratch10) rfl rfl 3) $$ [HO Hsn1]
  · isplitr; · iexact HR
    isplitl [Hsn1]; · iexact Hsn1
    iexact HO
  iintro ⟨Hzs, Hps, HO⟩
  iapply (wp_waitR A.vals K (c := c) (.inl 1) (src := Memref.whole cc0_scratch10) (dst := Memref.whole cc0_scratch16) rfl rfl 3 (by decide)) $$ [HO Hrc1]
  · isplitr; · iexact HR
    isplitl [Hrc1]; · iexact Hrc1
    iexact HO
  iintro ⟨Hzr, Hpr, HO⟩
  ihave Hs := (pS1 A c) $$ Hps
  ihave Hd := (pR1 A c) $$ Hpr
  iapply (wp_loadV (m := Memref.whole cc0_scratch6) (off := (k0_off6 c)) (size := S256x512.size) (f := g) (g) rfl (A.r0 c (bt1 c)) (Blk.load hR (off6_eq c) _)) $$ Hg; iintro Hg
  iapply (wp_loadF (m := Memref.whole cc0_scratch16) (f := (A.sb0 (cx c 2))) (A.sb0 (cx c 2)) rfl) $$ Hd; iintro Hd
  iapply (wp_loadW (m := Memref.whole cc0_scratch6) _ rfl) $$ Hg; iintro Hg
  iapply (wp_storeW (m := Memref.whole cc0_scratch6) (put (s := S512x1024) g (k0_off6 c) S256x512.size (A.r1 c)) (write_put cc0_scratch6 _ _ _ _ _)) $$ Hg; iintro Hg
  have hR1 : Blk 256 1 (kB1 c) (A.r1 c) (put (s := S512x1024) g (k0_off6 c) S256x512.size (A.r1 c)) := Blk.store _ _ (off6_eq c)
  iapply (wp_loadV (m := Memref.whole cc0_scratch6) (off := (k0_off7 c)) (size := S128x512.size) (f := (put (s := S512x1024) g (k0_off6 c) S256x512.size (A.r1 c))) ((put (s := S512x1024) g (k0_off6 c) S256x512.size (A.r1 c))) rfl (half (A.r1 c) (fl (bt0 c))) (Blk.load (hR1.half (kB1_le c) (fl (bt0 c))) (off7_eq c) _)) $$ Hg; iintro Hg
  iapply (wp_loadF (m := Memref.whole cc0_scratch11) _ rfl) $$ H7; iintro H7
  ihave HD := (rD1 c _ _) $$ [Hzs Hzr Hs Hd]
  · isplitl [Hzs]; · iexact Hzs
    isplitl [Hzr]; · iexact Hzr
    isplitl [Hs]; · iexact Hs
    iexact Hd
  ihave H7 := (Entails.of_eq rfl : pts c cc0_scratch11 f7 ⊢ pts c cc0_scratch11 f7) $$ H7
  iapply wpc_ret
  ispecialize Hk' $$ %_ [HP Hsn2 Hrc2 HD HO H7 Hf Hg]
  rotate_left
  · iexact Hk'
  · isplitl [HP]
    · iexact HP
    isplitl [Hsn2 Hrc2]
    · isplitl [Hsn2] <;> iassumption
    isplitl [HD]
    · iexact HD
    isplitl [HO]
    · iexact HO
    isplitl [H7]
    · iexists f7; iexact H7
    iexists _, _
    isplitr [Hf Hg]
    rotate_left
    · isplitl [Hf]; · iexact Hf
      iexact Hg
    · ipureintro
      exact ⟨hL.keep (h' := 1) (by decide) (off6_eq c) _, hR1.half (kB1_le c) (bt0 c)⟩

set_option maxHeartbeats 1600000 in
theorem wp_pr16 (w1 w2 w3 : BitVec 32) {Kt : _ → sProp 𝕄} :
    iprop(records A.vals K ∗ Ow c (owT c 3) ∗ pend c 3 ∗ midT (F := F) c (.inl 2) ∗ bufs c (P15 A c) ∗ anyS (F := F) c cc0_scratch11
        ∗ (∀ u1 u2, (pend c 4 ∗ midT (F := F) c (.inl 3) ∗ rsDone (F := F) c 2 ∗ Ow c (owT c 4) ∗ bufs c (P16 A c)) -∗ Kt ⟨u1, u2⟩))
      ⊢ wpc c (pr16 (F := F) c w1 w2 w3 (k0_pay68 (half (A.r1 c) (fl (bt0 c))))) Kt := by
  simp only [pr16, k0_part16_eq_skeleton]; unfold k0_part16_skel bufs
  simp only [semSignalWord, semWaitWord, Prog.lift, Prog.bind_op, Prog.bind_ret, Prog.pure_eq_ret]
  iintro ⟨#HR, HO, HP, ⟨Hsn2, Hrc2⟩, ⟨%f, %g, %hfg, Hf, Hg⟩, ⟨%f7, H7⟩, Hk'⟩
  obtain ⟨hL, hR⟩ := hfg
  iapply (wp_storeW (m := Memref.whole cc0_scratch11) (A.sb1 c) (write_full cc0_scratch11 _ _ _ _)) $$ H7; iintro H7
  iapply (wp_sendP A K (c := c) (.inl 3) _ (dev11_eq c) (src := Memref.whole cc0_scratch11) (dst := Memref.whole cc0_scratch17) (fs := A.sb1 c) (q := fullShare) rfl rfl (View.set_whole _) (View.set_whole _) rfl 3 rfl (sp3 A c) (sl3 c) (land3 A c)) $$ [HP HO H7]
  · isplitr; · iexact HR
    isplitl [HP]; · iexact HP
    isplitl [HO]; · iexact HO
    iexact H7
  iintro ⟨HP, Hsn3, Hrc3, HO⟩
  iapply (wp_waitS A.vals K (c := c) (.inl 2) (src := Memref.whole cc0_scratch14) (dst := Memref.whole cc0_scratch8) rfl rfl 4) $$ [HO Hsn2]
  · isplitr; · iexact HR
    isplitl [Hsn2]; · iexact Hsn2
    iexact HO
  iintro ⟨Hzs, Hps, HO⟩
  iapply (wp_waitR A.vals K (c := c) (.inl 2) (src := Memref.whole cc0_scratch8) (dst := Memref.whole cc0_scratch14) rfl rfl 4 (by decide)) $$ [HO Hrc2]
  · isplitr; · iexact HR
    isplitl [Hrc2]; · iexact Hrc2
    iexact HO
  iintro ⟨Hzr, Hpr, HO⟩
  ihave Hs := (pS2 A c) $$ Hps
  ihave Hd := (pR2 A c) $$ Hpr
  iapply (wp_loadV (m := Memref.whole cc0_scratch6) (off := (k0_off8 c)) (size := S128x512.size) (f := g) (g) rfl (half (A.l1 c) (bt1 c)) (Blk.load hL (off8_eq c) _)) $$ Hg; iintro Hg
  iapply (wp_loadF (m := Memref.whole cc0_scratch14) (f := (A.sa1 (cx c 2))) (A.sa1 (cx c 2)) rfl) $$ Hd; iintro Hd
  iapply (wp_loadW (m := Memref.whole cc0_scratch6) _ rfl) $$ Hg; iintro Hg
  iapply (wp_storeW (m := Memref.whole cc0_scratch6) (put (s := S512x1024) g (k0_off8 c) S128x512.size (A.l2 c)) (write_put cc0_scratch6 _ _ _ _ _)) $$ Hg; iintro Hg
  ihave HD := (rD2 c _ _) $$ [Hzs Hzr Hs Hd]
  · isplitl [Hzs]; · iexact Hzs
    isplitl [Hzr]; · iexact Hzr
    isplitl [Hs]; · iexact Hs
    iexact Hd
  iapply wpc_ret
  ispecialize Hk' $$ %_ %_ [HP Hsn3 Hrc3 HD HO Hf Hg]
  rotate_left
  · iexact Hk'
  · isplitl [HP]
    · iexact HP
    isplitl [Hsn3 Hrc3]
    · isplitl [Hsn3] <;> iassumption
    isplitl [HD]
    · iexact HD
    isplitl [HO]
    · iexact HO
    iexists _, _
    isplitr [Hf Hg]
    rotate_left
    · isplitl [Hf]; · iexact Hf
      iexact Hg
    · ipureintro
      exact ⟨Blk.store _ _ (off8_eq c), hR.keep (h' := 0) (by decide) (off8_eq c) _⟩

set_option maxHeartbeats 1600000 in
theorem wp_pr17 (w1 w2 w3 : BitVec 32) {Kt : _ → sProp 𝕄} :
    iprop(records A.vals K ∗ Ow c (owT c 4) ∗ pend c 4 ∗ midT (F := F) c (.inl 3) ∗ bufs c (P16 A c) ∗ anyS (F := F) c cc0_scratch9
        ∗ (∀ u1 u2, (pend c 5 ∗ midT (F := F) c (.inl 4) ∗ rsDone (F := F) c 3 ∗ Ow c (owT c 5) ∗ bufs c (P17 A c)) -∗ Kt ⟨u1, u2, 4#32⟩))
      ⊢ wpc c (pr17 (F := F) c w1 w2 w3) Kt := by
  simp only [pr17, k0_part17_eq_skeleton]; unfold k0_part17_skel bufs
  simp only [semSignalWord, semWaitWord, Prog.lift, Prog.bind_op, Prog.bind_ret, Prog.pure_eq_ret]
  iintro ⟨#HR, HO, HP, ⟨Hsn3, Hrc3⟩, ⟨%f, %g, %hfg, Hf, Hg⟩, ⟨%f7, H7⟩, Hk'⟩
  obtain ⟨hL, hR⟩ := hfg
  iapply (wp_loadV (m := Memref.whole cc0_scratch6) (off := (k0_off9 c)) (size := S64x512.size) (f := g) (g) rfl (quar (A.l2 c) (fl (bt0 c))) (Blk.load (hL.quar (kA2_le c) (fl (bt0 c))) (off9_eq c) _)) $$ Hg; iintro Hg
  iapply (wp_loadF (m := Memref.whole cc0_scratch9) _ rfl) $$ H7; iintro H7
  iapply (wp_storeW (m := Memref.whole cc0_scratch9) (A.sa2 c) (write_full cc0_scratch9 _ _ _ _)) $$ H7; iintro H7
  iapply (wp_sendP A K (c := c) (.inl 4) _ (dev12_eq c) (src := Memref.whole cc0_scratch9) (dst := Memref.whole cc0_scratch15) (fs := A.sa2 c) (q := fullShare) rfl rfl (View.set_whole _) (View.set_whole _) rfl 4 rfl (sp4 A c) (sl4 c) (land4 A c)) $$ [HP HO H7]
  · isplitr; · iexact HR
    isplitl [HP]; · iexact HP
    isplitl [HO]; · iexact HO
    iexact H7
  iintro ⟨HP, Hsn4, Hrc4, HO⟩
  iapply (wp_waitS A.vals K (c := c) (.inl 3) (src := Memref.whole cc0_scratch17) (dst := Memref.whole cc0_scratch11) rfl rfl 5) $$ [HO Hsn3]
  · isplitr; · iexact HR
    isplitl [Hsn3]; · iexact Hsn3
    iexact HO
  iintro ⟨Hzs, Hps, HO⟩
  iapply (wp_waitR A.vals K (c := c) (.inl 3) (src := Memref.whole cc0_scratch11) (dst := Memref.whole cc0_scratch17) rfl rfl 5 (by decide)) $$ [HO Hrc3]
  · isplitr; · iexact HR
    isplitl [Hrc3]; · iexact Hrc3
    iexact HO
  iintro ⟨Hzr, Hpr, HO⟩
  ihave Hs := (pS3 A c) $$ Hps
  ihave Hd := (pR3 A c) $$ Hpr
  iapply (wp_loadV (m := Memref.whole cc0_scratch6) (off := (k0_off10 c)) (size := S128x512.size) (f := g) (g) rfl (half (A.r1 c) (bt0 c)) (Blk.load hR (off10_eq c) _)) $$ Hg; iintro Hg
  iapply (wp_loadF (m := Memref.whole cc0_scratch17) (f := (A.sb1 (cx c 0))) (A.sb1 (cx c 0)) rfl) $$ Hd; iintro Hd
  iapply (wp_loadW (m := Memref.whole cc0_scratch6) _ rfl) $$ Hg; iintro Hg
  iapply (wp_storeW (m := Memref.whole cc0_scratch6) (put (s := S512x1024) g (k0_off10 c) S128x512.size (A.r2 c)) (write_put cc0_scratch6 _ _ _ _ _)) $$ Hg; iintro Hg
  ihave HD := (rD3 c _ _) $$ [Hzs Hzr Hs Hd]
  · isplitl [Hzs]; · iexact Hzs
    isplitl [Hzr]; · iexact Hzr
    isplitl [Hs]; · iexact Hs
    iexact Hd
  iapply wpc_ret
  ispecialize Hk' $$ %_ %_ [HP Hsn4 Hrc4 HD HO Hf Hg]
  rotate_left
  · iexact Hk'
  · isplitl [HP]
    · iexact HP
    isplitl [Hsn4 Hrc4]
    · isplitl [Hsn4] <;> iassumption
    isplitl [HD]
    · iexact HD
    isplitl [HO]
    · iexact HO
    iexists _, _
    isplitr [Hf Hg]
    rotate_left
    · isplitl [Hf]; · iexact Hf
      iexact Hg
    · ipureintro
      exact ⟨(hL.quar (kA2_le c) (bt0 c)).keep (h' := 1) (by decide) (off10_eq c) _, Blk.store _ _ (off10_eq c)⟩

set_option maxHeartbeats 1600000 in
theorem wp_pr18 (w1 w2 w3 w4 w5 : BitVec 32) {Kt : _ → sProp 𝕄} :
    iprop(records A.vals K ∗ Ow c (owT c 5) ∗ pend c 5 ∗ midT (F := F) c (.inl 4) ∗ bufs c (P17 A c) ∗ anyS (F := F) c cc0_scratch12
        ∗ (∀ u1 u2, (pend c 6 ∗ midT (F := F) c (.inl 5) ∗ rsDone (F := F) c 4 ∗ Ow c (owT c 6) ∗ bufs c (P18 A c)) -∗ Kt ⟨u1, u2, quar (A.l2 c) (bt0 c), k0_pay73 (A.sa2 (cx c 0))⟩))
      ⊢ wpc c (pr18 (F := F) c w1 w2 w3 w4 w5) Kt := by
  simp only [pr18, k0_part18_eq_skeleton]; unfold k0_part18_skel bufs
  simp only [semSignalWord, semWaitWord, Prog.lift, Prog.bind_op, Prog.bind_ret, Prog.pure_eq_ret]
  iintro ⟨#HR, HO, HP, ⟨Hsn4, Hrc4⟩, ⟨%f, %g, %hfg, Hf, Hg⟩, ⟨%f7, H7⟩, Hk'⟩
  obtain ⟨hL, hR⟩ := hfg
  iapply (wp_loadV (m := Memref.whole cc0_scratch6) (off := (k0_off11 c)) (size := S64x512.size) (f := g) (g) rfl (quar (A.r2 c) (fl (bt2 c))) (Blk.load (hR.quar (kB2_le c) (fl (bt2 c))) (off11_eq c) _)) $$ Hg; iintro Hg
  iapply (wp_loadF (m := Memref.whole cc0_scratch12) _ rfl) $$ H7; iintro H7
  iapply (wp_storeW (m := Memref.whole cc0_scratch12) (A.sb2 c) (write_full cc0_scratch12 _ _ _ _)) $$ H7; iintro H7
  iapply (wp_sendP A K (c := c) (.inl 5) _ (dev13_eq c) (src := Memref.whole cc0_scratch12) (dst := Memref.whole cc0_scratch18) (fs := A.sb2 c) (q := fullShare) rfl rfl (View.set_whole _) (View.set_whole _) rfl 5 rfl (sp5 A c) (sl5 c) (land5 A c)) $$ [HP HO H7]
  · isplitr; · iexact HR
    isplitl [HP]; · iexact HP
    isplitl [HO]; · iexact HO
    iexact H7
  iintro ⟨HP, Hsn5, Hrc5, HO⟩
  iapply (wp_waitS A.vals K (c := c) (.inl 4) (src := Memref.whole cc0_scratch15) (dst := Memref.whole cc0_scratch9) rfl rfl 6) $$ [HO Hsn4]
  · isplitr; · iexact HR
    isplitl [Hsn4]; · iexact Hsn4
    iexact HO
  iintro ⟨Hzs, Hps, HO⟩
  iapply (wp_waitR A.vals K (c := c) (.inl 4) (src := Memref.whole cc0_scratch9) (dst := Memref.whole cc0_scratch15) rfl rfl 6 (by decide)) $$ [HO Hrc4]
  · isplitr; · iexact HR
    isplitl [Hrc4]; · iexact Hrc4
    iexact HO
  iintro ⟨Hzr, Hpr, HO⟩
  ihave Hs := (pS4 A c) $$ Hps
  ihave Hd := (pR4 A c) $$ Hpr
  iapply (wp_loadV (m := Memref.whole cc0_scratch6) (off := (k0_off12 c)) (size := S64x512.size) (f := g) (g) rfl (quar (A.l2 c) (bt0 c)) (Blk.load hL (off12_eq c) _)) $$ Hg; iintro Hg
  iapply (wp_loadF (m := Memref.whole cc0_scratch15) (f := (A.sa2 (cx c 0))) (A.sa2 (cx c 0)) rfl) $$ Hd; iintro Hd
  ihave HD := (rD4 c _ _) $$ [Hzs Hzr Hs Hd]
  · isplitl [Hzs]; · iexact Hzs
    isplitl [Hzr]; · iexact Hzr
    isplitl [Hs]; · iexact Hs
    iexact Hd
  iapply wpc_ret
  ispecialize Hk' $$ %_ %_ [HP Hsn5 Hrc5 HD HO Hf Hg]
  rotate_left
  · iexact Hk'
  · isplitl [HP]
    · iexact HP
    isplitl [Hsn5 Hrc5]
    · isplitl [Hsn5] <;> iassumption
    isplitl [HD]
    · iexact HD
    isplitl [HO]
    · iexact HO
    iexists _, _
    isplitr [Hf Hg]
    rotate_left
    · isplitl [Hf]; · iexact Hf
      iexact Hg
    · ipureintro
      exact ⟨hL, hR.quar (kB2_le c) (bt2 c)⟩

end Cert.AttnProof

end
-- ==== Proof.Ag0.lean ====
/-
# The all-gather's steps
-/
module

public import proofs.«01_k».proof.Proof.Rs2

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

/-! ## Bundles taken from the front and built at the end -/

abbrev U : Type := Fin 7 ⊕ Fin 7
def ordU : U → ℕ
  | .inl i => i.val
  | .inr i => 7 + i.val
theorem ordU_inj {t t' : U} (h : ordU t = ordU t') : t = t' := by revert t t'; decide
theorem ordU_lt (t : U) : ordU t < 14 := by revert t; decide

def up (Φ : U → sProp 𝕄) (n : ℕ) : sProp 𝕄 := bigSep (Finset.univ.filter fun t : U => n ≤ ordU t) Φ
def lo (Φ : U → sProp 𝕄) (n : ℕ) : sProp 𝕄 := bigSep (Finset.univ.filter fun t : U => ordU t < n) Φ

omit [FloatOps F] in
theorem up_take (Φ : U → sProp 𝕄) (t : U) {n : ℕ} (hn : ordU t = n) : up (F := F) Φ n ⊢ iprop(Φ t ∗ up Φ (n + 1)) := by
  subst hn
  unfold up
  have h : (Finset.univ.filter fun t' : U => ordU t ≤ ordU t') = insert t (Finset.univ.filter fun t' : U => ordU t + 1 ≤ ordU t') := by
    ext t'
    simp only [Finset.mem_filter, Finset.mem_univ, true_and, Finset.mem_insert]
    constructor
    · intro h
      by_cases e : ordU t' = ordU t
      · exact .inl (ordU_inj e)
      · right; omega
    · rintro (rfl | h)
      · exact le_rfl
      · omega
  rw [h, bigSep_insert (by simp)]
  exact .rfl

omit [FloatOps F] in
theorem lo_add (Φ : U → sProp 𝕄) (t : U) {n : ℕ} (hn : ordU t = n) : iprop(Φ t ∗ lo (F := F) Φ n) ⊢ lo Φ (n + 1) := by
  subst hn
  unfold lo
  have h : (Finset.univ.filter fun t' : U => ordU t' < ordU t + 1) = insert t (Finset.univ.filter fun t' : U => ordU t' < ordU t) := by
    ext t'
    simp only [Finset.mem_filter, Finset.mem_univ, true_and, Finset.mem_insert]
    constructor
    · intro h
      by_cases e : ordU t' = ordU t
      · exact .inl (ordU_inj e)
      · right; omega
    · rintro (rfl | h)
      · exact Nat.lt_succ_self _
      · omega
  rw [h, bigSep_insert (by simp)]
  exact .rfl

omit [FloatOps F] in
theorem lo_zero (Φ : U → sProp 𝕄) : (emp : sProp 𝕄) ⊢ lo (F := F) Φ 0 := by
  unfold lo
  rw [Finset.filter_false_of_mem fun t _ => Nat.not_lt_zero _, bigSep_empty]
  exact .rfl

omit [FloatOps F] in
theorem lo_up (Φ : U → sProp 𝕄) : lo (F := F) Φ 14 = up Φ 0 := by
  unfold lo up
  rw [Finset.filter_true_of_mem fun t _ => ordU_lt t, Finset.filter_true_of_mem fun t _ => Nat.zero_le _]

omit [FloatOps F] in
theorem lo_end (Φ : U → sProp 𝕄) : lo (F := F) Φ 14 = bigSep Finset.univ Φ := by
  unfold lo
  rw [Finset.filter_true_of_mem fun t _ => ordU_lt t]

variable (A : Args F) (K : Dev nD × Ck → ℕ) {c : Dev nD}

/-- The shares of an own block which are not lent yet. -/
def lendA (c : Dev nD) (n : ℕ) : sProp 𝕄 :=
  bigSep (Finset.univ.filter fun i : Fin 8 => n ≤ i.val) fun i => iprop(((c : Thread nD τ).loc cc0_stg0_0) ↦[regA c]{ShareLeaves.leaf 3 fullShare i} A.out)
def lendB (c : Dev nD) (n : ℕ) : sProp 𝕄 :=
  bigSep (Finset.univ.filter fun i : Fin 8 => n ≤ i.val) fun i => iprop(((c : Thread nD τ).loc cc0_stg0_0) ↦[regB c]{ShareLeaves.leaf 3 fullShare i} A.out)

omit [FloatOps F] in
theorem leaves8 (l : Loc nD τ sig) (I : Finset (Idx l)) (f : Buf (Elt F) l) :
    (l ↦[I]{fullShare} f : sProp 𝕄) = bigSep Finset.univ fun i : Fin 8 => (l ↦[I]{ShareLeaves.leaf 3 fullShare i} f : sProp 𝕄) :=
  ShareLeaves.pointsTo_leaves (ℓ := l) I f 3 fullShare

theorem filt8 (i : Fin 7) : (Finset.univ.filter fun j : Fin 8 => i.val ≤ j.val) = insert i.castSucc (Finset.univ.filter fun j : Fin 8 => i.val + 1 ≤ j.val) := by
  revert i; decide
theorem filt8' (i : Fin 7) : i.castSucc ∉ (Finset.univ.filter fun j : Fin 8 => i.val + 1 ≤ j.val) := by revert i; decide

theorem lendA_zero (c : Dev nD) : (((c : Thread nD τ).loc cc0_stg0_0) ↦[regA c]{fullShare} A.out) ⊢ lendA A c 0 := by
  unfold lendA
  rw [Finset.filter_true_of_mem fun t _ => Nat.zero_le _]
  have h := leaves8 ((c : Thread nD τ).loc cc0_stg0_0) (regA c) A.out
  rw [← h]
theorem lendA_take (c : Dev nD) (i : Fin 7) {n : ℕ} (hn : i.val = n) : lendA A c n
    ⊢ iprop((((c : Thread nD τ).loc cc0_stg0_0) ↦[regA c]{lend i} A.out) ∗ lendA A c (n + 1)) := by
  subst hn
  unfold lendA lend
  rw [filt8 i, bigSep_insert (filt8' i)]
  exact .rfl

theorem lendB_zero (c : Dev nD) : (((c : Thread nD τ).loc cc0_stg0_0) ↦[regB c]{fullShare} A.out) ⊢ lendB A c 0 := by
  unfold lendB
  rw [Finset.filter_true_of_mem fun t _ => Nat.zero_le _]
  have h := leaves8 ((c : Thread nD τ).loc cc0_stg0_0) (regB c) A.out
  rw [← h]
theorem lendB_take (c : Dev nD) (i : Fin 7) {n : ℕ} (hn : i.val = n) : lendB A c n
    ⊢ iprop((((c : Thread nD τ).loc cc0_stg0_0) ↦[regB c]{lend i} A.out) ∗ lendB A c (n + 1)) := by
  subst hn
  unfold lendB lend
  rw [filt8 i, bigSep_insert (filt8' i)]
  exact .rfl

/-! ## Landing on the peer -/

theorem slotA (c : Dev nD) (i : Fin 7) : slot (F := F) (peer c (.inr (.inl i))) (.inr (.inl i))
    ⊢ iprop(∃ fd, ((peer c (.inr (.inl i)) : Dev nD) : Thread nD τ).loc cc0_stg0_0 ↦[regA c]{fullShare} fd) := by
  show iprop(∃ f, ((cx c i : Dev nD) : Thread nD τ).loc cc0_stg0_0 ↦[regA (cx (cx c i) i)]{fullShare} f) ⊢ _
  rw [cx_cx]
  exact .rfl
theorem copyA (c : Dev nD) (fd f : Vec F S1x512x1024 .bf16) : ∀ z ∈ regA c, (blkA c).view.write (Elt F) fd ((blkA c).view.read (Elt F) f) Finset.univ z = f z := by
  intro z hz
  rw [← blkA_set c] at hz
  rw [View.write_read_eq_piecewise]
  exact Finset.piecewise_eq_of_mem _ _ _ hz
theorem payA (e : Dev nD) (i : Fin 7) : recvPay A.vals e (.inr (.inl i)) = iprop((e : Thread nD τ).loc cc0_stg0_0 ↦[regA (cx e i)]{fullShare} A.out) := rfl
theorem landA (c : Dev nD) (i : Fin 7) (fd : Vec F S1x512x1024 .bf16) : (((cx c i : Dev nD) : Thread nD τ).loc cc0_stg0_0
      ↦[regA c]{fullShare} ((blkA c).view.write (Elt F) fd ((blkA c).view.read (Elt F) A.out) Finset.univ)) ⊢ recvPay A.vals (cx c i) (.inr (.inl i)) := by
  rw [payA, cx_cx]
  exact Entails.of_eq (pointsTo_congr (ℓ := ((cx c i : Dev nD) : Thread nD τ).loc cc0_stg0_0) (q := fullShare) (copyA c fd A.out))

theorem slotB (c : Dev nD) (i : Fin 7) : slot (F := F) (peer c (.inr (.inr i))) (.inr (.inr i))
    ⊢ iprop(∃ fd, ((peer c (.inr (.inr i)) : Dev nD) : Thread nD τ).loc cc0_stg0_0 ↦[regB c]{fullShare} fd) := by
  show iprop(∃ f, ((cx c i : Dev nD) : Thread nD τ).loc cc0_stg0_0 ↦[regB (cx (cx c i) i)]{fullShare} f) ⊢ _
  rw [cx_cx]
  exact .rfl
theorem copyB (c : Dev nD) (fd f : Vec F S1x512x1024 .bf16) : ∀ z ∈ regB c, (blkB c).view.write (Elt F) fd ((blkB c).view.read (Elt F) f) Finset.univ z = f z := by
  intro z hz
  rw [← blkB_set c] at hz
  rw [View.write_read_eq_piecewise]
  exact Finset.piecewise_eq_of_mem _ _ _ hz
theorem payB (e : Dev nD) (i : Fin 7) : recvPay A.vals e (.inr (.inr i)) = iprop((e : Thread nD τ).loc cc0_stg0_0 ↦[regB (cx e i)]{fullShare} A.out) := rfl
theorem landB (c : Dev nD) (i : Fin 7) (fd : Vec F S1x512x1024 .bf16) : (((cx c i : Dev nD) : Thread nD τ).loc cc0_stg0_0
      ↦[regB c]{fullShare} ((blkB c).view.write (Elt F) fd ((blkB c).view.read (Elt F) A.out) Finset.univ)) ⊢ recvPay A.vals (cx c i) (.inr (.inr i)) := by
  rw [payB, cx_cx]
  exact Entails.of_eq (pointsTo_congr (ℓ := ((cx c i : Dev nD) : Thread nD τ).loc cc0_stg0_0) (q := fullShare) (copyB c fd A.out))

/-! ## The state while sends are issued, and while waits pass -/

abbrev sndU (c : Dev nD) (t : U) : sProp 𝕄 := sndT (F := F) c (.inr t)
abbrev rcvU (c : Dev nD) (t : U) : sProp 𝕄 := rcvT (F := F) c (.inr t)
def sndD (c : Dev nD) (t : U) : sProp 𝕄 := iprop(semVal (sendCell c (.inr t)) 0 ∗ sendPay A.vals c (.inr t))
def rcvD (c : Dev nD) (t : U) : sProp 𝕄 := iprop(semVal (recvCell c (.inr t)) 0 ∗ recvPay A.vals c (.inr t))

def agS (c : Dev nD) (n : ℕ) : sProp 𝕄 :=
  iprop(pend (F := F) c (6 + n) ∗ Ow c (owT c (6 + n)) ∗ lo (sndU c) n ∗ lo (rcvU c) n)
def wt (c : Dev nD) (a b : ℕ) : sProp 𝕄 :=
  iprop(Ow c (owT c 20) ∗ (up (sndU c) a ∗ lo (sndD A c) a) ∗ (up (rcvU c) b ∗ lo (rcvD A c) b))

theorem agS_zero (c : Dev nD) : iprop(pend (F := F) c 6 ∗ Ow c (owT c 6)) ⊢ agS (F := F) c 0 := by
  unfold agS
  iintro ⟨H1, H2⟩
  isplitl [H1]; · iexact H1
  isplitl [H2]; · iexact H2
  isplitr
  · iapply (lo_zero (sndU (F := F) c)); iempintro
  · iapply (lo_zero (rcvU (F := F) c)); iempintro

theorem agS_end (c : Dev nD) : agS (F := F) c 14 ⊢ wt A c 0 0 := by
  unfold agS wt
  rw [lo_up, lo_up]
  iintro ⟨H1, H2, H3, H4⟩
  isplitl [H2]; · iexact H2
  isplitl [H3]
  · isplitl [H3]; · iexact H3
    iapply (lo_zero (sndD A c)); iempintro
  · isplitl [H4]; · iexact H4
    iapply (lo_zero (rcvD A c)); iempintro

theorem wp_agA (i : Fin 7) (n : Dev nD) (hn : n = peer c (.inr (.inl i))) (m : ℕ) (hm : i.val = m)
    {hsc : (blkA c).view.ref.isScScratch = false} {sS sR : DmaSem sig} (hS : sS = sendS (.inr (.inl i))) (hR : sR = recvS (.inr (.inl i)))
    {hsrc : (blkA c).view.WordExact} {hdst : (blkA c).view.WordExact}
    {hsem : DmaTarget.Typed _ (SemLoc.dma sR) (.remote (Dev.tc n : Thread nD τ) (blkA c) (SemLoc.dma sS) hsc)}
    {α : Type} {k : PUnit → Prog (TpuEff nD τ sig (Elt F) Λ₀ .tc) α} {Qt : α → sProp 𝕄} :
    iprop(records A.vals K ∗ agS c (0 + m) ∗ lendA A c m)
      ⊢ iprop(((agS c (0 + m + 1) ∗ lendA A c (m + 1)) -∗ wpc c (k ⟨⟩) Qt)
          -∗ wpc c (.op (.enqueueDma (blkA c) (.remote (Dev.tc n : Thread nD τ) (blkA c) (SemLoc.dma sS) hsc) (SemLoc.dma sR) hsrc hdst hsem) k) Qt) := by
  subst hm
  unfold agS
  iintro ⟨#HR, ⟨HP, HO, Hs, Hr⟩, HL⟩ Hk
  ihave HL' := (lendA_take A c i rfl) $$ HL
  icases HL' with ⟨Hsrc, HL⟩
  iapply (wp_sendP A K (c := c) (.inr (.inl i)) n hn (src := blkA c) (dst := blkA c) (fs := A.out) (q := lend i) hS hR (blkA_set c) (blkA_set c)
    rfl (6 + (0 + i.val)) (by show 6 + i.val = _; omega) .rfl (slotA c i) (landA A c i)) $$ [HP HO Hsrc]
  · isplitr; · iexact HR
    isplitl [HP]; · iexact HP
    isplitl [HO]; · iexact HO
    iexact Hsrc
  iintro ⟨HP, H1, H2, HO⟩
  iapply Hk
  isplitl [HP HO Hs Hr H1 H2]
  · isplitl [HP]; · iexact HP
    isplitl [HO]; · iexact HO
    isplitl [Hs H1]
    · iapply (lo_add (sndU (F := F) c) (.inl i) (n := 0 + i.val) (by show i.val = _; omega)); isplitl [H1]; · iexact H1
      iexact Hs
    · iapply (lo_add (rcvU (F := F) c) (.inl i) (n := 0 + i.val) (by show i.val = _; omega)); isplitl [H2]; · iexact H2
      iexact Hr
  iexact HL

theorem wp_agB (i : Fin 7) (n : Dev nD) (hn : n = peer c (.inr (.inr i))) (m : ℕ) (hm : i.val = m)
    {hsc : (blkB c).view.ref.isScScratch = false} {sS sR : DmaSem sig} (hS : sS = sendS (.inr (.inr i))) (hR : sR = recvS (.inr (.inr i)))
    {hsrc : (blkB c).view.WordExact} {hdst : (blkB c).view.WordExact}
    {hsem : DmaTarget.Typed _ (SemLoc.dma sR) (.remote (Dev.tc n : Thread nD τ) (blkB c) (SemLoc.dma sS) hsc)}
    {α : Type} {k : PUnit → Prog (TpuEff nD τ sig (Elt F) Λ₀ .tc) α} {Qt : α → sProp 𝕄} :
    iprop(records A.vals K ∗ agS c (7 + m) ∗ lendB A c m)
      ⊢ iprop(((agS c (7 + m + 1) ∗ lendB A c (m + 1)) -∗ wpc c (k ⟨⟩) Qt)
          -∗ wpc c (.op (.enqueueDma (blkB c) (.remote (Dev.tc n : Thread nD τ) (blkB c) (SemLoc.dma sS) hsc) (SemLoc.dma sR) hsrc hdst hsem) k) Qt) := by
  subst hm
  unfold agS
  iintro ⟨#HR, ⟨HP, HO, Hs, Hr⟩, HL⟩ Hk
  ihave HL' := (lendB_take A c i rfl) $$ HL
  icases HL' with ⟨Hsrc, HL⟩
  iapply (wp_sendP A K (c := c) (.inr (.inr i)) n hn (src := blkB c) (dst := blkB c) (fs := A.out) (q := lend i) hS hR (blkB_set c) (blkB_set c)
    rfl (6 + (7 + i.val)) (by show 13 + i.val = _; omega) .rfl (slotB c i) (landB A c i)) $$ [HP HO Hsrc]
  · isplitr; · iexact HR
    isplitl [HP]; · iexact HP
    isplitl [HO]; · iexact HO
    iexact Hsrc
  iintro ⟨HP, H1, H2, HO⟩
  iapply Hk
  isplitl [HP HO Hs Hr H1 H2]
  · isplitl [HP]; · iexact HP
    isplitl [HO]; · iexact HO
    isplitl [Hs H1]
    · iapply (lo_add (sndU (F := F) c) (.inr i) (n := 7 + i.val) (by show 7 + i.val = _; omega)); isplitl [H1]; · iexact H1
      iexact Hs
    · iapply (lo_add (rcvU (F := F) c) (.inr i) (n := 7 + i.val) (by show 7 + i.val = _; omega)); isplitl [H2]; · iexact H2
      iexact Hr
  iexact HL

theorem wp_agWS (t : U) (a b : ℕ) (hm : ordU t = a) {src dst : Memref sig .tc .vmem S64x512 .bf16} {sem : DmaSem sig}
    (hs : sem = sendS (.inr t)) {hsrc : src.view.WordExact} {hd : dst.view.WordExact} {α : Type} {k : PUnit → Prog (TpuEff nD τ sig (Elt F) Λ₀ .tc) α} {Qt : α → sProp 𝕄}
    (hN : dst.view.dmaCredit = amt (.inr t)) :
    iprop(records A.vals K ∗ wt A c a b)
      ⊢ iprop((wt A c (a + 1) b -∗ wpc c (k ⟨⟩) Qt)
          -∗ wpc c (.op (.waitDma2 sem src dst hsrc hd) k) Qt) := by
  unfold wt
  iintro ⟨#HR, HO, ⟨Hsu, Hsl⟩, ⟨Hru, Hrl⟩⟩ Hk
  ihave Ht' := (up_take (sndU (F := F) c) t hm) $$ Hsu
  icases Ht' with ⟨Ht, Hsu⟩
  iapply (wp_waitS A.vals K (c := c) (.inr t) (src := src) (dst := dst) hs hN 20) $$ [Ht HO]
  · isplitr; · iexact HR
    isplitl [Ht]; · iexact Ht
    iexact HO
  iintro ⟨Hz, Hp, HO⟩
  ihave Hn := (lo_add (sndD A c) t hm) $$ [Hz Hp Hsl]
  · isplitl [Hz Hp]
    · unfold sndD; isplitl [Hz] <;> iassumption
    iexact Hsl
  iapply Hk
  isplitl [HO]; · iexact HO
  isplitl [Hsu Hn]
  · isplitl [Hsu]; · iexact Hsu
    iexact Hn
  isplitl [Hru]; · iexact Hru
  iexact Hrl

theorem wp_agWR (t : U) (a b : ℕ) (hm : ordU t = b) {src dst : Memref sig .tc .vmem S64x512 .bf16} {sem : DmaSem sig}
    (hs : sem = recvS (.inr t)) {hsrc : src.view.WordExact} {hd : dst.view.WordExact} {α : Type} {k : PUnit → Prog (TpuEff nD τ sig (Elt F) Λ₀ .tc) α} {Qt : α → sProp 𝕄}
    (hN : dst.view.dmaCredit = amt (.inr t)) :
    iprop(records A.vals K ∗ wt A c a b)
      ⊢ iprop((wt A c a (b + 1) -∗ wpc c (k ⟨⟩) Qt)
          -∗ wpc c (.op (.waitDma2 sem src dst hsrc hd) k) Qt) := by
  unfold wt
  iintro ⟨#HR, HO, ⟨Hsu, Hsl⟩, ⟨Hru, Hrl⟩⟩ Hk
  ihave Ht' := (up_take (rcvU (F := F) c) t hm) $$ Hru
  icases Ht' with ⟨Ht, Hru⟩
  iapply (wp_waitR A.vals K (c := c) (.inr t) (src := src) (dst := dst) hs hN 20 (by have := ord_lt (.inr t); omega)) $$ [Ht HO]
  · isplitr; · iexact HR
    isplitl [Ht]; · iexact Ht
    iexact HO
  iintro ⟨Hz, Hp, HO⟩
  ihave Hn := (lo_add (rcvD A c) t hm) $$ [Hz Hp Hrl]
  · isplitl [Hz Hp]
    · unfold rcvD; isplitl [Hz] <;> iassumption
    iexact Hrl
  iapply Hk
  isplitl [HO]; · iexact HO
  isplitl [Hsu Hsl]
  · isplitl [Hsu]; · iexact Hsu
    iexact Hsl
  isplitl [Hru]; · iexact Hru
  iexact Hn

/-! ## The own block -/

theorem wp_loadR {α : Type} {Q : α → sProp 𝕄} {cs : CoreSpace} {s : Shape} {e : EltTy} {m : Memref sig .tc cs s e}
    {r : LoadRect s} {hl : m.view.LoadsAt r} {k : (r.shape.Idx → Elt F e) → Prog (TpuEff nD τ sig (Elt F) Λ₀ .tc) α}
    {S : Finset (Idx (m.view.loc (c : Thread nD τ)))} {f : Buf (Elt F) (m.view.loc (c : Thread nD τ))} (hS : m.view.setOn r.set ⊆ S) :
    (m.view.loc (c : Thread nD τ) ↦[S]{fullShare} f)
      ⊢ iprop((∀ w, (m.view.loc (c : Thread nD τ) ↦[S]{fullShare} f) -∗ wpc c (k w) Q) -∗ wpc c (.op (.load m r hl) k) Q) := by
  iintro H Hk
  iapply (wp_load 𝒱₀ (c : Thread nD τ) none Set.univ (m := m) hS) $$ H
  iintro H
  iapply Hk
  iexact H

theorem wp_storeR {α : Type} {Q : α → sProp 𝕄} {cs : CoreSpace} {s : Shape} {e : EltTy} {m : Memref sig .tc cs s e}
    {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {S : Finset (Idx (m.view.loc (c : Thread nD τ)))}
    {f : Buf (Elt F) (m.view.loc (c : Thread nD τ))} (g : Buf (Elt F) (m.view.loc (c : Thread nD τ)))
    (hS : (m.access r).setOn Finset.univ ⊆ S) (hg : ∀ i ∈ S, (m.access r).write (Elt F) f w Finset.univ i = g i) :
    (m.view.loc (c : Thread nD τ) ↦[S]{fullShare} f)
      ⊢ iprop(((m.view.loc (c : Thread nD τ) ↦[S]{fullShare} g) -∗ wpc c (k ⟨⟩) Q)
          -∗ wpc c (.op (.store m r w Finset.univ hx hm) k) Q) := by
  rw [← pointsTo_congr hg]
  exact wp_store 𝒱₀ (c : Thread nD τ) none Set.univ (m := m) (r := r) (Mk := Finset.univ) (S := S) (f := f) hS

theorem memA (c : Dev nD) (y : S1x512x1024.Idx) : y ∈ regA c ↔ (64 * c.val ≤ (y 1).val ∧ (y 1).val < 64 * c.val + 64) ∧ (0 ≤ (y 2).val ∧ (y 2).val < 0 + 512) := by
  unfold regA
  rw [Rect.mem_set_unit, off15_eq]
  constructor
  · intro h; exact ⟨h 1, h 2⟩
  · rintro ⟨h1, h2⟩ a
    match a with
    | 0 => exact ⟨Nat.zero_le _, (y 0).isLt⟩
    | 1 => exact h1
    | 2 => exact h2
theorem rectA (c : Dev nD) : (Rect.unit (s := S1x512x1024) (k0_off14 c) S1x64x512.size (k0_off14_inb c)).set = regA c := by
  ext y
  unfold regA
  rw [Rect.mem_set_unit, Rect.mem_set_unit, off14_eq]
theorem setA (c : Dev nD) : (oM.access (Rect.unit (s := S1x512x1024) (k0_off14 c) S1x64x512.size (k0_off14_inb c))).set = regA c :=
  (View.set_slice_whole cc0_stg0_0 (Rect.unit (s := S1x512x1024) (k0_off14 c) S1x64x512.size (k0_off14_inb c))).trans (rectA c)
theorem ldA (c : Dev nD) : oM.view.setOn (Rect.unit (s := S1x512x1024) (k0_off14 c) S1x64x512.size (k0_off14_inb c)).toLoadRect.set ⊆ regA c := by
  rw [← rectA c]
  intro y hy
  obtain ⟨z, hz, rfl⟩ := Finset.mem_map.mp hy
  exact hz
theorem ssA (c : Dev nD) : (oM.access (Rect.unit (s := S1x512x1024) (k0_off14 c) S1x64x512.size (k0_off14_inb c))).setOn Finset.univ ⊆ regA c := by
  rw [View.setOn_univ, setA]
theorem stA (c : Dev nD) (f : Vec F S1x512x1024 .bf16) : ∀ i ∈ regA c, (oM.access (Rect.unit (s := S1x512x1024) (k0_off14 c) S1x64x512.size (k0_off14_inb c))).write (Elt F) f (k0_pay75 (A.l3 c)) Finset.univ i = A.out i := by
  intro i hi
  obtain ⟨⟨h1, h2⟩, h3, h4⟩ := (memA c i).mp hi
  rw [write_put cc0_stg0_0 (k0_off14 c) S1x64x512.size (k0_off14_inb c) f (k0_pay75 (A.l3 c))]
  unfold put
  have h : ∀ a : Fin cc0_stg0_0.ty.shape.rank, k0_off14 c a ≤ (i a).val ∧ (i a).val < k0_off14 c a + S1x64x512.size a := by
    have := hi
    unfold regA at this
    rw [off14_eq]
    exact Rect.mem_set_unit.mp this
  rw [dif_pos h]
  unfold Args.out
  rw [dif_pos (by omega)]
  have e : (⟨(i 1).val / 64, by show _ < 8; have : (i 1).val < 512 := (i 1).isLt; omega⟩ : Dev nD) = c := Fin.ext (by show (i 1).val / 64 = c.val; omega)
  rw [e]
  refine congrArg _ (funext fun a => Fin.ext ?_)
  have ho : k0_off14 c = ![0, 64 * c.val, 0] := (off14_eq c).trans (off15_eq c)
  match a with
  | 0 => show (i 0).val - k0_off14 c 0 = 0; have : (i 0).val < 1 := (i 0).isLt; omega
  | 1 => show (i 1).val - k0_off14 c 1 = (i 1).val % 64; rw [ho]; show (i 1).val - 64 * c.val = _; omega
  | 2 => show (i 2).val - k0_off14 c 2 = _; rw [ho]; show (i 2).val - 0 = _; exact Nat.sub_zero _

theorem memB (c : Dev nD) (y : S1x512x1024.Idx) : y ∈ regB c ↔ (64 * (posB c).val ≤ (y 1).val ∧ (y 1).val < 64 * (posB c).val + 64) ∧ (512 ≤ (y 2).val ∧ (y 2).val < 512 + 512) := by
  unfold regB
  rw [Rect.mem_set_unit, off19_eq]
  constructor
  · intro h; exact ⟨h 1, h 2⟩
  · rintro ⟨h1, h2⟩ a
    match a with
    | 0 => exact ⟨Nat.zero_le _, (y 0).isLt⟩
    | 1 => exact h1
    | 2 => exact h2
theorem rectB (c : Dev nD) : (Rect.unit (s := S1x512x1024) (k0_off18 c) S1x64x512.size (k0_off18_inb c)).set = regB c := by
  ext y
  unfold regB
  rw [Rect.mem_set_unit, Rect.mem_set_unit, off18_eq]
theorem setB (c : Dev nD) : (oM.access (Rect.unit (s := S1x512x1024) (k0_off18 c) S1x64x512.size (k0_off18_inb c))).set = regB c :=
  (View.set_slice_whole cc0_stg0_0 (Rect.unit (s := S1x512x1024) (k0_off18 c) S1x64x512.size (k0_off18_inb c))).trans (rectB c)
theorem ldB (c : Dev nD) : oM.view.setOn (Rect.unit (s := S1x512x1024) (k0_off18 c) S1x64x512.size (k0_off18_inb c)).toLoadRect.set ⊆ regB c := by
  rw [← rectB c]
  intro y hy
  obtain ⟨z, hz, rfl⟩ := Finset.mem_map.mp hy
  exact hz
theorem ssB (c : Dev nD) : (oM.access (Rect.unit (s := S1x512x1024) (k0_off18 c) S1x64x512.size (k0_off18_inb c))).setOn Finset.univ ⊆ regB c := by
  rw [View.setOn_univ, setB]
theorem stB (c : Dev nD) (f : Vec F S1x512x1024 .bf16) : ∀ i ∈ regB c, (oM.access (Rect.unit (s := S1x512x1024) (k0_off18 c) S1x64x512.size (k0_off18_inb c))).write (Elt F) f (k0_pay77 (A.r3 c)) Finset.univ i = A.out i := by
  intro i hi
  obtain ⟨⟨h1, h2⟩, h3, h4⟩ := (memB c i).mp hi
  rw [write_put cc0_stg0_0 (k0_off18 c) S1x64x512.size (k0_off18_inb c) f (k0_pay77 (A.r3 c))]
  unfold put
  have h : ∀ a : Fin cc0_stg0_0.ty.shape.rank, k0_off18 c a ≤ (i a).val ∧ (i a).val < k0_off18 c a + S1x64x512.size a := by
    have := hi
    unfold regB at this
    rw [off18_eq]
    exact Rect.mem_set_unit.mp this
  rw [dif_pos h]
  unfold Args.out
  rw [dif_neg (by omega)]
  have e : (⟨(i 1).val / 64, by have : (i 1).val < 512 := (i 1).isLt; omega⟩ : Fin 8) = posB c := Fin.ext (by show (i 1).val / 64 = (posB c).val; omega)
  rw [e, ownB_posB]
  refine congrArg _ (funext fun a => Fin.ext ?_)
  have ho : k0_off18 c = ![0, 64 * (posB c).val, 512] := (off18_eq c).trans (off19_eq c)
  match a with
  | 0 => show (i 0).val - k0_off18 c 0 = 0; have : (i 0).val < 1 := (i 0).isLt; omega
  | 1 => show (i 1).val - k0_off18 c 1 = (i 1).val % 64; rw [ho]; show (i 1).val - 64 * (posB c).val = _; omega
  | 2 => show (i 2).val - k0_off18 c 2 = _; rw [ho]; show (i 2).val - 512 = _; rfl

end Cert.AttnProof

end
-- ==== Proof.Ag.lean ====
/-
# The all-gather's sends and waits, part by part
-/
module

public import proofs.«01_k».proof.Proof.Ag0

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable (A : Args F) (K : Dev nD × Ck → ℕ) {c : Dev nD}

def P19 (c : Dev nD) (_ : Vec F S512x1024 .bf16) (g : Vec F S512x1024 .f32) : Prop :=
  Blk 64 1 (kB3 c) (quar (A.r2 c) (bt2 c)) g

set_option maxHeartbeats 1600000 in
theorem wp_pr19 (w1 w2 : BitVec 32) {Kt : _ → sProp 𝕄} :
    iprop(records A.vals K ∗ Ow c (owT c 6) ∗ pend c 6 ∗ bufs c (P18 A c) ∗ (∃ f : Vec F S1x512x1024 .bf16, (c : Thread nD τ).loc cc0_stg0_0 ↦[regA c]{fullShare} f)
        ∗ (∀ u1 u2, (agS (F := F) c 1 ∗ lendA A c 1 ∗ bufs c (P19 A c)) -∗ Kt ⟨u1, u2⟩))
      ⊢ wpc c (pr19 (F := F) c w1 w2 (quar (A.l2 c) (bt0 c)) (k0_pay73 (A.sa2 (cx c 0)))) Kt := by
  simp only [pr19, k0_part19_eq_skeleton]; unfold k0_part19_skel bufs
  simp only [semSignalWord, semWaitWord, Prog.lift, Prog.bind_op, Prog.bind_ret, Prog.pure_eq_ret]
  iintro ⟨#HR, HO, HP, ⟨%f, %g, %hfg, Hf, Hg⟩, ⟨%fo, Ho⟩, Hk'⟩
  obtain ⟨hL, hR⟩ := hfg
  iapply (wp_loadW (m := Memref.whole cc0_scratch6) _ rfl) $$ Hg; iintro Hg
  iapply (wp_storeW (m := Memref.whole cc0_scratch6) (put (s := S512x1024) g (k0_off12 c) S64x512.size (A.l3 c)) (write_put cc0_scratch6 _ _ _ _ _)) $$ Hg; iintro Hg
  iapply (wp_loadV (m := Memref.whole cc0_scratch6) (off := (k0_off13 c)) (size := S64x512.size) (f := (put (s := S512x1024) g (k0_off12 c) S64x512.size (A.l3 c))) ((put (s := S512x1024) g (k0_off12 c) S64x512.size (A.l3 c))) rfl (A.l3 c) (Blk.load (show Blk 64 0 (kA3 c) (A.l3 c) _ from Blk.store _ _ (off12_eq c)) (off13_eq c) _)) $$ Hg; iintro Hg
  iapply (wp_loadR (m := oM) (S := regA c) (f := fo) (ldA c)) $$ Ho
  iintro %_ Ho
  iapply (wp_storeR (m := oM) (S := regA c) (f := fo) A.out (ssA c) (stA A c fo)) $$ Ho
  iintro Ho
  ihave HL := (lendA_zero A c) $$ Ho
  ihave HS := (agS_zero c) $$ [HP HO]
  · isplitl [HP] <;> iassumption
  iapply (wp_agA A K (c := c) 0 _ (dev14_eq c) 0 rfl rfl rfl) $$ [HS HL]
  · isplitr; · iexact HR
    isplitl [HS]; · iexact HS
    iexact HL
  iintro ⟨HS, HL⟩
  iapply wpc_ret
  ispecialize Hk' $$ %_ %_ [HS HL Hf Hg]
  rotate_left
  · iexact Hk'
  · isplitl [HS]
    · iexact HS
    isplitl [HL]
    · iexact HL
    iexists _, _
    isplitr [Hf Hg]
    rotate_left
    · isplitl [Hf]; · iexact Hf
      iexact Hg
    · ipureintro
      exact hR.keep (h' := 0) (by decide) (off12_eq c) _

set_option maxHeartbeats 1600000 in
theorem wp_pr20 (w1 : BitVec 32) {Kt : _ → sProp 𝕄} :
    iprop(records A.vals K ∗ agS c 1 ∗ lendA A c 1
        ∗ (∀ u1 u2 u3, (agS (F := F) c 4 ∗ lendA A c 4) -∗ Kt ⟨u1, u2, u3⟩))
      ⊢ wpc c (pr20 (F := F) c w1) Kt := by
  simp only [pr20, k0_part20_eq_skeleton]; unfold k0_part20_skel
  simp only [semSignalWord, semWaitWord, Prog.lift, Prog.bind_op, Prog.bind_ret, Prog.pure_eq_ret]
  iintro ⟨#HR, HS, HL, Hk'⟩
  iapply (wp_agA A K (c := c) 1 _ (dev15_eq c) 1 rfl rfl rfl) $$ [HS HL]
  · isplitr; · iexact HR
    isplitl [HS]; · iexact HS
    iexact HL
  iintro ⟨HS, HL⟩
  iapply (wp_agA A K (c := c) 2 _ (dev16_eq c) 2 rfl rfl rfl) $$ [HS HL]
  · isplitr; · iexact HR
    isplitl [HS]; · iexact HS
    iexact HL
  iintro ⟨HS, HL⟩
  iapply (wp_agA A K (c := c) 3 _ (dev17_eq c) 3 rfl rfl rfl) $$ [HS HL]
  · isplitr; · iexact HR
    isplitl [HS]; · iexact HS
    iexact HL
  iintro ⟨HS, HL⟩
  iapply wpc_ret
  ispecialize Hk' $$ %_ %_ %_ [HS HL]
  rotate_left
  · iexact Hk'
  · isplitl [HS] <;> iassumption

set_option maxHeartbeats 1600000 in
theorem wp_pr21 (w1 w2 : BitVec 32) {Kt : _ → sProp 𝕄} :
    iprop(records A.vals K ∗ agS c 4 ∗ lendA A c 4
        ∗ (∀ u1 u2 u3, (agS (F := F) c 7 ∗ lendA A c 7) -∗ Kt ⟨u1, u2, u3⟩))
      ⊢ wpc c (pr21 (F := F) c w1 w2) Kt := by
  simp only [pr21, k0_part21_eq_skeleton]; unfold k0_part21_skel
  simp only [semSignalWord, semWaitWord, Prog.lift, Prog.bind_op, Prog.bind_ret, Prog.pure_eq_ret]
  iintro ⟨#HR, HS, HL, Hk'⟩
  iapply (wp_agA A K (c := c) 4 _ (dev18_eq c) 4 rfl rfl rfl) $$ [HS HL]
  · isplitr; · iexact HR
    isplitl [HS]; · iexact HS
    iexact HL
  iintro ⟨HS, HL⟩
  iapply (wp_agA A K (c := c) 5 _ (dev19_eq c) 5 rfl rfl rfl) $$ [HS HL]
  · isplitr; · iexact HR
    isplitl [HS]; · iexact HS
    iexact HL
  iintro ⟨HS, HL⟩
  iapply (wp_agA A K (c := c) 6 _ (dev20_eq c) 6 rfl rfl rfl) $$ [HS HL]
  · isplitr; · iexact HR
    isplitl [HS]; · iexact HS
    iexact HL
  iintro ⟨HS, HL⟩
  iapply wpc_ret
  ispecialize Hk' $$ %_ %_ %_ [HS HL]
  rotate_left
  · iexact Hk'
  · isplitl [HS] <;> iassumption

set_option maxHeartbeats 1600000 in
theorem wp_pr22 (w1 w2 w3 : BitVec 32) {Kt : _ → sProp 𝕄} :
    iprop(records A.vals K ∗ agS c 7 ∗ midT (F := F) c (.inl 5) ∗ bufs c (P19 A c) ∗ (∃ f : Vec F S1x512x1024 .bf16, (c : Thread nD τ).loc cc0_stg0_0 ↦[regB c]{fullShare} f)
        ∗ (∀ u1 u2, (agS (F := F) c 8 ∗ lendB A c 1 ∗ rsDone (F := F) c 5 ∗ bufs c (fun _ _ => True)) -∗ Kt ⟨u1, u2⟩))
      ⊢ wpc c (pr22 (F := F) c w1 w2 w3) Kt := by
  simp only [pr22, k0_part22_eq_skeleton]; unfold k0_part22_skel bufs
  simp only [semSignalWord, semWaitWord, Prog.lift, Prog.bind_op, Prog.bind_ret, Prog.pure_eq_ret]
  iintro ⟨#HR, HS, ⟨Hsn5, Hrc5⟩, ⟨%f, %g, %hR, Hf, Hg⟩, ⟨%fo, Ho⟩, Hk'⟩
  ihave HS' := (Entails.of_eq rfl : agS (F := F) c 7 ⊢ iprop(pend (F := F) c (6 + 7) ∗ Ow c (owT c (6 + 7)) ∗ lo (sndU c) 7 ∗ lo (rcvU c) 7)) $$ HS
  icases HS' with ⟨HP, HO, Hq, Hr⟩
  iapply (wp_waitS A.vals K (c := c) (.inl 5) (src := Memref.whole cc0_scratch18) (dst := Memref.whole cc0_scratch12) rfl rfl 13) $$ [HO Hsn5]
  · isplitr; · iexact HR
    isplitl [Hsn5]; · iexact Hsn5
    iexact HO
  iintro ⟨Hzs, Hps, HO⟩
  iapply (wp_waitR A.vals K (c := c) (.inl 5) (src := Memref.whole cc0_scratch12) (dst := Memref.whole cc0_scratch18) rfl rfl 13 (by decide)) $$ [HO Hrc5]
  · isplitr; · iexact HR
    isplitl [Hrc5]; · iexact Hrc5
    iexact HO
  iintro ⟨Hzr, Hpr, HO⟩
  ihave Hs := (pS5 A c) $$ Hps
  ihave Hd := (pR5 A c) $$ Hpr
  iapply (wp_loadV (m := Memref.whole cc0_scratch6) (off := (k0_off16 c)) (size := S64x512.size) (f := g) (g) rfl (quar (A.r2 c) (bt2 c)) (Blk.load hR (off16_eq c) _)) $$ Hg; iintro Hg
  iapply (wp_loadF (m := Memref.whole cc0_scratch18) (f := (A.sb2 (cx c 3))) (A.sb2 (cx c 3)) rfl) $$ Hd; iintro Hd
  iapply (wp_loadW (m := Memref.whole cc0_scratch6) _ rfl) $$ Hg; iintro Hg
  iapply (wp_storeW (m := Memref.whole cc0_scratch6) (put (s := S512x1024) g (k0_off16 c) S64x512.size (A.r3 c)) (write_put cc0_scratch6 _ _ _ _ _)) $$ Hg; iintro Hg
  iapply (wp_loadV (m := Memref.whole cc0_scratch6) (off := (k0_off17 c)) (size := S64x512.size) (f := (put (s := S512x1024) g (k0_off16 c) S64x512.size (A.r3 c))) ((put (s := S512x1024) g (k0_off16 c) S64x512.size (A.r3 c))) rfl (A.r3 c) (Blk.load (show Blk 64 1 (kB3 c) (A.r3 c) _ from Blk.store _ _ (off16_eq c)) (off17_eq c) _)) $$ Hg; iintro Hg
  iapply (wp_loadR (m := oM) (S := regB c) (f := fo) (ldB c)) $$ Ho
  iintro %_ Ho
  iapply (wp_storeR (m := oM) (S := regB c) (f := fo) A.out (ssB c) (stB A c fo)) $$ Ho
  iintro Ho
  ihave HL := (lendB_zero A c) $$ Ho
  ihave HD := (rD5 c _ _) $$ [Hzs Hzr Hs Hd]
  · isplitl [Hzs]; · iexact Hzs
    isplitl [Hzr]; · iexact Hzr
    isplitl [Hs]; · iexact Hs
    iexact Hd
  ihave HS := (Entails.of_eq rfl : iprop(pend (F := F) c (6 + 7) ∗ Ow c (owT c (6 + 7)) ∗ lo (sndU c) 7 ∗ lo (rcvU c) 7) ⊢ agS (F := F) c 7) $$ [HP HO Hq Hr]
  · isplitl [HP]; · iexact HP
    isplitl [HO]; · iexact HO
    isplitl [Hq] <;> iassumption
  iapply (wp_agB A K (c := c) 0 _ (dev21_eq c) 0 rfl rfl rfl) $$ [HS HL]
  · isplitr; · iexact HR
    isplitl [HS]; · iexact HS
    iexact HL
  iintro ⟨HS, HL⟩
  iapply wpc_ret
  ispecialize Hk' $$ %_ %_ [HS HL HD Hf Hg]
  rotate_left
  · iexact Hk'
  · isplitl [HS]
    · iexact HS
    isplitl [HL]
    · iexact HL
    isplitl [HD]
    · iexact HD
    iexists _, _
    isplitr [Hf Hg]
    rotate_left
    · isplitl [Hf]; · iexact Hf
      iexact Hg
    · ipureintro
      exact trivial

set_option maxHeartbeats 1600000 in
theorem wp_pr23 (w1 w2 : BitVec 32) {Kt : _ → sProp 𝕄} :
    iprop(records A.vals K ∗ agS c 8 ∗ lendB A c 1
        ∗ (∀ u1 u2, (agS (F := F) c 10 ∗ lendB A c 3) -∗ Kt ⟨u1, u2⟩))
      ⊢ wpc c (pr23 (F := F) c w1 w2) Kt := by
  simp only [pr23, k0_part23_eq_skeleton]; unfold k0_part23_skel
  simp only [semSignalWord, semWaitWord, Prog.lift, Prog.bind_op, Prog.bind_ret, Prog.pure_eq_ret]
  iintro ⟨#HR, HS, HL, Hk'⟩
  iapply (wp_agB A K (c := c) 1 _ (dev22_eq c) 1 rfl rfl rfl) $$ [HS HL]
  · isplitr; · iexact HR
    isplitl [HS]; · iexact HS
    iexact HL
  iintro ⟨HS, HL⟩
  iapply (wp_agB A K (c := c) 2 _ (dev23_eq c) 2 rfl rfl rfl) $$ [HS HL]
  · isplitr; · iexact HR
    isplitl [HS]; · iexact HS
    iexact HL
  iintro ⟨HS, HL⟩
  iapply wpc_ret
  ispecialize Hk' $$ %_ %_ [HS HL]
  rotate_left
  · iexact Hk'
  · isplitl [HS] <;> iassumption

set_option maxHeartbeats 1600000 in
theorem wp_pr24 (w1 : BitVec 32) {Kt : _ → sProp 𝕄} :
    iprop(records A.vals K ∗ agS c 10 ∗ lendB A c 3
        ∗ (∀ u1 u2 u3, (agS (F := F) c 13 ∗ lendB A c 6) -∗ Kt ⟨u1, u2, u3⟩))
      ⊢ wpc c (pr24 (F := F) c w1) Kt := by
  simp only [pr24, k0_part24_eq_skeleton]; unfold k0_part24_skel
  simp only [semSignalWord, semWaitWord, Prog.lift, Prog.bind_op, Prog.bind_ret, Prog.pure_eq_ret]
  iintro ⟨#HR, HS, HL, Hk'⟩
  iapply (wp_agB A K (c := c) 3 _ (dev24_eq c) 3 rfl rfl rfl) $$ [HS HL]
  · isplitr; · iexact HR
    isplitl [HS]; · iexact HS
    iexact HL
  iintro ⟨HS, HL⟩
  iapply (wp_agB A K (c := c) 4 _ (dev25_eq c) 4 rfl rfl rfl) $$ [HS HL]
  · isplitr; · iexact HR
    isplitl [HS]; · iexact HS
    iexact HL
  iintro ⟨HS, HL⟩
  iapply (wp_agB A K (c := c) 5 _ (dev26_eq c) 5 rfl rfl rfl) $$ [HS HL]
  · isplitr; · iexact HR
    isplitl [HS]; · iexact HS
    iexact HL
  iintro ⟨HS, HL⟩
  iapply wpc_ret
  ispecialize Hk' $$ %_ %_ %_ [HS HL]
  rotate_left
  · iexact Hk'
  · isplitl [HS] <;> iassumption

set_option maxHeartbeats 1600000 in
theorem wp_pr25 (w1 w2 : BitVec 32) {Kt : _ → sProp 𝕄} :
    iprop(records A.vals K ∗ agS c 13 ∗ lendB A c 6
        ∗ ((wt A c 2 1 ∗ lendB A c 7) -∗ Kt ⟨⟩))
      ⊢ wpc c (pr25 (F := F) c w1 w2) Kt := by
  simp only [pr25, k0_part25_eq_skeleton]; unfold k0_part25_skel
  simp only [semSignalWord, semWaitWord, Prog.lift, Prog.bind_op, Prog.bind_ret, Prog.pure_eq_ret]
  iintro ⟨#HR, HS, HL, Hk'⟩
  iapply (wp_agB A K (c := c) 6 _ (dev27_eq c) 6 rfl rfl rfl) $$ [HS HL]
  · isplitr; · iexact HR
    isplitl [HS]; · iexact HS
    iexact HL
  iintro ⟨HS, HL⟩
  ihave HW := (agS_end A c) $$ HS
  iapply (wp_agWS A K (c := c) (.inl 0) 0 0 rfl (src := blkA c) (dst := blkA c) rfl rfl) $$ [HW]
  · isplitr; · iexact HR
    iexact HW
  iintro HW
  iapply (wp_agWR A K (c := c) (.inl 0) 1 0 rfl (src := blkA c) (dst := blkA c) rfl rfl) $$ [HW]
  · isplitr; · iexact HR
    iexact HW
  iintro HW
  iapply (wp_agWS A K (c := c) (.inl 1) 1 1 rfl (src := blkA c) (dst := blkA c) rfl rfl) $$ [HW]
  · isplitr; · iexact HR
    iexact HW
  iintro HW
  iapply wpc_ret
  iapply Hk'
  isplitl [HW] <;> iassumption

set_option maxHeartbeats 1600000 in
theorem wp_pr26 (w1 w2 : BitVec 32) {Kt : _ → sProp 𝕄} :
    iprop(records A.vals K ∗ wt A c 2 1
        ∗ ((wt A c 4 3) -∗ Kt ⟨⟩))
      ⊢ wpc c (pr26 (F := F) c w1 w2) Kt := by
  simp only [pr26, k0_part26_eq_skeleton]; unfold k0_part26_skel
  simp only [semSignalWord, semWaitWord, Prog.lift, Prog.bind_op, Prog.bind_ret, Prog.pure_eq_ret]
  iintro ⟨#HR, HW, Hk'⟩
  iapply (wp_agWR A K (c := c) (.inl 1) 2 1 rfl (src := blkA c) (dst := blkA c) rfl rfl) $$ [HW]
  · isplitr; · iexact HR
    iexact HW
  iintro HW
  iapply (wp_agWS A K (c := c) (.inl 2) 2 2 rfl (src := blkA c) (dst := blkA c) rfl rfl) $$ [HW]
  · isplitr; · iexact HR
    iexact HW
  iintro HW
  iapply (wp_agWR A K (c := c) (.inl 2) 3 2 rfl (src := blkA c) (dst := blkA c) rfl rfl) $$ [HW]
  · isplitr; · iexact HR
    iexact HW
  iintro HW
  iapply (wp_agWS A K (c := c) (.inl 3) 3 3 rfl (src := blkA c) (dst := blkA c) rfl rfl) $$ [HW]
  · isplitr; · iexact HR
    iexact HW
  iintro HW
  iapply wpc_ret
  iapply Hk'
  iexact HW

set_option maxHeartbeats 1600000 in
theorem wp_pr27 (w1 w2 : BitVec 32) {Kt : _ → sProp 𝕄} :
    iprop(records A.vals K ∗ wt A c 4 3
        ∗ (∀ u1, (wt A c 6 5) -∗ Kt ⟨u1, 0#32⟩))
      ⊢ wpc c (pr27 (F := F) c w1 w2) Kt := by
  simp only [pr27, k0_part27_eq_skeleton]; unfold k0_part27_skel
  simp only [semSignalWord, semWaitWord, Prog.lift, Prog.bind_op, Prog.bind_ret, Prog.pure_eq_ret]
  iintro ⟨#HR, HW, Hk'⟩
  iapply (wp_agWR A K (c := c) (.inl 3) 4 3 rfl (src := blkA c) (dst := blkA c) rfl rfl) $$ [HW]
  · isplitr; · iexact HR
    iexact HW
  iintro HW
  iapply (wp_agWS A K (c := c) (.inl 4) 4 4 rfl (src := blkA c) (dst := blkA c) rfl rfl) $$ [HW]
  · isplitr; · iexact HR
    iexact HW
  iintro HW
  iapply (wp_agWR A K (c := c) (.inl 4) 5 4 rfl (src := blkA c) (dst := blkA c) rfl rfl) $$ [HW]
  · isplitr; · iexact HR
    iexact HW
  iintro HW
  iapply (wp_agWS A K (c := c) (.inl 5) 5 5 rfl (src := blkA c) (dst := blkA c) rfl rfl) $$ [HW]
  · isplitr; · iexact HR
    iexact HW
  iintro HW
  iapply wpc_ret
  iapply Hk' $$ %_
  iexact HW

set_option maxHeartbeats 1600000 in
theorem wp_pr28 (w1 w2 w3 : BitVec 32) {Kt : _ → sProp 𝕄} :
    iprop(records A.vals K ∗ wt A c 6 5
        ∗ ((wt A c 8 7) -∗ Kt 1#32))
      ⊢ wpc c (pr28 (F := F) c w1 w2 w3) Kt := by
  simp only [pr28, k0_part28_eq_skeleton]; unfold k0_part28_skel
  simp only [semSignalWord, semWaitWord, Prog.lift, Prog.bind_op, Prog.bind_ret, Prog.pure_eq_ret]
  iintro ⟨#HR, HW, Hk'⟩
  iapply (wp_agWR A K (c := c) (.inl 5) 6 5 rfl (src := blkA c) (dst := blkA c) rfl rfl) $$ [HW]
  · isplitr; · iexact HR
    iexact HW
  iintro HW
  iapply (wp_agWS A K (c := c) (.inl 6) 6 6 rfl (src := blkA c) (dst := blkA c) rfl rfl) $$ [HW]
  · isplitr; · iexact HR
    iexact HW
  iintro HW
  iapply (wp_agWR A K (c := c) (.inl 6) 7 6 rfl (src := blkA c) (dst := blkA c) rfl rfl) $$ [HW]
  · isplitr; · iexact HR
    iexact HW
  iintro HW
  iapply (wp_agWS A K (c := c) (.inr 0) 7 7 rfl (src := blkB c) (dst := blkB c) rfl rfl) $$ [HW]
  · isplitr; · iexact HR
    iexact HW
  iintro HW
  iapply wpc_ret
  iapply Hk'
  iexact HW

set_option maxHeartbeats 1600000 in
theorem wp_pr29 (w1 w2 w3 : BitVec 32) {Kt : _ → sProp 𝕄} :
    iprop(records A.vals K ∗ wt A c 8 7
        ∗ ((wt A c 10 9) -∗ Kt ⟨⟩))
      ⊢ wpc c (pr29 (F := F) c w1 w2 w3) Kt := by
  simp only [pr29, k0_part29_eq_skeleton]; unfold k0_part29_skel
  simp only [semSignalWord, semWaitWord, Prog.lift, Prog.bind_op, Prog.bind_ret, Prog.pure_eq_ret]
  iintro ⟨#HR, HW, Hk'⟩
  iapply (wp_agWR A K (c := c) (.inr 0) 8 7 rfl (src := blkB c) (dst := blkB c) rfl rfl) $$ [HW]
  · isplitr; · iexact HR
    iexact HW
  iintro HW
  iapply (wp_agWS A K (c := c) (.inr 1) 8 8 rfl (src := blkB c) (dst := blkB c) rfl rfl) $$ [HW]
  · isplitr; · iexact HR
    iexact HW
  iintro HW
  iapply (wp_agWR A K (c := c) (.inr 1) 9 8 rfl (src := blkB c) (dst := blkB c) rfl rfl) $$ [HW]
  · isplitr; · iexact HR
    iexact HW
  iintro HW
  iapply (wp_agWS A K (c := c) (.inr 2) 9 9 rfl (src := blkB c) (dst := blkB c) rfl rfl) $$ [HW]
  · isplitr; · iexact HR
    iexact HW
  iintro HW
  iapply wpc_ret
  iapply Hk'
  iexact HW

set_option maxHeartbeats 1600000 in
theorem wp_pr30 (w1 w2 : BitVec 32) {Kt : _ → sProp 𝕄} :
    iprop(records A.vals K ∗ wt A c 10 9
        ∗ ((wt A c 12 11) -∗ Kt ⟨⟩))
      ⊢ wpc c (pr30 (F := F) c w1 w2) Kt := by
  simp only [pr30, k0_part30_eq_skeleton]; unfold k0_part30_skel
  simp only [semSignalWord, semWaitWord, Prog.lift, Prog.bind_op, Prog.bind_ret, Prog.pure_eq_ret]
  iintro ⟨#HR, HW, Hk'⟩
  iapply (wp_agWR A K (c := c) (.inr 2) 10 9 rfl (src := blkB c) (dst := blkB c) rfl rfl) $$ [HW]
  · isplitr; · iexact HR
    iexact HW
  iintro HW
  iapply (wp_agWS A K (c := c) (.inr 3) 10 10 rfl (src := blkB c) (dst := blkB c) rfl rfl) $$ [HW]
  · isplitr; · iexact HR
    iexact HW
  iintro HW
  iapply (wp_agWR A K (c := c) (.inr 3) 11 10 rfl (src := blkB c) (dst := blkB c) rfl rfl) $$ [HW]
  · isplitr; · iexact HR
    iexact HW
  iintro HW
  iapply (wp_agWS A K (c := c) (.inr 4) 11 11 rfl (src := blkB c) (dst := blkB c) rfl rfl) $$ [HW]
  · isplitr; · iexact HR
    iexact HW
  iintro HW
  iapply wpc_ret
  iapply Hk'
  iexact HW

set_option maxHeartbeats 1600000 in
theorem wp_pr31 (w1 w2 : BitVec 32) {Kt : _ → sProp 𝕄} :
    iprop(records A.vals K ∗ wt A c 12 11
        ∗ ((wt A c 13 13) -∗ Kt ⟨⟩))
      ⊢ wpc c (pr31 (F := F) c w1 w2) Kt := by
  simp only [pr31, k0_part31_eq_skeleton]; unfold k0_part31_skel
  simp only [semSignalWord, semWaitWord, Prog.lift, Prog.bind_op, Prog.bind_ret, Prog.pure_eq_ret]
  iintro ⟨#HR, HW, Hk'⟩
  iapply (wp_agWR A K (c := c) (.inr 4) 12 11 rfl (src := blkB c) (dst := blkB c) rfl rfl) $$ [HW]
  · isplitr; · iexact HR
    iexact HW
  iintro HW
  iapply (wp_agWS A K (c := c) (.inr 5) 12 12 rfl (src := blkB c) (dst := blkB c) rfl rfl) $$ [HW]
  · isplitr; · iexact HR
    iexact HW
  iintro HW
  iapply (wp_agWR A K (c := c) (.inr 5) 13 12 rfl (src := blkB c) (dst := blkB c) rfl rfl) $$ [HW]
  · isplitr; · iexact HR
    iexact HW
  iintro HW
  iapply wpc_ret
  iapply Hk'
  iexact HW

end Cert.AttnProof

end
-- ==== Proof.Body.lean ====
/-
# One device's run of the whole body
-/
module

public import proofs.«01_k».proof.Proof.Ag

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable (A : Args F) (K : Dev nD × Ck → ℕ) {c : Dev nD}

def ownPay (c : Dev nD) (d : Fin 7) : sProp 𝕄 := iprop(tokB (F := F) c d ∗ barPay (F := F) (cx c d) d)
def ownReg (c : Dev nD) : sProp 𝕄 :=
  iprop((∃ f : Vec F S1x512x1024 .bf16, (c : Thread nD τ).loc cc0_stg0_0 ↦[regA c]{fullShare} f)
    ∗ (∃ f : Vec F S1x512x1024 .bf16, (c : Thread nD τ).loc cc0_stg0_0 ↦[regB c]{fullShare} f))
def anys (c : Dev nD) : sProp 𝕄 :=
  iprop(anyS (F := F) c cc0_scratch7 ∗ anyS (F := F) c cc0_scratch8 ∗ anyS (F := F) c cc0_scratch9 ∗ anyS (F := F) c cc0_scratch10 ∗ anyS (F := F) c cc0_scratch11 ∗ anyS (F := F) c cc0_scratch12)

def runPre (c : Dev nD) : sProp 𝕄 :=
  iprop(Ow (F := F) c (owT c 0 + owB c 0) ∗ (tokL (F := F) c 0 ∗ tokL (F := F) c 1 ∗ tokL (F := F) c 2 ∗ tokL (F := F) c 3 ∗ tokL (F := F) c 4)
    ∗ argsIn A c ∗ dsts (F := F) c
    ∗ (ownPay (F := F) c 0 ∗ ownPay (F := F) c 1 ∗ ownPay (F := F) c 2 ∗ ownPay (F := F) c 3 ∗ ownPay (F := F) c 4 ∗ ownPay (F := F) c 5 ∗ ownPay (F := F) c 6)
    ∗ ownB (F := F) c ∗ (bigSep Finset.univ fun t : T => tokT (F := F) c t)
    ∗ bufs (F := F) c (fun _ _ => True) ∗ anys (F := F) c ∗ ownReg (F := F) c)
def runPost (c : Dev nD) : sProp 𝕄 :=
  iprop((doneL A c 0 ∗ doneL A c 1 ∗ doneL A c 2 ∗ doneL A c 3 ∗ doneL A c 4) ∗ semVal (barCell c) 0
    ∗ (rsDone (F := F) c 0 ∗ rsDone (F := F) c 1 ∗ rsDone (F := F) c 2 ∗ rsDone (F := F) c 3 ∗ rsDone (F := F) c 4 ∗ rsDone (F := F) c 5)
    ∗ bufs (F := F) c (fun _ _ => True) ∗ wt A c 14 14 ∗ lendA A c 7 ∗ lendB A c 7)

abbrev bodyP := cc0_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23

set_option maxHeartbeats 3200000 in
theorem wp_body {Kt : _ → sProp 𝕄} : iprop(records A.vals K ∗ runPre A c ∗ (runPost A c -∗ Kt ⟨⟩)) ⊢ wpc c (bodyP (F := F)) Kt := by
  simp only [bodyP, cc0_body_eq_skeleton]; unfold cc0_body_skel
  unfold runPre runPost anys ownReg ownPay
  iintro ⟨#HR, ⟨HO, HtL, Hargs, Hdst, ⟨HB0, HB1, HB2, HB3, HB4, HB5, HB6⟩, HoB, Htok, Hbuf, ⟨H7, H8, H9, H10, H11, H12⟩, HrA, HrB⟩, Hk⟩
  iapply wpc_bind
  iapply (wp_pr9 A K (c := c))
  isplitr; · iexact HR
  isplitl [HO]; · iexact HO
  isplitl [HtL]; · iexact HtL
  isplitl [Hargs]; · iexact Hargs
  isplitl [Hdst]; · iexact Hdst
  isplitl [HB0]; · iexact HB0
  isplitl [HB1]; · iexact HB1
  iintro %_ ⟨⟨M0, M1, M2, M3, M4⟩, HO⟩
  try dsimp only
  iapply wpc_bind
  iapply (wp_pr10 A K (c := c) _ _)
  isplitr; · iexact HR
  isplitl [HO]; · iexact HO
  isplitl [M0 M1]
  · isplitl [M0]; · iexact M0
    iexact M1
  isplitl [HB2]; · iexact HB2
  isplitl [HB3]; · iexact HB3
  isplitl [HB4]; · iexact HB4
  isplitl [HB5]; · iexact HB5
  isplitl [HB6]; · iexact HB6
  iintro ⟨D0, D1, HO⟩
  try dsimp only
  iapply wpc_bind
  iapply (wp_pr11 A K (c := c))
  isplitr; · iexact HR
  isplitl [HO]; · iexact HO
  isplitl [M2 M3 M4]
  · isplitl [M2]; · iexact M2
    isplitl [M3]; · iexact M3
    iexact M4
  isplitl [Hbuf]; · iexact Hbuf
  iintro %v81 %v83 %hv ⟨D2, D3, D4, HO, Hbuf⟩
  try dsimp only
  iapply wpc_bind
  iapply (wp_pr12 A K (c := c) _ v81 v83 hv.1 hv.2)
  isplitr; · iexact HR
  isplitl [HO]; · iexact HO
  isplitl [HoB]; · iexact HoB
  isplitl [Htok]; · iexact Htok
  isplitl [Hbuf]; · iexact Hbuf
  isplitl [H7]; · iexact H7
  iintro %_ %b %hb ⟨Hbar, HP, T0, HO, Hbuf⟩
  try dsimp only
  iapply wpc_bind
  iapply (wp_pr13 A K (c := c) _ v81 v83 b hv.1 hv.2 hb)
  isplitr; · iexact HR
  isplitl [HO]; · iexact HO
  isplitl [HP]; · iexact HP
  isplitl [Hbuf]; · iexact Hbuf
  isplitl [H10]; · iexact H10
  iintro %_ %_ ⟨HP, T1, HO, Hbuf⟩
  try dsimp only
  iapply wpc_bind
  iapply (wp_pr14 A K (c := c) _ _ _ _ _)
  isplitr; · iexact HR
  isplitl [HO]; · iexact HO
  isplitl [T0]; · iexact T0
  isplitl [Hbuf]; · iexact Hbuf
  isplitl [H8]; · iexact H8
  iintro %_ %_ ⟨R0, HO, H8, Hbuf⟩
  try dsimp only
  iapply wpc_bind
  iapply (wp_pr15 A K (c := c) _ _)
  isplitr; · iexact HR
  isplitl [HO]; · iexact HO
  isplitl [HP]; · iexact HP
  isplitl [H8]; · iexact H8
  isplitl [T1]; · iexact T1
  isplitl [Hbuf]; · iexact Hbuf
  isplitl [H11]; · iexact H11
  iintro %_ ⟨HP, T2, R1, HO, H11, Hbuf⟩
  try dsimp only
  iapply wpc_bind
  iapply (wp_pr16 A K (c := c) _ _ _)
  isplitr; · iexact HR
  isplitl [HO]; · iexact HO
  isplitl [HP]; · iexact HP
  isplitl [T2]; · iexact T2
  isplitl [Hbuf]; · iexact Hbuf
  isplitl [H11]; · iexact H11
  iintro %_ %_ ⟨HP, T3, R2, HO, Hbuf⟩
  try dsimp only
  iapply wpc_bind
  iapply (wp_pr17 A K (c := c) _ _ _)
  isplitr; · iexact HR
  isplitl [HO]; · iexact HO
  isplitl [HP]; · iexact HP
  isplitl [T3]; · iexact T3
  isplitl [Hbuf]; · iexact Hbuf
  isplitl [H9]; · iexact H9
  iintro %_ %_ ⟨HP, T4, R3, HO, Hbuf⟩
  try dsimp only
  iapply wpc_bind
  iapply (wp_pr18 A K (c := c) _ _ _ _ _)
  isplitr; · iexact HR
  isplitl [HO]; · iexact HO
  isplitl [HP]; · iexact HP
  isplitl [T4]; · iexact T4
  isplitl [Hbuf]; · iexact Hbuf
  isplitl [H12]; · iexact H12
  iintro %_ %_ ⟨HP, T5, R4, HO, Hbuf⟩
  try dsimp only
  iapply wpc_bind
  iapply (wp_pr19 A K (c := c) _ _)
  isplitr; · iexact HR
  isplitl [HO]; · iexact HO
  isplitl [HP]; · iexact HP
  isplitl [Hbuf]; · iexact Hbuf
  isplitl [HrA]; · iexact HrA
  iintro %_ %_ ⟨HS, HLA, Hbuf⟩
  try dsimp only
  iapply wpc_bind
  iapply (wp_pr20 A K (c := c) _)
  isplitr; · iexact HR
  isplitl [HS]; · iexact HS
  isplitl [HLA]; · iexact HLA
  iintro %_ %_ %_ ⟨HS, HLA⟩
  try dsimp only
  iapply wpc_bind
  iapply (wp_pr21 A K (c := c) _ _)
  isplitr; · iexact HR
  isplitl [HS]; · iexact HS
  isplitl [HLA]; · iexact HLA
  iintro %_ %_ %_ ⟨HS, HLA⟩
  try dsimp only
  iapply wpc_bind
  iapply (wp_pr22 A K (c := c) _ _ _)
  isplitr; · iexact HR
  isplitl [HS]; · iexact HS
  isplitl [T5]; · iexact T5
  isplitl [Hbuf]; · iexact Hbuf
  isplitl [HrB]; · iexact HrB
  iintro %_ %_ ⟨HS, HLB, R5, Hbuf⟩
  try dsimp only
  iapply wpc_bind
  iapply (wp_pr23 A K (c := c) _ _)
  isplitr; · iexact HR
  isplitl [HS]; · iexact HS
  isplitl [HLB]; · iexact HLB
  iintro %_ %_ ⟨HS, HLB⟩
  try dsimp only
  iapply wpc_bind
  iapply (wp_pr24 A K (c := c) _)
  isplitr; · iexact HR
  isplitl [HS]; · iexact HS
  isplitl [HLB]; · iexact HLB
  iintro %_ %_ %_ ⟨HS, HLB⟩
  try dsimp only
  iapply wpc_bind
  iapply (wp_pr25 A K (c := c) _ _)
  isplitr; · iexact HR
  isplitl [HS]; · iexact HS
  isplitl [HLB]; · iexact HLB
  iintro ⟨HW, HLB⟩
  try dsimp only
  iapply wpc_bind
  iapply (wp_pr26 A K (c := c) _ _)
  isplitr; · iexact HR
  isplitl [HW]; · iexact HW
  iintro HW
  try dsimp only
  iapply wpc_bind
  iapply (wp_pr27 A K (c := c) _ _)
  isplitr; · iexact HR
  isplitl [HW]; · iexact HW
  iintro %_ HW
  try dsimp only
  iapply wpc_bind
  iapply (wp_pr28 A K (c := c) _ _ _)
  isplitr; · iexact HR
  isplitl [HW]; · iexact HW
  iintro HW
  try dsimp only
  iapply wpc_bind
  iapply (wp_pr29 A K (c := c) _ _ _)
  isplitr; · iexact HR
  isplitl [HW]; · iexact HW
  iintro HW
  try dsimp only
  iapply wpc_bind
  iapply (wp_pr30 A K (c := c) _ _)
  isplitr; · iexact HR
  isplitl [HW]; · iexact HW
  iintro HW
  try dsimp only
  iapply wpc_bind
  iapply (wp_pr31 A K (c := c) _ _)
  isplitr; · iexact HR
  isplitl [HW]; · iexact HW
  iintro HW
  try dsimp only
  simp only [Prog.lift, Prog.bind_op, Prog.bind_ret, Prog.pure_eq_ret]
  iapply (wp_agWS A K (c := c) (.inr 6) 13 13 rfl (src := blkB c) (dst := blkB c) rfl rfl) $$ [HW]
  · isplitr; · iexact HR
    iexact HW
  iintro HW
  iapply (wp_agWR A K (c := c) (.inr 6) 14 13 rfl (src := blkB c) (dst := blkB c) rfl rfl) $$ [HW]
  · isplitr; · iexact HR
    iexact HW
  iintro HW
  iapply wpc_ret
  iapply Hk
  isplitl [D0 D1 D2 D3 D4]
  · isplitl [D0]; · iexact D0
    isplitl [D1]; · iexact D1
    isplitl [D2]; · iexact D2
    isplitl [D3]; · iexact D3
    iexact D4
  isplitl [Hbar]; · iexact Hbar
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [Hbuf]; · iexact Hbuf
  isplitl [HW]; · iexact HW
  isplitl [HLA]; · iexact HLA
  iexact HLB

end Cert.AttnProof

end
-- ==== Proof.Out.lean ====
/-
# The result buffer cut into the devices' blocks, and put together again
-/
module

public import proofs.«01_k».proof.Proof.Body

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

variable (A : Args F) (K : Dev nD × Ck → ℕ) {c : Dev nD}

/-! ## A device and its seven peers are all the devices -/

theorem cx_inj (c : Dev nD) : Function.Injective (fun d : Fin 7 => cx c d) := by revert c; decide
theorem devs_eq (c : Dev nD) : (Finset.univ : Finset (Dev nD)) = insert c (Finset.univ.map ⟨fun d : Fin 7 => cx c d, cx_inj c⟩) := by
  revert c; decide
theorem devs_not (c : Dev nD) : c ∉ Finset.univ.map ⟨fun d : Fin 7 => cx c d, cx_inj c⟩ := by revert c; decide

omit [FloatOps F] in
theorem dev_split (c : Dev nD) (Φ : Dev nD → sProp 𝕄) :
    bigSep Finset.univ Φ = iprop(Φ c ∗ bigSep Finset.univ fun d : Fin 7 => Φ (cx c d)) := by
  rw [devs_eq c, bigSep_insert (devs_not c), bigSep_map]
  rfl

/-! ## The blocks partition the result -/

def regs : Dev nD ⊕ Dev nD → Finset S1x512x1024.Idx
  | .inl e => regA e
  | .inr e => regB e

theorem posB_inj {a b : Dev nD} (h : (posB a).val = (posB b).val) : a = b := by revert a b; decide

theorem regs_disj (b b' : Dev nD ⊕ Dev nD) (h : b ≠ b') : Disjoint (regs b) (regs b') := by
  rw [Finset.disjoint_left]
  intro y hy hy'
  rcases b with b | b <;> rcases b' with b' | b' <;> dsimp only [regs] at hy hy'
  · rw [memA] at hy hy'
    exact h (congrArg _ (Fin.ext (by omega)))
  · rw [memA] at hy; rw [memB] at hy'; omega
  · rw [memB] at hy; rw [memA] at hy'; omega
  · rw [memB] at hy hy'
    exact h (congrArg _ (posB_inj (by omega)))

theorem posB_surj (i : Fin 8) : ∃ e : Dev nD, posB e = i := by revert i; decide

theorem regs_cover : Finset.univ.biUnion regs = Finset.univ := by
  refine Finset.eq_univ_iff_forall.mpr fun y => ?_
  have h1 : (y 1).val < 512 := (y 1).isLt
  have h2 : (y 2).val < 1024 := (y 2).isLt
  by_cases h : (y 2).val < 512
  · refine Finset.mem_biUnion.mpr ⟨.inl (⟨(y 1).val / 64, by omega⟩ : Fin 8), Finset.mem_univ _, ?_⟩
    show y ∈ regA _
    rw [memA]
    dsimp only
    omega
  · obtain ⟨e, he⟩ := posB_surj ⟨(y 1).val / 64, by omega⟩
    refine Finset.mem_biUnion.mpr ⟨.inr e, Finset.mem_univ _, ?_⟩
    show y ∈ regB _
    rw [memB, he]
    dsimp only
    omega

omit [FloatOps F] in
theorem out_regs (c : Dev nD) (f : Vec F S1x512x1024 .bf16) :
    (pts c cc0_stg0_0 f : sProp 𝕄)
      = iprop((((c : Thread nD τ).loc cc0_stg0_0 ↦[regA c]{fullShare} f) ∗ bigSep Finset.univ fun d : Fin 7 => ((c : Thread nD τ).loc cc0_stg0_0 ↦[regA (cx c d)]{fullShare} f))
        ∗ (((c : Thread nD τ).loc cc0_stg0_0 ↦[regB c]{fullShare} f) ∗ bigSep Finset.univ fun d : Fin 7 => ((c : Thread nD τ).loc cc0_stg0_0 ↦[regB (cx c d)]{fullShare} f))) := by
  have h := Ring.pointsTo_blocks (Ix := Unit) (Val := Elt F) (Name := ℕ) (U := UU) (Lvl := ℕ) (ℓ := (c : Thread nD τ).loc cc0_stg0_0) regs regs_disj regs_cover (q := fullShare) f
  refine h.trans ?_
  rw [bigSep_univ_sum, dev_split c, dev_split c]
  rfl

/-! ## What a device starts its body from -/

omit [FloatOps F] in
theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem sepSum {X Y : Type} [Fintype X] [Fintype Y] (Φ : X ⊕ Y → sProp 𝕄) :
    bigSep Finset.univ Φ = iprop((bigSep Finset.univ fun x => Φ (.inl x)) ∗ bigSep Finset.univ fun y => Φ (.inr y)) := bigSep_univ_sum Φ

/-- The reduce-scatter's landing buffers. -/
def lands (c : Dev nD) : sProp 𝕄 :=
  iprop(anyS (F := F) c cc0_scratch13 ∗ anyS (F := F) c cc0_scratch16 ∗ anyS (F := F) c cc0_scratch14 ∗ anyS (F := F) c cc0_scratch17 ∗ anyS (F := F) c cc0_scratch15 ∗ anyS (F := F) c cc0_scratch18)

theorem lands_eq (c : Dev nD) : lands (F := F) c = iprop(slot (F := F) c (.inl 0) ∗ slot (F := F) c (.inl 1) ∗ slot (F := F) c (.inl 2) ∗ slot (F := F) c (.inl 3)
    ∗ slot (F := F) c (.inl 4) ∗ slot (F := F) c (.inl 5)) := rfl

theorem slotAs (c : Dev nD) (f : Vec F S1x512x1024 .bf16) :
    (bigSep Finset.univ fun d : Fin 7 => ((c : Thread nD τ).loc cc0_stg0_0 ↦[regA (cx c d)]{fullShare} f : sProp 𝕄))
      ⊢ bigSep Finset.univ fun d : Fin 7 => slot (F := F) c (.inr (.inl d)) :=
  bigSep_mono fun d _ => by
    show ((c : Thread nD τ).loc cc0_stg0_0 ↦[regA (cx c d)]{fullShare} f : sProp 𝕄) ⊢ slot (F := F) c (.inr (.inl d))
    iintro H; unfold slot; iexists f; iexact H

theorem slotBs (c : Dev nD) (f : Vec F S1x512x1024 .bf16) :
    (bigSep Finset.univ fun d : Fin 7 => ((c : Thread nD τ).loc cc0_stg0_0 ↦[regB (cx c d)]{fullShare} f : sProp 𝕄))
      ⊢ bigSep Finset.univ fun d : Fin 7 => slot (F := F) c (.inr (.inr d)) :=
  bigSep_mono fun d _ => by
    show ((c : Thread nD τ).loc cc0_stg0_0 ↦[regB (cx c d)]{fullShare} f : sProp 𝕄) ⊢ slot (F := F) c (.inr (.inr d))
    iintro H; unfold slot; iexists f; iexact H

theorem slots_split (c : Dev nD) (f : Vec F S1x512x1024 .bf16) :
    iprop(pts c cc0_stg0_0 f ∗ lands (F := F) c) ⊢ iprop(ownReg (F := F) c ∗ bigSep Finset.univ fun t : T => slot (F := F) c t) := by
  rw [out_regs, sepSum, sepSum, bigSep6]
  unfold ownReg
  iintro ⟨⟨⟨HA, HAs⟩, HB, HBs⟩, HL⟩
  isplitl [HA HB]
  · isplitl [HA]
    · iexists f; iexact HA
    · iexists f; iexact HB
  isplitl [HL]
  · iapply (Entails.of_eq (lands_eq (F := F) c)) $$ HL
  isplitl [HAs]
  · iapply (slotAs (F := F) c f) $$ HAs
  · iapply (slotBs (F := F) c f) $$ HBs

/-- The part of an argument which no local copy reads. -/
def restK (c : Dev nD) : sProp 𝕄 := iprop((c : Thread nD τ).loc main_arg3 ↦[Finset.univ \ (kSrc c).view.set]{fullShare} A.wk c)
def restV (c : Dev nD) : sProp 𝕄 := iprop((c : Thread nD τ).loc main_arg4 ↦[Finset.univ \ (vSrc c).view.set]{fullShare} A.wv c)

/-- The five arguments, whole. -/
def argsPts (c : Dev nD) : sProp 𝕄 :=
  iprop(pts c main_arg0 (A.x c) ∗ pts c main_arg1 (A.wq c) ∗ pts c main_arg2 (A.wo c) ∗ pts c main_arg3 (A.wk c) ∗ pts c main_arg4 (A.wv c))

theorem args_split (c : Dev nD) : argsPts A c ⊢ iprop(argsIn A c ∗ restK A c ∗ restV A c) := by
  unfold argsPts argsIn restK restV
  iintro ⟨H0, H1, H2, H3, H4⟩
  ihave H3' := (pointsTo_split_subset (ℓ := (c : Thread nD τ).loc main_arg3) (q := fullShare) (f := A.wk c) (Finset.subset_univ (kSrc c).view.set)).1 $$ H3
  ihave H4' := (pointsTo_split_subset (ℓ := (c : Thread nD τ).loc main_arg4) (q := fullShare) (f := A.wv c) (Finset.subset_univ (vSrc c).view.set)).1 $$ H4
  icases H3' with ⟨H3, H3r⟩
  icases H4' with ⟨H4, H4r⟩
  isplitl [H0 H1 H2 H3 H4]
  · isplitl [H0]; · iexact H0
    isplitl [H1]; · iexact H1
    isplitl [H3]; · iexact H3
    isplitl [H4]; · iexact H4
    iexact H2
  isplitl [H3r]; · iexact H3r
  iexact H4r

/-! ## What is left at the end -/

theorem leafs_join (c : Dev nD) (I : Finset S1x512x1024.Idx) (f : Vec F S1x512x1024 .bf16) :
    iprop((bigSep Finset.univ fun i : Fin 7 => ((c : Thread nD τ).loc cc0_stg0_0 ↦[I]{lend i} f : sProp 𝕄))
        ∗ bigSep (Finset.univ.filter fun i : Fin 8 => 7 ≤ i.val) fun i => ((c : Thread nD τ).loc cc0_stg0_0 ↦[I]{ShareLeaves.leaf 3 fullShare i} f : sProp 𝕄))
      ⊢ ((c : Thread nD τ).loc cc0_stg0_0 ↦[I]{fullShare} f : sProp 𝕄) := by
  have h := leaves8 (F := F) ((c : Thread nD τ).loc cc0_stg0_0) I f
  rw [h, show (Finset.univ.filter fun i : Fin 8 => 7 ≤ i.val) = {7} by decide, bigSep_singleton,
    bigSep7, bigSep8]
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result buffer put together from what every transfer of the all-gather brought and gave back. -/
theorem out_join (c : Dev nD) :
    iprop((bigSep Finset.univ fun t : U => sendPay A.vals c (.inr t)) ∗ (bigSep Finset.univ fun t : U => recvPay A.vals c (.inr t)) ∗ lendA A c 7 ∗ lendB A c 7)
      ⊢ pts c cc0_stg0_0 A.out := by
  rw [out_regs, sepSum, sepSum]
  unfold lendA lendB
  iintro ⟨⟨SA, SB⟩, ⟨RA, RB⟩, LA, LB⟩
  isplitl [SA RA LA]
  · isplitl [SA LA]
    · iapply (leafs_join c (regA c) A.out)
      isplitl [SA]; · iexact SA
      iexact LA
    · iexact RA
  · isplitl [SB LB]
    · iapply (leafs_join c (regB c) A.out)
      isplitl [SB]; · iexact SB
      iexact LB
    · iexact RB

theorem args_join (c : Dev nD) : iprop(pts c main_arg0 (A.x c) ∗ pts c main_arg1 (A.wq c)
      ∗ ((c : Thread nD τ).loc main_arg3 ↦[(kSrc c).view.set]{fullShare} A.wk c) ∗ ((c : Thread nD τ).loc main_arg4 ↦[(vSrc c).view.set]{fullShare} A.wv c) ∗ pts c main_arg2 (A.wo c)
      ∗ restK A c ∗ restV A c) ⊢ argsPts A c := by
  unfold argsPts restK restV
  iintro ⟨H0, H1, H3, H4, H2, H3r, H4r⟩
  ihave H3' := (pointsTo_split_subset (ℓ := (c : Thread nD τ).loc main_arg3) (q := fullShare) (f := A.wk c) (Finset.subset_univ (kSrc c).view.set)).2 $$ [H3 H3r]
  · isplitl [H3]; · iexact H3
    iexact H3r
  ihave H4' := (pointsTo_split_subset (ℓ := (c : Thread nD τ).loc main_arg4) (q := fullShare) (f := A.wv c) (Finset.subset_univ (vSrc c).view.set)).2 $$ [H4 H4r]
  · isplitl [H4]; · iexact H4
    iexact H4r
  isplitl [H0]; · iexact H0
  isplitl [H1]; · iexact H1
  isplitl [H2]; · iexact H2
  isplitl [H3']; · iexact H3'
  iexact H4'

/-- A device's own cells at zero. -/
def ownZero (c : Dev nD) : sProp 𝕄 := bigSep Finset.univ fun k : (T ⊕ T) ⊕ Fin 5 => semVal (kcell (c, .inr k)) 0
omit [FloatOps F] in
theorem ownZero_eq (c : Dev nD) : ownZero (F := F) c
    = iprop((((semVal (sendCell c (.inl 0)) 0 ∗ semVal (sendCell c (.inl 1)) 0 ∗ semVal (sendCell c (.inl 2)) 0 ∗ semVal (sendCell c (.inl 3)) 0 ∗ semVal (sendCell c (.inl 4)) 0 ∗ semVal (sendCell c (.inl 5)) 0)
          ∗ bigSep Finset.univ fun t : U => semVal (sendCell c (.inr t)) 0)
        ∗ (semVal (recvCell c (.inl 0)) 0 ∗ semVal (recvCell c (.inl 1)) 0 ∗ semVal (recvCell c (.inl 2)) 0 ∗ semVal (recvCell c (.inl 3)) 0 ∗ semVal (recvCell c (.inl 4)) 0 ∗ semVal (recvCell c (.inl 5)) 0)
          ∗ bigSep Finset.univ fun t : U => semVal (recvCell c (.inr t)) 0)
      ∗ (semVal (loadCell c 0) 0 ∗ semVal (loadCell c 1) 0 ∗ semVal (loadCell c 2) 0 ∗ semVal (loadCell c 3) 0 ∗ semVal (loadCell c 4) 0)) := by
  unfold ownZero
  rw [sepSum, sepSum, sepSum (X := Fin 6), sepSum (X := Fin 6), bigSep6, bigSep6, bigSep5]
  rfl
/-- The scratch buffers, at some contents. -/
def scr (c : Dev nD) : sProp 𝕄 :=
  iprop(anyS (F := F) c cc0_scratch0 ∗ anyS (F := F) c cc0_scratch1 ∗ anyS (F := F) c cc0_scratch2 ∗ anyS (F := F) c cc0_scratch3 ∗ anyS (F := F) c cc0_scratch4 ∗ anyS (F := F) c cc0_scratch5 ∗ anyS (F := F) c cc0_scratch6 ∗ anyS (F := F) c cc0_scratch7 ∗ anyS (F := F) c cc0_scratch8 ∗ anyS (F := F) c cc0_scratch9 ∗ anyS (F := F) c cc0_scratch10 ∗ anyS (F := F) c cc0_scratch11 ∗ anyS (F := F) c cc0_scratch12 ∗ anyS (F := F) c cc0_scratch13 ∗ anyS (F := F) c cc0_scratch14 ∗ anyS (F := F) c cc0_scratch15 ∗ anyS (F := F) c cc0_scratch16 ∗ anyS (F := F) c cc0_scratch17 ∗ anyS (F := F) c cc0_scratch18)

/-- The end of the body's run: everything back, the result in the result buffer. -/
def finish (c : Dev nD) : sProp 𝕄 :=
  iprop(scr (F := F) c ∗ ownZero (F := F) c ∗ semVal (barCell c) 0 ∗ argsPts A c ∗ pts c cc0_stg0_0 A.out ∗ Ow (F := F) c (owT c 20))

theorem up_end (Φ : U → sProp 𝕄) : up (F := F) Φ 14 ⊢ emp := by
  unfold up
  rw [Finset.filter_false_of_mem fun t _ => by have := ordU_lt t; omega, bigSep_empty]
  exact .rfl

theorem lo_sndD (c : Dev nD) : lo (sndD A c) 14
    ⊢ iprop((bigSep Finset.univ fun t : U => semVal (sendCell c (.inr t)) 0) ∗ bigSep Finset.univ fun t : U => sendPay A.vals c (.inr t)) := by
  rw [lo_end, ← bigSep_sep']
  exact .rfl
theorem lo_rcvD (c : Dev nD) : lo (rcvD A c) 14
    ⊢ iprop((bigSep Finset.univ fun t : U => semVal (recvCell c (.inr t)) 0) ∗ bigSep Finset.univ fun t : U => recvPay A.vals c (.inr t)) := by
  rw [lo_end, ← bigSep_sep']
  exact .rfl

set_option maxHeartbeats 1600000 in
theorem finish_intro (c : Dev nD) : iprop(runPost A c ∗ restK A c ∗ restV A c) ⊢ finish A c := by
  unfold runPost finish bufs wt rsDone doneL
  rw [lp0, lp1, lp2, lp3, lp4]
  iintro ⟨⟨⟨⟨L0, S1, A0⟩, ⟨L1, S2, A1⟩, ⟨L2, S3, A3⟩, ⟨L3, S4, A4⟩, L4, S5, A2⟩, Hbar, ⟨⟨X0, Y0, S7, S13⟩, ⟨X1, Y1, S10, S16⟩, ⟨X2, Y2, S8, S14⟩, ⟨X3, Y3, S11, S17⟩, ⟨X4, Y4, S9, S15⟩, X5, Y5, S12, S18⟩,
    ⟨%f, %g, -, S0, S6⟩, ⟨HO, ⟨-, HS⟩, -, HR⟩, LA, LB⟩, RK, RV⟩
  ihave HS' := (lo_sndD A c) $$ HS
  ihave HR' := (lo_rcvD A c) $$ HR
  icases HS' with ⟨ZS, PS⟩
  icases HR' with ⟨ZR, PR⟩
  isplitl [S0 S1 S2 S3 S4 S5 S6 S7 S8 S9 S10 S11 S12 S13 S14 S15 S16 S17 S18]
  · unfold scr
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexact S18
  isplitl [L0 L1 L2 L3 L4 X0 X1 X2 X3 X4 X5 Y0 Y1 Y2 Y3 Y4 Y5 ZS ZR]
  · rw [ownZero_eq]
    isplitr [L0 L1 L2 L3 L4]
    · isplitl [X0 X1 X2 X3 X4 X5 ZS]
      · isplitr [ZS]
        · isplitl [X0]; · iexact X0
          isplitl [X1]; · iexact X1
          isplitl [X2]; · iexact X2
          isplitl [X3]; · iexact X3
          isplitl [X4]; · iexact X4
          iexact X5
        iexact ZS
      · isplitr [ZR]
        · isplitl [Y0]; · iexact Y0
          isplitl [Y1]; · iexact Y1
          isplitl [Y2]; · iexact Y2
          isplitl [Y3]; · iexact Y3
          isplitl [Y4]; · iexact Y4
          iexact Y5
        iexact ZR
    · isplitl [L0]; · iexact L0
      isplitl [L1]; · iexact L1
      isplitl [L2]; · iexact L2
      isplitl [L3]; · iexact L3
      iexact L4
  isplitl [Hbar]; · iexact Hbar
  isplitl [A0 A1 A2 A3 A4 RK RV]
  · iapply (args_join A c)
    isplitl [A0]; · iexact A0
    isplitl [A1]; · iexact A1
    isplitl [A3]; · iexact A3
    isplitl [A4]; · iexact A4
    isplitl [A2]; · iexact A2
    isplitl [RK]; · iexact RK
    iexact RV
  isplitl [PS PR LA LB]
  · iapply (out_join A c)
    isplitl [PS]; · iexact PS
    isplitl [PR]; · iexact PR
    isplitl [LA]; · iexact LA
    iexact LB
  iexact HO

/-! ## The whole run of a device's body, from its share of the launch -/

/-- The tokens of device `c`: its positions, the duties it pays, its credits. -/
def linear (c : Dev nD) : sProp 𝕄 :=
  iprop((tokL (F := F) c 0 ∗ tokL (F := F) c 1 ∗ tokL (F := F) c 2 ∗ tokL (F := F) c 3 ∗ tokL (F := F) c 4)
    ∗ (bigSep Finset.univ fun d : Fin 7 => tokB (F := F) c d) ∗ ownB (F := F) c ∗ (bigSep Finset.univ fun t : T => tokT (F := F) c t))

set_option maxHeartbeats 1600000 in
theorem start_run (c : Dev nD) (f : Vec F S1x512x1024 .bf16) :
    iprop(Ow (F := F) c (owT c 0 + owB c 0) ∗ linear (F := F) c ∗ argsPts A c ∗ scr (F := F) c ∗ pts c cc0_stg0_0 f) ⊢ iprop(runPre A c ∗ restK A c ∗ restV A c) := by
  unfold scr linear
  iintro ⟨HO, ⟨HL, HB, HoB, HT⟩, Ha, ⟨⟨%f0, S0⟩, S1, S2, S3, S4, S5, ⟨%f6, S6⟩, S7, S8, S9, S10, S11, S12, S13, S14, S15, S16, S17, S18⟩, Ho⟩
  ihave Ha' := (args_split A c) $$ Ha
  icases Ha' with ⟨Ha, RK, RV⟩
  ihave Hs := (slots_split (F := F) c f) $$ [Ho S13 S14 S15 S16 S17 S18]
  · isplitl [Ho]; · iexact Ho
    unfold lands
    isplitl [S13]; · iexact S13
    isplitl [S16]; · iexact S16
    isplitl [S14]; · iexact S14
    isplitl [S17]; · iexact S17
    isplitl [S15]; · iexact S15
    iexact S18
  icases Hs with ⟨Hreg, Hs⟩
  ihave Hp := (show iprop((bigSep Finset.univ fun d : Fin 7 => tokB (F := F) c d) ∗ bigSep Finset.univ fun t : T => slot (F := F) c t)
      ⊢ bigSep Finset.univ fun d : Fin 7 => ownPay (F := F) c d from by rw [slots_by_mask, ← bigSep_sep']; exact .rfl) $$ [HB Hs]
  · isplitl [HB]; · iexact HB
    iexact Hs
  isplitr [RK RV]
  · unfold runPre
    isplitl [HO]; · iexact HO
    isplitl [HL]; · iexact HL
    isplitl [Ha]; · iexact Ha
    isplitl [S1 S2 S3 S4 S5]
    · unfold dsts
      isplitl [S1]; · iexact S1
      isplitl [S2]; · iexact S2
      isplitl [S3]; · iexact S3
      isplitl [S4]; · iexact S4
      iexact S5
    isplitl [Hp]
    · iapply (Entails.of_eq (bigSep7 (fun d : Fin 7 => ownPay (F := F) c d))) $$ Hp
    isplitl [HoB]; · iexact HoB
    isplitl [HT]; · iexact HT
    isplitl [S0 S6]
    · unfold bufs
      iexists f0; iexists f6
      isplitr; · ipureintro; trivial
      isplitl [S0]; · iexact S0
      iexact S6
    isplitl [S7 S8 S9 S10 S11 S12]
    · unfold anys
      isplitl [S7]; · iexact S7
      isplitl [S8]; · iexact S8
      isplitl [S9]; · iexact S9
      isplitl [S10]; · iexact S10
      isplitl [S11]; · iexact S11
      iexact S12
    iexact Hreg
  isplitl [RK]; · iexact RK
  iexact RV

theorem wp_whole (c : Dev nD) (f : Vec F S1x512x1024 .bf16) {Kt : _ → sProp 𝕄} :
    iprop((records A.vals K ∗ Ow (F := F) c (owT c 0 + owB c 0) ∗ linear (F := F) c ∗ argsPts A c ∗ scr (F := F) c ∗ pts c cc0_stg0_0 f) ∗ (finish A c -∗ Kt ⟨⟩))
      ⊢ wpc c (bodyP (F := F)) Kt := by
  iintro ⟨⟨#HR, H⟩, Hk⟩
  ihave H' := (start_run A c f) $$ H
  icases H' with ⟨Hp, RK, RV⟩
  iapply (wp_body A K (c := c))
  isplitr; · iexact HR
  isplitl [Hp]; · iexact Hp
  iintro Hpost
  iapply Hk
  iapply (finish_intro A c)
  isplitl [Hpost]; · iexact Hpost
  isplitl [RK]; · iexact RK
  iexact RV

end Cert.AttnProof

end
-- ==== Proof.Ghost.lean ====
/-
# The launch: tokens dealt to the devices, the cells allocated, the credits
-/
module

public import proofs.«01_k».proof.Proof.Out

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F) (K : Dev nD × Ck → ℕ)

omit [FloatOps F] in
theorem bigSep1 (Φ : Unit → sProp 𝕄) : bigSep Finset.univ Φ = Φ () := bigSep_univ_eq_bigSepL [()] (by decide) (by decide) Φ

/-! ## The tokens -/

/-- The cells which are a device's own. -/
abbrev Ok : Type := (T ⊕ T) ⊕ Fin 5
def osem (k : Ok) : SemLoc sig := csem (.inr k)
def theCells : Finset (GSem nD τ sig) := Finset.univ.map ⟨kcell, kcell_injective⟩

/-- A duty of a device's cells: one of the barrier's seven, or another cell's one. -/
abbrev Tk : Type := Fin 7 ⊕ Ok
def tokOf (x : Dev nD × Tk) : GSem nD τ sig × ℕ × Fin 7 := match x.2 with
  | .inl d => (barCell x.1, 0, d)
  | .inr k => (kcell (x.1, .inr k), 0, 0)
theorem tokOf_inj : Function.Injective tokOf := by
  rintro ⟨c, k⟩ ⟨c', k'⟩ h
  rcases k with d | k <;> rcases k' with d' | k' <;> dsimp only [tokOf] at h
  · have h1 : (c, (Sum.inl () : Ck)) = (c', Sum.inl ()) := kcell_injective (congrArg (fun z => z.1) h)
    have h2 : d = d' := congrArg (fun z => z.2.2) h
    rw [(Prod.mk.inj h1).1, h2]
  · have h1 : (c, (Sum.inl () : Ck)) = (c', Sum.inr k') := kcell_injective (congrArg (fun z => z.1) h)
    exact absurd (Prod.mk.inj h1).2 (by simp)
  · have h1 : (c, (Sum.inr k : Ck)) = (c', Sum.inl ()) := kcell_injective (congrArg (fun z => z.1) h)
    exact absurd (Prod.mk.inj h1).2 (by simp)
  · have h1 : (c, (Sum.inr k : Ck)) = (c', Sum.inr k') := kcell_injective (congrArg (fun z => z.1) h)
    rw [(Prod.mk.inj h1).1, Sum.inr.inj (Prod.mk.inj h1).2]
def theToks : Finset (GSem nD τ sig × ℕ × Fin 7) := Finset.univ.map ⟨tokOf, tokOf_inj⟩

/-- The duty tokens of device `c`'s cells. -/
def toks (c : Dev nD) : sProp 𝕄 :=
  iprop((bigSep Finset.univ fun d : Fin 7 => dutyTok ER (barCell c) 0 d)
    ∗ ((bigSep Finset.univ fun t : T => dutyTok ER (sendCell c t) 0 0) ∗ bigSep Finset.univ fun t : T => dutyTok ER (recvCell c t) 0 0)
    ∗ bigSep Finset.univ fun i : Fin 5 => dutyTok ER (loadCell c i) 0 0)
/-- The tokens of the duties which device `c` pays. -/
def payToks (c : Dev nD) : sProp 𝕄 :=
  iprop((bigSep Finset.univ fun d : Fin 7 => tokB (F := F) c d)
    ∗ ((bigSep Finset.univ fun t : T => dutyTok ER (sendCell c t) 0 0) ∗ bigSep Finset.univ fun t : T => dutyTok ER (recvCell (peer c t) t) 0 0)
    ∗ bigSep Finset.univ fun i : Fin 5 => dutyTok ER (loadCell c i) 0 0)

def swapB : Dev nD × Fin 7 ≃ Dev nD × Fin 7 :=
  ⟨fun x => (cx x.1 x.2, x.2), fun x => (cx x.1 x.2, x.2), fun x => by simp only [cx_cx], fun x => by simp only [cx_cx]⟩
def swapT : Dev nD × T ≃ Dev nD × T :=
  ⟨fun x => (peer x.1 x.2, x.2), fun x => (peer x.1 x.2, x.2), fun x => by simp only [peer, cx_cx], fun x => by simp only [peer, cx_cx]⟩

omit [FloatOps F] in
theorem around_bar : (bigSep Finset.univ fun c : Dev nD => bigSep Finset.univ fun d : Fin 7 => (dutyTok ER (barCell c) 0 d : sProp 𝕄))
    = bigSep Finset.univ fun c : Dev nD => bigSep Finset.univ fun d : Fin 7 => tokB (F := F) c d := by
  rw [← bigSep_univ_prod (fun x : Dev nD × Fin 7 => (dutyTok ER (barCell x.1) 0 x.2 : sProp 𝕄)),
    bigSep_univ_equiv swapB, bigSep_univ_prod]
  rfl
omit [FloatOps F] in
theorem around_recv : (bigSep Finset.univ fun c : Dev nD => bigSep Finset.univ fun t : T => (dutyTok ER (recvCell c t) 0 0 : sProp 𝕄))
    = bigSep Finset.univ fun c : Dev nD => bigSep Finset.univ fun t : T => (dutyTok ER (recvCell (peer c t) t) 0 0 : sProp 𝕄) := by
  rw [← bigSep_univ_prod (fun x : Dev nD × T => (dutyTok ER (recvCell x.1 x.2) 0 0 : sProp 𝕄)),
    bigSep_univ_equiv swapT, bigSep_univ_prod]
  rfl

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', around_bar, around_recv]

/-! ## The launch element -/

def u₀ : UU :=
  (initOf (Pipeline.cells cfgs cellOf_inj) (Pipeline.launchToks cfgs cellOf_inj), initOf theCells theToks)

/-- A device's positions and lower bounds. -/
def poss (c : Dev nD) : sProp 𝕄 := bigSep Finset.univ fun k : Ck => iprop(atPos ER (kcell (c, k)) 0 ∅ 0 ∗ reached ER (kcell (c, k)) 0)

def G (c : Dev nD) : sProp 𝕄 :=
  iprop((bigSep Finset.univ fun k : Ck => roundState ER (Rd V) (kcell (c, k)) 0) ∗ poss (F := F) c ∗ toks (F := F) c)

omit [FloatOps F] in
theorem cells_eq (Φ : GSem nD τ sig → sProp 𝕄) :
    bigSep theCells Φ = bigSep Finset.univ fun c : Dev nD => bigSep Finset.univ fun k : Ck => Φ (kcell (c, k)) := by
  unfold theCells; rw [bigSep_map, bigSep_univ_prod]; rfl
omit [FloatOps F] in
theorem toks_eq : bigSep theToks (fun x => (dutyTok ER x.1 x.2.1 x.2.2 : sProp 𝕄)) = bigSep Finset.univ fun c : Dev nD => toks (F := F) c := by
  unfold theToks; rw [bigSep_map, bigSep_univ_prod]
  refine bigSep_congr fun c _ => ?_
  unfold toks
  rw [sepSum, sepSum (X := T ⊕ T), sepSum (X := T) (Y := T)]
  rfl

omit [FloatOps F] in
theorem fund : BI.own (ER (initOf theCells theToks)) ⊢ (|==> bigSep Finset.univ (G V) : sProp 𝕄) := by
  iintro HX
  imod (Rounds.fund ER (Rd V) theCells theToks) $$ HX with ⟨Hst, Hr, Hat, Htok⟩
  imodintro
  ihave Hst' := (Entails.of_eq (cells_eq fun g => roundState ER (Rd V) g 0)) $$ Hst
  ihave Hat' := (Entails.of_eq (cells_eq fun g => (atPos ER g 0 ∅ 0 : sProp 𝕄))) $$ Hat
  ihave Hr' := (Entails.of_eq (cells_eq fun g => (reached ER g 0 : sProp 𝕄))) $$ Hr
  ihave Htok' := (Entails.of_eq (toks_eq (F := F))) $$ Htok
  unfold G poss; simp only [bigSep_sep']
  isplitl [Hst']; · iexact Hst'
  isplitl [Hat' Hr']
  · isplitl [Hat']; · iexact Hat'
    iexact Hr'
  iexact Htok'

/-! ## The cells allocated -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev ownS (c : Dev nD) : sProp 𝕄 := Pipeline.ownSems0 (Ix := Unit) (Name := ℕ) (U := UU) (Lvl := ℕ) (Val := Elt F) (τ := τ) osem c
omit [FloatOps F] in
theorem ownS_eq (c : Dev nD) : ownS (F := F) c = ownZero (F := F) c := rfl

omit [FloatOps F] in
theorem sems0_eq (c : Dev nD) : iprop(ownS (F := F) c ∗ unscopedSems0 c) ⊢ (bigSep Finset.univ fun k : Ck => semVal (kcell (c, k)) 0 : sProp 𝕄) := by
  rw [ownS_eq, unscopedSems0_eq, sepSum, bigSep1]
  unfold ownZero
  iintro ⟨HS, HB⟩
  isplitl [HB]; · iexact HB
  iexact HS

omit [FloatOps F] in
theorem alloc_inv (c : Dev nD) :
    iprop((bigSep Finset.univ fun k : Ck => semVal (kcell (c, k)) 0) ∗ bigSep Finset.univ fun k : Ck => roundState ER (Rd V) (kcell (c, k)) 0)
      ⊢ (|={Set.univ}=> bigSep Finset.univ fun k : Ck => iprop(∃ κ : ℕ, cellInv ER (Rd V) κ (kcell (c, k))) : sProp 𝕄) := by
  rw [← bigSep_sep']
  exact (bigSep_mono fun k _ => (Rounds.body_intro ER (Rd V) (kcell (c, k))).trans inv_alloc).trans (bigSep_fupd _ _)

/-- A device's share once its cells are allocated. -/
def G₁ (c : Dev nD) : sProp 𝕄 :=
  iprop((bigSep Finset.univ fun k : Ck => iprop(∃ κ : ℕ, cellInv ER (Rd V) κ (kcell (c, k)))) ∗ poss (F := F) c ∗ toks (F := F) c)

omit [FloatOps F] in
theorem core_alloc (c : Dev nD) : iprop(ownS (F := F) c ∗ unscopedSems0 c ∗ G V c) ⊢ |={Set.univ}=> G₁ V c := by
  unfold G G₁
  iintro ⟨Hos, Hus, Hst, Hat, Htok⟩
  ihave Hv := (sems0_eq (F := F) c) $$ [Hos Hus]
  · isplitl [Hos]; · iexact Hos
    iexact Hus
  imod (alloc_inv V c) $$ [Hv Hst] with Hinv
  · isplitl [Hv]; · iexact Hv
    iexact Hst
  imodintro
  isplitl [Hinv]; · iexact Hinv
  isplitl [Hat]; · iexact Hat
  iexact Htok

/-- The records without the levels. -/
def recs (K : Dev nD × Ck → ℕ) : sProp 𝕄 :=
  iprop((bigSep Finset.univ fun ck : Dev nD × Ck => cellInv ER (Rd V) (K ck) (kcell ck))
    ∗ bigSep Finset.univ fun ck : Dev nD × Ck => reached ER (kcell ck) 0)
instance recs_persistent : BI.Persistent (recs V K) := by unfold recs; infer_instance

def ats (c : Dev nD) : sProp 𝕄 := bigSep Finset.univ fun k : Ck => atPos ER (kcell (c, k)) 0 ∅ 0
def G' (c : Dev nD) : sProp 𝕄 := iprop((∃ K, recs V K) ∗ ats (F := F) c ∗ payToks (F := F) c)

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (c : Dev nD) : iprop(recs V K ∗ ats (F := F) c ∗ payToks (F := F) c) ⊢ G' V c := by
  unfold G'
  iintro ⟨#HR, Ha, Hp⟩
  isplitr
  · iexists K; iexact HR
  isplitl [Ha]; · iexact Ha
  iexact Hp

omit [FloatOps F] in
theorem regroup : (bigSep Finset.univ fun c : Dev nD => G₁ V c) ⊢ bigSep Finset.univ (G' V) := by
  unfold G₁ poss
  rw [bigSep_sep', bigSep_sep', ← bigSep_univ_prod (fun ck : Dev nD × Ck => iprop(∃ κ : ℕ, cellInv ER (Rd V) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄)), toks_around]
  iintro ⟨HI, ⟨Hat, #HR⟩, Htok⟩
  ihave HK := (BI.bigSep_exists_pi Finset.univ (fun (ck : Dev nD × Ck) (κ : ℕ) => (cellInv ER (Rd V) κ (kcell ck) : sProp 𝕄))) $$ HI
  icases HK with ⟨%K, #HI⟩
  iapply (with_persistent (R := recs V K) fun c _ => ghost_intro V K c)
  isplitr
  · unfold recs; isplitl; · iexact HI
    iexact HR
  · rw [bigSep_sep']
    isplitl [Hat]; · iexact Hat
    iexact Htok

omit [FloatOps F] in
theorem glob : (bigSep Finset.univ fun c => iprop(ownS (F := F) c ∗ unscopedSems0 c ∗ G V c) : sProp 𝕄) ⊢ |={Set.univ}=> bigSep Finset.univ (G' V) :=
  ((bigSep_mono fun c _ => core_alloc V c).trans (bigSep_fupd _ _)).trans (BI.fupd_mono (regroup V))

/-! ## The credits -/

theorem kcell_eq {c c' : Dev nD} {k k' : Ck} (h : kcell (c, k) = kcell (c', k')) : c = c' ∧ k = k' := by
  have := kcell_injective h
  exact ⟨(Prod.mk.inj this).1, (Prod.mk.inj this).2⟩

theorem owT_recv (d c : Dev nD) (t : T) : owT d 0 (recvCell c t) () = if d = peer c t then amt t else 0 := by
  unfold owT
  rw [Finset.filter_true_of_mem fun t _ => Nat.zero_le _, Finset.sum_apply, Finsupp.finset_sum_apply, Finset.sum_eq_single t]
  · rw [tallyAt_apply]
    by_cases h : d = peer c t
    · subst h
      rw [if_pos rfl, if_pos ⟨by rw [show peer (peer c t) t = c from cx_cx c _], rfl⟩]
    · rw [if_neg h, if_neg fun h' => h ?_]
      have h1 := (kcell_eq (k := .inr (.inl (.inr t))) (k' := .inr (.inl (.inr t))) h'.1).1
      rw [h1]; exact (cx_cx d _).symm
  · intro t' _ hne
    rw [tallyAt_apply, if_neg fun h' => hne ?_]
    have h1 := (kcell_eq (k := .inr (.inl (.inr t))) (k' := .inr (.inl (.inr t'))) h'.1).2
    exact (Sum.inr.inj (Sum.inl.inj (Sum.inr.inj h1))).symm
  · intro h; exact absurd (Finset.mem_univ _) h

theorem owT_bar (d c : Dev nD) : owT d 0 (barCell c) () = 0 := by
  by_contra h
  obtain ⟨t, -, h⟩ := owT_pos (Nat.pos_of_ne_zero h)
  have h1 := (kcell_eq (k := .inl ()) (k' := .inr (.inl (.inr t))) h).2
  cases h1

theorem owB_recv (d c : Dev nD) (t : T) : owB d 0 (recvCell c t) () = 0 := by
  by_contra h
  obtain ⟨i, h⟩ := owB_pos (Nat.pos_of_ne_zero h)
  have h1 := (kcell_eq (k := .inr (.inl (.inr t))) (k' := .inl ()) h).2
  cases h1

theorem owB_bar (d c : Dev nD) : owB d 0 (barCell c) () = ∑ i : Fin 7, if d = cx c i then 1 else 0 := by
  unfold owB
  rw [Finset.filter_true_of_mem fun t _ => Nat.zero_le _, Finset.sum_apply, Finsupp.finset_sum_apply]
  refine Finset.sum_congr rfl fun i _ => ?_
  rw [tallyAt_apply]
  by_cases h : d = cx c i
  · subst h
    rw [if_pos rfl, if_pos ⟨by rw [cx_cx c i], rfl⟩]
  · rw [if_neg h, if_neg fun h' => h ?_]
    have h1 := (kcell_eq (k := .inl ()) (k' := .inl ()) h'.1).1
    rw [h1]; exact (cx_cx d _).symm

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same,
    Finset.sum_congr rfl fun d _ => show O₀ d (barCell c) () = ∑ i : Fin 7, if d = cx c i then 1 else 0 by
      unfold O₀; rw [Pi.add_apply, Finsupp.add_apply, owT_bar, owB_bar, Nat.zero_add],
    Finset.sum_comm, Finset.sum_congr rfl fun i _ => (Finset.sum_ite_eq' Finset.univ (cx c i) fun _ => 1).trans (if_pos (Finset.mem_univ _))]
  rfl

theorem launch_recv (c : Dev nD) (t : T) :
    tallyOn (recvCell c t) (launchCredit (Pipeline.owing O₀) 0 (recvCell c t)) = (tallyAt (recvCell c t) () (amt t) : CellTallies nD τ sig Unit) := by
  unfold tallyAt; refine congrArg _ (Finsupp.ext fun u => ?_); cases u
  rw [Pipeline.launchCredit_owing, Finsupp.single_eq_same,
    Finset.sum_congr rfl fun d _ => show O₀ d (recvCell c t) () = if d = peer c t then amt t else 0 by
      unfold O₀; rw [Pi.add_apply, Finsupp.add_apply, owB_recv, owT_recv, Nat.add_zero],
    Finset.sum_ite_eq' Finset.univ (peer c t) fun _ => amt t, if_pos (Finset.mem_univ _)]

/-- A device's credits: its barrier's seven units, every transfer it receives. -/
def credits (c : Dev nD) : sProp 𝕄 :=
  iprop(cred (tallyAt (barCell c) () 7) ∗ bigSep Finset.univ fun t : T => cred (tallyAt (recvCell c t) () (amt t)))

def crSem : Unit ⊕ T → SemLoc sig
  | .inl _ => .reg barS
  | .inr t => .dma (recvS t)
theorem crSem_inj : Function.Injective crSem := by decide +kernel

omit [FloatOps F] in
theorem creds (c : Dev nD) : (Pipeline.launchCred O₀ c : sProp 𝕄) ⊢ credits (F := F) c := by
  unfold Pipeline.launchCred credits
  rw [BI.bigSep_sdiff_split (Finset.subset_univ (Finset.univ.map ⟨crSem, crSem_inj⟩)), bigSep_map, sepSum, bigSep1]
  refine (show _ ⊢ iprop(_ ∗ _) from Entails.of_eq rfl).trans (sep_elim_left.trans ?_)
  exact BI.sep_mono (Entails.of_eq (congrArg cred (launch_bar c))) (Entails.of_eq (bigSep_congr fun t _ => congrArg cred (launch_recv c t)))

/-- Positions, tokens and credits, put together cell by cell. -/
theorem linear_intro (c : Dev nD) : iprop(ats (F := F) c ∗ payToks (F := F) c ∗ credits (F := F) c) ⊢ linear (F := F) c := by
  unfold ats payToks credits linear
  rw [sepSum, bigSep1, sepSum (X := T ⊕ T), sepSum (X := T) (Y := T), bigSep5, bigSep5]
  unfold ownB tokL
  iintro ⟨⟨HaB, ⟨HaS, HaR⟩, A0, A1, A2, A3, A4⟩, ⟨HtB, ⟨HtS, HtR⟩, T0, T1, T2, T3, T4⟩, HcB, HcR⟩
  isplitl [A0 A1 A2 A3 A4 T0 T1 T2 T3 T4]
  · isplitl [A0 T0]
    · isplitl [A0]; · iexact A0
      iexact T0
    isplitl [A1 T1]
    · isplitl [A1]; · iexact A1
      iexact T1
    isplitl [A2 T2]
    · isplitl [A2]; · iexact A2
      iexact T2
    isplitl [A3 T3]
    · isplitl [A3]; · iexact A3
      iexact T3
    isplitl [A4]; · iexact A4
    iexact T4
  isplitl [HtB]; · iexact HtB
  isplitl [HaB HcB]
  · isplitl [HaB]; · iexact HaB
    iexact HcB
  unfold tokT
  rw [bigSep_sep', bigSep_sep', bigSep_sep', bigSep_sep']
  isplitl [HaS]; · iexact HaS
  isplitl [HaR]; · iexact HaR
  isplitl [HtS]; · iexact HtS
  isplitl [HtR]; · iexact HtR
  iexact HcR

end Cert.AttnProof

end
-- ==== Proof.Launch.lean ====
/-
# The launch on the eight devices, and what every final state holds
-/
module

public import proofs.«01_k».proof.Proof.Ghost
public import Idealize.ShloMosaic.Lib.Pipeline.Launch
public import Idealize.ShloMosaic.Lib.Pipeline.Kit
public import proofs.«01_k».proof.Proof.Gen.KernelIdeal.Points
public import Idealize.ShloMosaic.Lib.Pipeline.CollectiveSegs

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The arguments, as memory holds them at launch. -/
def argsOf : Args F where
  x c := m ((c : Thread nD τ).loc main_arg0)
  wq c := m ((c : Thread nD τ).loc main_arg1)
  wo c := m ((c : Thread nD τ).loc main_arg2)
  wk c := m ((c : Thread nD τ).loc main_arg3)
  wv c := m ((c : Thread nD τ).loc main_arg4)

def s₀ : MemSt nD τ sig (Elt F) := ⟨m, fun _ => 0, ρ⟩

/-- What device `c`'s body starts from, and what it ends with. -/
def start (c : Dev nD) : sProp 𝕄 :=
  iprop((∃ K, records (argsOf m).vals K) ∗ linear (F := F) c ∗ argsPts (argsOf m) c)
def Φ₀ (c : Dev nD) : sProp 𝕄 := iprop(start m c ∗ scr (F := F) c)
def Φ₁ (c : Dev nD) : sProp 𝕄 :=
  iprop(scr (F := F) c ∗ ownZero (F := F) c ∗ semVal (barCell c) 0 ∗ argsPts (argsOf m) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).out
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pts c b f) := by
  unfold owns; simp only [Memref.view_whole, View.read_whole, View.set_whole]

abbrev stg (c : Dev nD) (X : Vec F S1x512x1024 .bf16) : sProp 𝕄 :=
  iprop(∃ f : Buf (Elt F) ((c : Thread nD τ).loc cc0_stg0_0), ⌜f = X⌝ ∗ pts c cc0_stg0_0 f)

def bodyPre (c : Dev nD) : sProp 𝕄 :=
  iprop(Φ₀ m c ∗ (dats m ρ 0 c).owesAt () (t0_0 : Fin cfg0.N).castSucc ∗ (∃ d, stg c ((dats m ρ 0 c).before (0 : Fin 1) t0_0 d)))
def bodyPost (c : Dev nD) : sProp 𝕄 :=
  iprop(Φ₁ m c ∗ (dats m ρ 0 c).owesAt () (t0_0 : Fin cfg0.N).succ ∗ stg c (argsOf m).out)

theorem run_body (c : Dev nD) : bodyPre m ρ c ⊢ wpc c (bodyP (F := F)) (fun _ => bodyPost m ρ c) := by
  unfold bodyPre Φ₀ start Dat.owesAt Pipeline.owesWithin
  iintro ⟨⟨⟨⟨%K, #HR⟩, HL, HA⟩, HS⟩, ⟨%W, %hW, HO⟩, ⟨%d, %f, %hf, Ho⟩⟩
  iapply (wp_whole (argsOf m) K c f)
  isplitr []
  · isplitr; · iexact HR
    isplitl [HO]
    · unfold Ow; iexists W; iexact HO
    isplitl [HL]; · iexact HL
    isplitl [HA]; · iexact HA
    isplitl [HS]; · iexact HS
    iexact Ho
  unfold finish bodyPost Φ₁ Dat.owesAt Pipeline.owesWithin Ow
  rw [owT_end]
  iintro ⟨HS, HZ, HB, HA, Ho, ⟨%W', HO⟩⟩
  isplitl [HS HZ HB HA]
  · isplitl [HS]; · iexact HS
    isplitl [HZ]; · iexact HZ
    isplitl [HB]; · iexact HB
    iexact HA
  isplitl [HO]
  · iexists W'
    isplitr; · ipureintro; exact fun _ _ => Or.inl trivial
    iexact HO
  iexists _
  isplitr; · (ipureintro; rfl)
  iexact Ho

theorem bigSep_W (Φ : Fin cfg0.W → sProp 𝕄) : bigSep Finset.univ Φ = iprop(Φ (0 : Fin 1)) := bigSep_W0 Φ

theorem body_obligation (c : Dev nD) : BodyObligation (dats (F := F) m ρ 0 c) (defs₀ (F := F)) 𝒱₀ () Set.univ := fun t => by
  rw [fin_N0 t, bigSep_W, bigSep_W]
  simp only [owns_whole]
  exact run_body m ρ c

/-! ## The side conditions -/

theorem ownSemFacts : Pipeline.OwnSemFacts cfg0.spec osem := by decide

theorem share_eq (c : Dev nD) (w : Fin cfg0.W) : (dats m ρ 0 c).share w = fullShare := by unfold Dat.share; split <;> rfl

theorem csem_ne (k : Ck) (w : Fin cfg0.W) (s : Fin 1) : csem k ≠ .dma (0 : Fin 46) := by revert k; decide

theorem lv_stage (c : Dev nD) : lv ((c : Thread nD τ), .dma (0 : Fin 46)) () = 0 := by
  unfold lv
  rw [show dec (.dma (0 : Fin 46)) = none from by
    unfold dec
    rw [List.find?_eq_none]
    intro k _ h
    exact csem_ne k 0 0 (of_decide_eq_true h)]

theorem mayWait_stage (c : Dev nD) (O : CellTallies nD τ sig Unit) (hO : O = O₀ c ∨ O = 0) :
    (levAts L lv : sProp 𝕄) ⊢ MayWait (c : Thread nD τ) (.dma (0 : Fin 46)) () O := by
  rcases hO with rfl | rfl
  · exact mayWait_0 c _ 0 0 (lv_stage c)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t => by
    have h : (cfg0.win w).sem s = (0 : Fin 46) := by revert w s; decide
    rw [show ((cfgs 0).win w).sem s = (0 : Fin 46) from h]
    exact mayWait_stage c _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m).vals c)
      ⊢ |={Set.univ}=> iprop(start m c ∗ emp) := by
  rw [Pipeline.unscopedRestP_none, unscopedRest0_eq]
  iintro ⟨HA, #Hlev, Hcr, -, HG⟩
  ihave Hc := (creds (F := F) c) $$ Hcr
  imodintro
  unfold start G' argsPts argsOf
  icases HG with ⟨⟨%K, #HR⟩, Ha, Hp⟩
  isplitl
  · isplitr
    · iexists K
      unfold records recs
      icases HR with ⟨#H1, #H2⟩
      isplitr; · iexact H1
      isplitr; · iexact H2
      iexact Hlev
    isplitl [Ha Hp Hc]
    · iapply (linear_intro (F := F) c)
      isplitl [Ha]; · iexact Ha
      isplitl [Hp]; · iexact Hp
      iexact Hc
    iexact HA
  · iempintro

theorem scopedRest_eq (c : Dev nD) : (Pipeline.scopedRest cfg0.spec c : sProp 𝕄) = scr (F := F) c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_eq]
  unfold Φ₀
  iintro ⟨Hs, -, Hr⟩
  isplitl [Hs]; · iexact Hs
  iexact Hr

def Y (c : Dev nD) : sProp 𝕄 := iprop(unscopedSems0 c ∗ argsPts (argsOf m) c)

theorem phi1_exit (c : Dev nD) :
    (dats m ρ 0 c).Φ (Fin.last cfg0.N) ⊢ iprop(Y m c ∗ ownS (F := F) c ∗ Pipeline.scopedRest cfg0.spec c) := by
  rw [show (dats m ρ 0 c).Φ (Fin.last cfg0.N) = Φ₁ m c from rfl, scopedRest_eq, ownS_eq]
  unfold Φ₁ Y
  rw [unscopedSems0_eq]
  iintro ⟨Hr, HZ, HB, HA⟩
  isplitl [HB HA]
  · isplitl [HB]; · iexact HB
    iexact HA
  isplitl [HZ]; · iexact HZ
  iexact Hr

/-- Of a final memory: a device's arguments as they were. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

def QY (c : Dev nD) (s : MemSt nD τ sig (Elt F)) : Prop :=
  (∀ sm : SemLoc sig, sm.isScoped .tc = false → s.sem ((c.tc : Thread nD τ), sm) = 0) ∧ Kept m c s

theorem read_args (c : Dev nD) (s' : Phys nD τ sig (Elt F)) :
    iprop(argsPts (argsOf m) c ∗ SI s') ⊢ (iprop(⌜Kept m c s'.mem⌝ ∗ SI s') : sProp 𝕄) := by
  have h := pointsTo_read_all (Ix := Unit) (Name := ℕ) (U := UU) (Lvl := ℕ) ({main_arg0, main_arg1, main_arg2, main_arg3, main_arg4} : Finset (Ref sig .tc)) (fun b => (c : Thread nD τ).loc b)
    (fun b => m ((c : Thread nD τ).loc b)) s'
  rw [bigSep_insert (by decide), bigSep_insert (by decide), bigSep_insert (by decide), bigSep_insert (by decide), bigSep_singleton] at h
  unfold argsPts
  refine h.trans ?_
  iintro ⟨%h, HS⟩
  isplitr
  · ipureintro
    exact ⟨h main_arg0 (by decide), h main_arg1 (by decide), h main_arg2 (by decide), h main_arg3 (by decide), h main_arg4 (by decide)⟩
  iexact HS

theorem read_end (c : Dev nD) (s' : Phys nD τ sig (Elt F)) :
    iprop(Y m c ∗ emp ∗ SI s') ⊢ (|={Set.univ}=> iprop(⌜QY m c s'.mem⌝ ∗ SI s') : sProp 𝕄) := by
  unfold Y QY
  iintro ⟨⟨Hu, HA⟩, -, HSI⟩
  imod (Pipeline.unscopedSems0_read (X := unscopedSems0 c) (c := c) fupd_intro s') $$ [Hu HSI] with ⟨%h1, HSI⟩
  · isplitl [Hu]; · iexact Hu
    iexact HSI
  ihave H := (read_args m c s') $$ [HA HSI]
  · isplitl [HA]; · iexact HA
    iexact HSI
  icases H with ⟨%h2, HSI⟩
  imodintro
  isplitr
  · ipureintro; exact ⟨h1, h2⟩
  iexact HSI

/-! ## The run -/

/-- The result array after the run. -/
theorem final_out (c : Dev nD) : (dats m ρ 0 c).arrAt (0 : Fin 1) cfg0.N = (argsOf m).out := by
  have ho : ((cfg0.win (0 : Fin 1)).blk t0_0).view.read (Elt F) ((dats (F := F) m ρ 0 c).arrAt (0 : Fin 1) cfg0.N)
      = (dats (F := F) m ρ 0 c).flushed (0 : Fin 1) t0_0 := by
    rw [show cfg0.N = (t0_0 : Fin cfg0.N).val + 1 from rfl, (dats m ρ 0 c).arrAt_succ (0 : Fin 1) t0_0, flush0_0, if_pos rfl]
    exact View.read_write_univ _ _
  have hz : (fun a => (win0_0.index t0_0) a * main_v1.ty.shape.size a) = fun _ => 0 :=
    funext fun a => by fin_cases a <;> decide
  have hr := fun f => Memref.read_access_unit_zero (Elt F) main_v1 hz (fun a => by fin_cases a <;> decide) f
  rw [hr] at ho
  rw [ho]
  rfl

/-- What every final state holds: the result, the arguments as they were, every counter at zero. -/
def Final (r : PUnit × MemSt nD τ sig (Elt F)) : Prop :=
  (∀ c : Dev nD, r.2.mem ((c : Thread nD τ).loc main_v1) = (argsOf m).out ∧ Kept m c r.2) ∧ r.2.sem = fun _ => 0

set_option maxRecDepth 8000 in
theorem run_main : θ_run defs (onTc (τ := τ) (main (F := F))) (s₀ m ρ) (Final m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argsOf m).vals) (G' := G' (argsOf m).vals) (u₀ := u₀)
    (hu₀ := by
      unfold u₀
      iintro Hu
      ihave H := (ownU_pair _ _) $$ Hu
      icases H with ⟨HP, HX⟩
      imod (fund (argsOf m).vals) $$ HX with HG
      imodintro
      isplitl [HP]; · iexact HP
      iexact HG)
    (hglob := glob (argsOf m).vals)
    (hA := fun _ _ => rfl) (hpf := fun _ k => k.elim0)
    (X := start m) (Y := Y m) (Z := fun _ => iprop(emp))
    (hX := start_intro m ρ) (hin := phi0_intro m ρ) (hout := phi1_exit m ρ)
    (QY := QY m) (hY := read_end m)
    (hQ := fun _ h hs => ⟨fun c => ⟨((h c).1 0).trans (final_out m ρ c), (h c).2.2.2⟩, sem_eq_zero hs fun c => (h c).2.2.1⟩)

end Cert.AttnProof

end
-- ==== Proof.Frames.lean ====
/-
# The frame claims of the kernel, read at words and at extended reals
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.AttnProof

open Idealize.ShloMosaic Idealize.SL.Sem

/-- The two programs' definitions are the same. -/
theorem defs₀_same : Cert.Kernel.defs₀ (F := Bits) = Cert.KernelIdeal.defs₀ (F := Bits) := by
  unfold Cert.Kernel.defs₀ Cert.KernelIdeal.defs₀
  congr 1
  funext i x
  rcases i with ⟨_ | _, h⟩
  · rcases x with ⟨t, s⟩; exact rfl
  · exact absurd h (Nat.not_lt.2 (Nat.le_add_left _ _))

theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ => by
  rw [defs_same]
  exact (θ_run Cert.KernelIdeal.defs _ _).mono (fun _ h => ⟨fun c => (h.1 c).2, h.2⟩) (run_main (F := Bits) m ρ)

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AttnProof

end
-- ==== Proof.Soft.lean ====
/-
# Sums, scores and softmax over the extended reals

What the value claim needs of arithmetic alone: a positive real factor goes through a sum of extended reals; a score of real
operands takes its scale at either place; weights divided by their sum do not change when a real number is subtracted from
every score, whatever the values weighted are.
-/
module

public import Idealize.ShloMosaic.PureOps
public import Idealize.ShloMosaic.PureOps.Ideal
public import Mathlib.Data.EReal.Inv

@[expose] public section

noncomputable section

namespace Cert.AttnProof

open Idealize.ShloMosaic

variable {ι : Type} [Fintype ι]

theorem coe_sum' (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- A positive real goes through a sum. -/
theorem mul_sum_pos {r : ℝ} (hr : 0 ≤ r) (s : Finset ι) (f : ι → EReal) : (r : EReal) * ∑ j ∈ s, f j = ∑ j ∈ s, (r : EReal) * f j := by
  classical
  induction s using Finset.induction_on with
  | empty => simp
  | insert a s ha ih => rw [Finset.sum_insert ha, Finset.sum_insert ha, ← ih, EReal.left_distrib_of_nonneg_of_ne_top (by exact_mod_cast hr) (EReal.coe_ne_top r)]

/-- The scale on the queries, or on the product. -/
theorem score_scale (q k : ι → ℝ) (S : ℝ) :
    (∑ d, ((q d : EReal) * (S : EReal)) * (k d : EReal)) = (∑ d, (q d : EReal) * (k d : EReal)) * (S : EReal) := by
  simp only [← EReal.coe_mul, coe_sum', Finset.sum_mul]
  congr 1
  exact Finset.sum_congr rfl fun d _ => by ring

/-- A product of real matrices is real. -/
theorem dot_real (a b : ι → ℝ) : (∑ j, (a j : EReal) * (b j : EReal)) = ((∑ j, a j * b j : ℝ) : EReal) := by
  simp only [← EReal.coe_mul, coe_sum']

theorem exp_coe (r : ℝ) : Ideal.exp (r : EReal) = (Real.exp r : EReal) := rfl

/-- The largest of finitely many reals is a real. -/
theorem max_real [Nonempty ι] (s : ι → ℝ) :
    ∃ M : ℝ, max (⊥ : EReal) (Finset.univ.fold max (⊥ : EReal) fun j => (s j : EReal)) = (M : EReal) := by
  have h1 : (⊥ : EReal) < Finset.univ.fold max (⊥ : EReal) (fun j => (s j : EReal)) := by
    rw [Finset.lt_fold_max]
    exact Or.inr ⟨Classical.arbitrary ι, Finset.mem_univ _, EReal.bot_lt_coe _⟩
  have h2 : Finset.univ.fold max (⊥ : EReal) (fun j => (s j : EReal)) < ⊤ := by
    rw [Finset.fold_max_lt]
    exact ⟨bot_lt_top, fun j _ => EReal.coe_lt_top _⟩
  rw [max_eq_right h1.le]
  exact ⟨_, (EReal.coe_toReal h2.ne h1.ne').symm⟩

/-- A quotient keeps its value when both parts are multiplied by a positive real. -/
theorem div_scale {r L : ℝ} (hr : 0 < r) (hL : 0 < L) (N : EReal) :
    Ideal.div ((r : EReal) * N) ((r * L : ℝ) : EReal) = Ideal.div N (L : EReal) := by
  rw [Ideal.div_coe (mul_pos hr hL).ne', Ideal.div_coe hL.ne', mul_comm (r : EReal) N, mul_assoc, ← EReal.coe_mul]
  congr 2
  field_simp

/-- Softmax as the kernel takes it, and as the reference does. -/
theorem softmax_eq [Nonempty ι] (s : ι → ℝ) (v : ι → EReal) (M : ℝ) (a b : EReal) :
    Ideal.div (∑ j, Ideal.exp (s j : EReal) * v j) (∑ j, Ideal.exp (s j : EReal) * 1)
      = Ideal.div (0 * a + ∑ j, v j * Ideal.exp ((s j : EReal) - (M : EReal))) (0 * b + (0 + ∑ j, Ideal.exp ((s j : EReal) - (M : EReal)))) := by
  have hL : 0 < ∑ j, Real.exp (s j) := Finset.sum_pos (fun j _ => Real.exp_pos _) Finset.univ_nonempty
  have he : ∀ j, Ideal.exp ((s j : EReal) - (M : EReal)) = ((Real.exp (-M) : ℝ) : EReal) * ((Real.exp (s j) : ℝ) : EReal) := fun j => by
    rw [← EReal.coe_sub, exp_coe, ← EReal.coe_mul, ← Real.exp_add]
    congr 2
    ring
  simp only [exp_coe, mul_one, zero_mul, zero_add, he]
  rw [← mul_sum_pos (Real.exp_pos (-M)).le, coe_sum', ← EReal.coe_mul,
    ← div_scale (Real.exp_pos (-M)) hL, mul_sum_pos (Real.exp_pos (-M)).le]
  congr 1
  exact Finset.sum_congr rfl fun j _ => by rw [mul_comm (v j), mul_assoc]

/-- A number of absolute value below infinity is a real. -/
theorem real_of_abs_lt {x : EReal} (h : max x (-x) < ⊤) : (x.toReal : EReal) = x := by
  refine EReal.coe_toReal ?_ ?_
  · rintro rfl; simp at h
  · rintro rfl; simp at h

theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]

/-- The scale is a real. -/
theorem scale_real : ∃ S : ℝ, Ideal.ofBits .f32 0x3DB504F3#32 = (S : EReal) := by
  have h : ∃ S : ℝ, Ideal.ieee 8 23 0x3DB504F3#32 = (S : EReal) := by
    unfold Ideal.ieee
    simp only [BitVec.reduceExtractLsb', BitVec.reduceToNat]
    norm_num
  exact h

end Cert.AttnProof

end
-- ==== Proof.RefRead.lean ====
/-
# The reference's result at an index

The reference program's composed term is cut into stages: projections by head, scores, their greatest, the weights, numerator and
denominator. Each stage is read at an index of literal coordinates.
-/
module

public import proofs.«01_k».proof.Proof.Gen.ReferenceIdeal.Run
public import Idealize.ShloMosaic.Lib.Pointwise
public import Idealize.ShloMosaic.Lib.Tactic.CleanTypes
public import proofs.«01_k».proof.Proof.Soft

@[expose] public section

set_option maxRecDepth 16384

noncomputable section

namespace Cert.AttnValue

open Cert.ReferenceIdeal Cert.ReferenceIdeal.Gen
open Idealize.ShloMosaic Idealize.ShloMosaic.TcCoe

/-! ## The stages -/

def rQ (x : FVec Ideal S1x512x1024 .f32) (w : FVec Ideal S1024x8192 .f32) : FVec Ideal S1x512x64x128 .f32 :=
  shapeCast _ (Host.dotGeneral dot_S1x512x1024_S1024x8192_S1x512x8192_2_0_01_1_n_n none x w) shapeCasts_S1x512x8192_S1x512x64x128

def rK (x : FVec Ideal S1x512x1024 .f32) (w : FVec Ideal S1024x2048 .f32) : FVec Ideal S1x512x64x128 .f32 :=
  shapeCast _ (broadcastInDim S1x512x16x4x128 ![0, 1, 2, 4] bcast_S1x512x16x128_S1x512x16x4x128_0_1_2_4
    (shapeCast S1x512x16x128 (Host.dotGeneral dot_S1x512x1024_S1024x2048_S1x512x2048_2_0_01_1_n_n none x w : FVec Ideal S1x512x2048 .f32)
      shapeCasts_S1x512x2048_S1x512x16x128)) shapeCasts_S1x512x16x4x128_S1x512x64x128

def rS (q k : FVec Ideal S1x512x64x128 .f32) : FVec Ideal S1x64x512x512 .f32 :=
  mulf (Host.dotGeneral dot_S1x512x64x128_S1x512x64x128_S1x64x512x512_3_3_1_1_02_02 none q k)
    (broadcastInDim S1x64x512x512 ![] bcast_S_S1x64x512x512 (constant S_ .f32 0x3DB504F3#32))

def rM (s : FVec Ideal S1x64x512x512 .f32) : FVec Ideal S1x64x512x1 .f32 :=
  maximumf (broadcastInDim S1x64x512x1 ![] bcast_S_S1x64x512x1 (constant S_ .f32 0xFF800000#32))
    (broadcastInDim S1x64x512x1 ![0, 1, 2] bcast_S1x64x512_S1x64x512x1_0_1_2
      (Host.reduce FloatOps.maximumf s (constant S_ .f32 0xFF800000#32) reducesTo_S1x64x512x512_S1x64x512_d3 h_S_))

def rA (s : FVec Ideal S1x64x512x512 .f32) : FVec Ideal S1x64x512x1 .f32 :=
  Host.exp (subf (broadcastInDim S1x64x512x1 ![] bcast_S_S1x64x512x1 (constant S_ .f32 0xFF800000#32)) (rM s))

def rP (s : FVec Ideal S1x64x512x512 .f32) : FVec Ideal S1x64x512x512 .f32 :=
  Host.exp (subf s (broadcastInDim S1x64x512x512 ![0, 1, 2, 3] bcast_S1x64x512x1_S1x64x512x512_0_1_2_3 (rM s)))

def rN (v : FVec Ideal S1x512x64x128 .f32) (s : FVec Ideal S1x64x512x512 .f32) : FVec Ideal S1x512x64x128 .f32 :=
  addf (mulf (broadcastInDim S1x512x64x128 ![] bcast_S_S1x512x64x128 (constant S_ .f32 0x00000000#32))
      (broadcastInDim S1x512x64x128 ![0, 1, 2, 3] bcast_S1x512x64x1_S1x512x64x128_0_1_2_3
        (transpose S1x512x64x1 [0, 2, 1, 3] (rA s) transposes_S1x64x512x1_S1x512x64x1_0_2_1_3)))
    (transpose S1x512x64x128 [0, 3, 1, 2]
      (Host.dotGeneral dot_S1x512x64x128_S1x64x512x512_S1x64x128x512_1_3_3_2_02_01 none v (rP s) : FVec Ideal S1x64x128x512 .f32)
      transposes_S1x64x128x512_S1x512x64x128_0_3_1_2)

def rD (s : FVec Ideal S1x64x512x512 .f32) : FVec Ideal S1x512x64x128 .f32 :=
  broadcastInDim S1x512x64x128 ![0, 1, 2, 3] bcast_S1x512x64x1_S1x512x64x128_0_1_2_3
    (transpose S1x512x64x1 [0, 2, 1, 3]
      (addf (mulf (broadcastInDim S1x64x512x1 ![] bcast_S_S1x64x512x1 (constant S_ .f32 0x00000000#32)) (rA s))
        (broadcastInDim S1x64x512x1 ![0, 1, 2] bcast_S1x64x512_S1x64x512x1_0_1_2
          (Host.reduceAdd (rP s) (constant S_ .f32 0x00000000#32) reducesTo_S1x64x512x512_S1x64x512_d3 h_S_)))
      transposes_S1x64x512x1_S1x512x64x1_0_2_1_3)

def rOut (a : FVec Ideal S1x512x64x128 .f32) (wo : FVec Ideal S8192x1024 .f32) : FVec Ideal S1x512x1024 .bf16 :=
  truncf .bf16 (Host.dotGeneral dot_S1x512x8192_S8192x1024_S1x512x1024_2_0_01_1_n_n none
    (shapeCast S1x512x8192 a shapeCasts_S1x512x64x128_S1x512x8192) wo : FVec Ideal S1x512x1024 .f32) bitsLt_bf16_f32

def rAll (x : FVec Ideal S1x512x1024 .f32) (wq : FVec Ideal S1024x8192 .f32) (wo : FVec Ideal S8192x1024 .f32)
    (wk wv : FVec Ideal S1024x2048 .f32) : FVec Ideal S1x512x1024 .bf16 :=
  rOut (Host.divf (rN (rK x wv) (rS (rQ x wq) (rK x wk))) (rD (rS (rQ x wq) (rK x wk)))) wo

/-! ## Each stage at an index -/

theorem rQ_at (x : FVec Ideal S1x512x1024 .f32) (w : FVec Ideal S1024x8192 .f32) (R : Fin 512) (H : Fin 64) (e : Fin 128) :
    rQ x w (ix4 (0 : Fin 1) R H e) = ∑ j : Fin 1024, x (ix3 (0 : Fin 1) R j) * w (ix2 j (⟨H.val * 128 + e.val, by omega⟩ : Fin 8192)) := by
  pointwise [rQ]

theorem rK_at (x : FVec Ideal S1x512x1024 .f32) (w : FVec Ideal S1024x2048 .f32) (R : Fin 512) (H : Fin 64) (e : Fin 128) :
    rK x w (ix4 (0 : Fin 1) R H e) = ∑ j : Fin 1024, x (ix3 (0 : Fin 1) R j) * w (ix2 j (⟨H.val / 4 * 128 + e.val, by omega⟩ : Fin 2048)) := by
  pointwise [rK]

theorem rS_at (q k : FVec Ideal S1x512x64x128 .f32) (H : Fin 64) (i j : Fin 512) :
    rS q k (ix4 (0 : Fin 1) H i j)
      = (∑ e : Fin 128, q (ix4 (0 : Fin 1) i H e) * k (ix4 (0 : Fin 1) j H e)) * Ideal.ofBits .f32 0x3DB504F3#32 := by
  pointwise [rS]

theorem red_at (s : FVec Ideal S1x64x512x512 .f32) (z : FVec Ideal S_ .f32) (H : Fin 64) (i : Fin 512) :
    (Host.reduce FloatOps.maximumf s z reducesTo_S1x64x512x512_S1x64x512_d3 h_S_ : FVec Ideal S1x64x512 .f32) (ix3 (0 : Fin 1) H i)
      = (Finset.univ.fold max (z (Shape.Idx.first h_S_)) fun j : Fin 512 => s (ix4 (0 : Fin 1) H i j)) := by
  pointwise
theorem mx_at (y : FVec Ideal S1x64x512 .f32) (z : FVec Ideal S_ .f32) (H : Fin 64) (i : Fin 512) :
    (maximumf (broadcastInDim S1x64x512x1 ![] bcast_S_S1x64x512x1 z)
    (broadcastInDim S1x64x512x1 ![0, 1, 2] bcast_S1x64x512_S1x64x512x1_0_1_2 y) : FVec Ideal S1x64x512x1 .f32) (ix4 (0 : Fin 1) H i (0 : Fin 1))
      = max (z ix0) (y (ix3 (0 : Fin 1) H i)) := by
  pointwise
theorem rM_at (s : FVec Ideal S1x64x512x512 .f32) (H : Fin 64) (i : Fin 512) :
    rM s (ix4 (0 : Fin 1) H i (0 : Fin 1))
      = max (Ideal.ofBits .f32 0xFF800000#32) (Finset.univ.fold max (Ideal.ofBits .f32 0xFF800000#32) fun j : Fin 512 => s (ix4 (0 : Fin 1) H i j)) := by
  unfold rM
  rw [mx_at, red_at]
  rfl

theorem rP_at (s : FVec Ideal S1x64x512x512 .f32) (H : Fin 64) (i j : Fin 512) :
    rP s (ix4 (0 : Fin 1) H i j) = Ideal.exp (s (ix4 (0 : Fin 1) H i j) - rM s (ix4 (0 : Fin 1) H i (0 : Fin 1))) := by
  pointwise [rP]

theorem rN_at (v : FVec Ideal S1x512x64x128 .f32) (s : FVec Ideal S1x64x512x512 .f32) (i : Fin 512) (H : Fin 64) (e : Fin 128) :
    rN v s (ix4 (0 : Fin 1) i H e)
      = 0 * rA s (ix4 (0 : Fin 1) H i (0 : Fin 1)) + ∑ j : Fin 512, v (ix4 (0 : Fin 1) j H e) * rP s (ix4 (0 : Fin 1) H i j) := by
  pointwise [rN]

theorem rD_at (s : FVec Ideal S1x64x512x512 .f32) (i : Fin 512) (H : Fin 64) (e : Fin 128) :
    rD s (ix4 (0 : Fin 1) i H e)
      = 0 * rA s (ix4 (0 : Fin 1) H i (0 : Fin 1)) + (0 + ∑ j : Fin 512, rP s (ix4 (0 : Fin 1) H i j)) := by
  pointwise [rD]

theorem rOut_at (a : FVec Ideal S1x512x64x128 .f32) (wo : FVec Ideal S8192x1024 .f32) (R : Fin 512) (J : Fin 1024) :
    rOut a wo (ix3 (0 : Fin 1) R J)
      = ∑ K : Fin 8192, a (ix4 (0 : Fin 1) R (⟨K.val / 128, by omega⟩ : Fin 64) (⟨K.val % 128, by omega⟩ : Fin 128)) * wo (ix2 K J) := by
  pointwise [rOut]

end Cert.AttnValue

end
-- ==== Proof.RefEq.lean ====
/-
# The reference's run, read as stages

The value that the reference's run leaves in its result is the composition of the stages read index by index beside this file.
-/
module

public import proofs.«01_k».proof.Proof.RefRead

@[expose] public section

set_option maxRecDepth 16384

noncomputable section

namespace Cert.AttnValue

open Cert.ReferenceIdeal Cert.ReferenceIdeal.Gen
open Idealize.ShloMosaic Idealize.ShloMosaic.TcCoe

set_option maxHeartbeats 4000000 in
/-- The reference's result is `rAll` of its five arguments. -/
theorem res_eq (m : (ℓ : Loc nD τ sig) → Buf (Elt Ideal) ℓ) (c : Dev nD) :
    Value.res_main_v39 (F := Ideal) m c
      = rAll (m ((c : Thread nD τ).loc main_arg0)) (m ((c : Thread nD τ).loc main_arg1)) (m ((c : Thread nD τ).loc main_arg2))
          (m ((c : Thread nD τ).loc main_arg3)) (m ((c : Thread nD τ).loc main_arg4)) := by
  unfold Value.res_main_v39 rAll rOut rN rD rP rA rM rS rQ rK
  clean_types
  rfl

end Cert.AttnValue

end
-- ==== Proof.KerRead.lean ====
/-
# The kernel's values at an index

The projections, the heads and the output projection of one device, each read at an index of literal coordinates over the extended
reals; then the two reduce-scatters: a device's finished rows are the sum of the eight devices' partial products.
-/
module

public import proofs.«01_k».proof.Proof.Values
public import Idealize.ShloMosaic.Lib.Pointwise
public import proofs.«01_k».proof.Proof.Soft

@[expose] public section

set_option maxRecDepth 16384

noncomputable section

namespace Cert.AttnValue

open Cert.KernelIdeal Cert.KernelIdeal.Gen
open Idealize.ShloMosaic Idealize.ShloMosaic.TcCoe Idealize.ShloMosaic.VecWindow
open Cert.AttnProof hiding ix2 ix3

theorem ix2_same {n m : ℕ} (i : Fin n) (j : Fin m) : Cert.AttnProof.ix2 i j = Idealize.ShloMosaic.ix2 i j := by
  rw [eq_ix2 (Cert.AttnProof.ix2 i j)]; rfl
theorem ix3_same {l n m : ℕ} (h : Fin l) (i : Fin n) (j : Fin m) : Cert.AttnProof.ix3 h i j = Idealize.ShloMosaic.ix3 h i j := by
  rw [eq_ix3 (Cert.AttnProof.ix3 h i j)]; rfl

theorem window_at {n m n' m' : ℕ} (x : (⟨2, ![n, m]⟩ : Shape).Idx → EReal) (off : Fin 2 → ℕ)
    (inb : ∀ a, off a + (![n', m'] : Fin 2 → ℕ) a ≤ (⟨2, ![n, m]⟩ : Shape).size a) (i : Fin n') (j : Fin m')
    (h0 : off 0 + i.val < n) (h1 : off 1 + j.val < m) :
    window (s := ⟨2, ![n, m]⟩) x off ![n', m'] inb (ix2 i j) = x (ix2 ⟨off 0 + i.val, h0⟩ ⟨off 1 + j.val, h1⟩) := by
  unfold window
  refine congrArg x (funext fun a => ?_)
  match a with
  | 0 => exact Fin.ext (by show off 0 + 1 * i.val = off 0 + i.val; omega)
  | 1 => exact Fin.ext (by show off 1 + 1 * j.val = off 1 + j.val; omega)

variable (A : Args Ideal) (c : Dev nD)

theorem off_eq : k0_off1 c = ![0, 256 * c.val] := by revert c; decide

/-! ## The projections -/

theorem xf_at (R : Fin 512) (m : Fin 1024) : A.xf c (ix2 R m) = A.x c (ix3 (0 : Fin 1) R m) := by
  have h : A.xf c = shapeCast S512x1024 (A.x c) (by decide : S1x512x1024.ShapeCasts S512x1024) := by
    refine congrArg (fun z => shapeCast S512x1024 z (by decide : S1x512x1024.ShapeCasts S512x1024)) (a₁ := window (s := S1x512x1024) (A.x c) ![0, 0, 0] S1x512x1024.size inb_S1x512x1024_S1x512x1024_0_0_0) (funext fun y => ?_)
    exact congrArg (A.x c) (Rect.emb_unit_full _ _)
  rw [h]
  pointwise

theorem kread_at (f : Vec Ideal S1024x2048 .f32) (m : Fin 1024) (n : Fin 256) :
    window (s := S1024x2048) f (k0_off1 c) S1024x256.size (k0_off1_inb c) (ix2 m n)
      = f (ix2 m (⟨256 * c.val + n.val, by have : c.val < 8 := c.isLt; omega⟩ : Fin 2048)) := by
  have hc : c.val < 8 := c.isLt
  have h0 : k0_off1 c 0 = 0 := by rw [off_eq]; rfl
  have h1 : k0_off1 c 1 = 256 * c.val := by rw [off_eq]; rfl
  refine (window_at (n := 1024) (m := 2048) (n' := 1024) (m' := 256) f (k0_off1 c) _ m n (by omega) (by omega)).trans ?_
  congr 2 <;> simp [h0, h1]

theorem kf_at (m : Fin 1024) (n : Fin 256) :
    A.kf c (ix2 m n) = A.wk c (ix2 m (⟨256 * c.val + n.val, by have : c.val < 8 := c.isLt; omega⟩ : Fin 2048)) :=
  kread_at c (A.wk c) m n

theorem vf_at (m : Fin 1024) (n : Fin 256) :
    A.vf c (ix2 m n) = A.wv c (ix2 m (⟨256 * c.val + n.val, by have : c.val < 8 := c.isLt; omega⟩ : Fin 2048)) :=
  kread_at c (A.wv c) m n

theorem q_at (R : Fin 512) (k : Fin 1024) :
    A.q c (ix2 R k) = (∑ m : Fin 1024, A.xf c (ix2 R m) * A.wq c (ix2 m k)) * Ideal.ofBits .f32 0x3DB504F3#32 := by
  pointwise [Args.q, k0_pay39, k0_pay38, k0_pay37]

theorem k_at (j : Fin 512) (n : Fin 256) : A.k c (ix2 j n) = ∑ m : Fin 1024, A.xf c (ix2 j m) * A.kf c (ix2 m n) := by
  pointwise [Args.k, Args.xb, k0_pay40, k0_pay37]

theorem v0_at (j : Fin 512) (n : Fin 256) :
    A.v0 c (ix2 j n) = if h : n.val < 128 then ∑ m : Fin 1024, A.xf c (ix2 j m) * A.vf c (ix2 m (⟨n.val, by omega⟩ : Fin 256)) else 1 := by
  pointwise [Args.v0, Args.xb, k0_pay43, k0_pay41, k0_pay42, k0_pay37]

theorem v1_at (j : Fin 512) (n : Fin 256) :
    A.v1 c (ix2 j n) = if h : n.val < 128 then ∑ m : Fin 1024, A.xf c (ix2 j m) * A.vf c (ix2 m (⟨128 + n.val, by omega⟩ : Fin 256)) else 1 := by
  pointwise [Args.v1, Args.xb, k0_pay44, k0_pay41, k0_pay42, k0_pay37]

/-! ## The heads -/

theorem hd_at (q : FVec Ideal S256x128 .bf16) (k : FVec Ideal S512x128 .bf16) (vo : FVec Ideal S512x256 .bf16) (r : Fin 256) (e : Fin 128) :
    hd q k vo (ix2 r e)
      = Ideal.div (∑ j : Fin 512, Ideal.exp (∑ d : Fin 128, q (ix2 r d) * k (ix2 j d)) * vo (ix2 j (⟨e.val, by omega⟩ : Fin 256)))
          (∑ j : Fin 512, Ideal.exp (∑ d : Fin 128, q (ix2 r d) * k (ix2 j d)) * vo (ix2 j (128 : Fin 256))) := by
  pointwise [hd, k0_pay6]

theorem qsl_at (q : FVec Ideal S512x1024 .bf16) (r : Fin 2) (h : Fin 8) (i : Fin 256) (d : Fin 128) :
    qsl q r h (ix2 i d) = q (ix2 (⟨256 * r.val + i.val, by omega⟩ : Fin 512) (⟨128 * h.val + d.val, by omega⟩ : Fin 1024)) := by
  pointwise [qsl]

theorem ksl_at (k : FVec Ideal S512x256 .bf16) (g : Fin 2) (j : Fin 512) (d : Fin 128) :
    ksl k g (ix2 j d) = k (ix2 j (⟨128 * g.val + d.val, by omega⟩ : Fin 256)) := by
  pointwise [ksl]

/-! ## The output projection -/

/-- A device's part of the result, by rows half. -/
def part (r : Fin 2) (i : Fin 256) (J : Fin 1024) : EReal := ∑ k : Fin 1024, A.att c r (ix2 i k) * A.wo c (ix2 k J)

theorem l0_at (r : Fin 2) (i : Fin 256) (j : Fin 512) : A.l0 c r (ix2 i j) = part A c r i (⟨j.val, by omega⟩ : Fin 1024) := by
  have h : ∀ k : Fin 1024, A.woL c (ix2 k j) = A.wo c (ix2 k (⟨j.val, by omega⟩ : Fin 1024)) := fun k => by
    refine (window_at (n := 1024) (m := 1024) (n' := 1024) (m' := 512) (A.wo c) ![0, 0] _ k j (by simp) (by simp; omega)).trans ?_
    congr 2 <;> simp
  unfold part
  simp only [← h]
  pointwise [Args.l0, Args.wl, k0_pay52, k0_pay45]

theorem r0_at (r : Fin 2) (i : Fin 256) (j : Fin 512) : A.r0 c r (ix2 i j) = part A c r i (⟨512 + j.val, by omega⟩ : Fin 1024) := by
  have h : ∀ k : Fin 1024, A.woR c (ix2 k j) = A.wo c (ix2 k (⟨512 + j.val, by omega⟩ : Fin 1024)) := fun k => by
    refine (window_at (n := 1024) (m := 1024) (n' := 1024) (m' := 512) (A.wo c) ![0, 512] _ k j (by simp) (by simp; omega)).trans ?_
    congr 2 <;> simp
  unfold part
  simp only [← h]
  pointwise [Args.r0, Args.wr, k0_pay58, k0_pay46]

/-! ## The reduce-scatters -/

theorem half_at (f : FVec Ideal S256x512 .f32) (r : Fin 2) (i : Fin 128) (j : Fin 512) :
    half f r (ix2 i j) = f (ix2 (⟨128 * r.val + i.val, by omega⟩ : Fin 256) j) := by
  refine (window_at (n := 256) (m := 512) (n' := 128) (m' := 512) f ![128 * r.val, 0] _ i j (by simp; omega) (by simp)).trans ?_
  congr 2 <;> simp

theorem quar_at (f : FVec Ideal S128x512 .f32) (r : Fin 2) (i : Fin 64) (j : Fin 512) :
    quar f r (ix2 i j) = f (ix2 (⟨64 * r.val + i.val, by omega⟩ : Fin 128) j) := by
  refine (window_at (n := 128) (m := 512) (n' := 64) (m' := 512) f ![64 * r.val, 0] _ i j (by simp; omega) (by simp)).trans ?_
  congr 2 <;> simp

theorem l1_at (i : Fin 256) (j : Fin 512) : A.l1 c (ix2 i j) = A.l0 c (bt2 c) (ix2 i j) + A.l0 (cx c 3) (fl (bt2 (cx c 3))) (ix2 i j) := by
  pointwise [Args.l1, Args.sa0, k0_pay65, k0_pay53]
theorem l2_at (i : Fin 128) (j : Fin 512) :
    A.l2 c (ix2 i j) = half (A.l1 c) (bt1 c) (ix2 i j) + half (A.l1 (cx c 2)) (fl (bt1 (cx c 2))) (ix2 i j) := by
  pointwise [Args.l2, Args.sa1, k0_pay69, k0_pay66]
theorem l3_at (i : Fin 64) (j : Fin 512) :
    A.l3 c (ix2 i j) = quar (A.l2 c) (bt0 c) (ix2 i j) + quar (A.l2 (cx c 0)) (fl (bt0 (cx c 0))) (ix2 i j) := by
  pointwise [Args.l3, Args.sa2, k0_pay74, k0_pay73, k0_pay70]
theorem r1_at (i : Fin 256) (j : Fin 512) : A.r1 c (ix2 i j) = A.r0 c (bt1 c) (ix2 i j) + A.r0 (cx c 2) (fl (bt1 (cx c 2))) (ix2 i j) := by
  pointwise [Args.r1, Args.sb0, k0_pay67, k0_pay60]
theorem r2_at (i : Fin 128) (j : Fin 512) :
    A.r2 c (ix2 i j) = half (A.r1 c) (bt0 c) (ix2 i j) + half (A.r1 (cx c 0)) (fl (bt0 (cx c 0))) (ix2 i j) := by
  pointwise [Args.r2, Args.sb1, k0_pay71, k0_pay68]
theorem r3_at (i : Fin 64) (j : Fin 512) :
    A.r3 c (ix2 i j) = quar (A.r2 c) (bt2 c) (ix2 i j) + quar (A.r2 (cx c 3)) (fl (bt2 (cx c 3))) (ix2 i j) := by
  pointwise [Args.r3, Args.sb2, k0_pay76, k0_pay72]

theorem fl2 (c : Dev nD) : fl (bt2 (cx c 3)) = bt2 c := by revert c; decide
theorem fl1 (c : Dev nD) : fl (bt1 (cx c 2)) = bt1 c := by revert c; decide
theorem fl0 (c : Dev nD) : fl (bt0 (cx c 0)) = bt0 c := by revert c; decide
theorem bt2_0 (c : Dev nD) : bt2 (cx c 0) = bt2 c := by revert c; decide
theorem bt2_2 (c : Dev nD) : bt2 (cx c 2) = bt2 c := by revert c; decide
theorem bt1_0 (c : Dev nD) : bt1 (cx c 0) = bt1 c := by revert c; decide
theorem bt1_3 (c : Dev nD) : bt1 (cx c 3) = bt1 c := by revert c; decide
theorem bt0_3 (c : Dev nD) : bt0 (cx c 3) = bt0 c := by revert c; decide

theorem sum_left (f : Dev nD → EReal) (c : Dev nD) :
    ((f c + f (cx c 3)) + (f (cx c 2) + f (cx (cx c 2) 3)))
      + ((f (cx c 0) + f (cx (cx c 0) 3)) + (f (cx (cx c 0) 2) + f (cx (cx (cx c 0) 2) 3))) = ∑ d : Dev nD, f d := by
  have h : ∑ d : Dev nD, f d = f 0 + f 1 + f 2 + f 3 + f 4 + f 5 + f 6 + f 7 := Fin.sum_univ_eight f
  rw [h]
  have hc : c = 0 ∨ c = 1 ∨ c = 2 ∨ c = 3 ∨ c = 4 ∨ c = 5 ∨ c = 6 ∨ c = 7 := by revert c; decide
  rcases hc with rfl | rfl | rfl | rfl | rfl | rfl | rfl | rfl <;>
    simp only [show cx 0 0 = 1 by decide, show cx 1 0 = 0 by decide, show cx 2 0 = 3 by decide, show cx 3 0 = 2 by decide,
      show cx 4 0 = 5 by decide, show cx 5 0 = 4 by decide, show cx 6 0 = 7 by decide, show cx 7 0 = 6 by decide,
      show cx 0 2 = 3 by decide, show cx 1 2 = 2 by decide, show cx 2 2 = 1 by decide, show cx 3 2 = 0 by decide,
      show cx 4 2 = 7 by decide, show cx 5 2 = 6 by decide, show cx 6 2 = 5 by decide, show cx 7 2 = 4 by decide,
      show cx 0 3 = 4 by decide, show cx 1 3 = 5 by decide, show cx 2 3 = 6 by decide, show cx 3 3 = 7 by decide,
      show cx 4 3 = 0 by decide, show cx 5 3 = 1 by decide, show cx 6 3 = 2 by decide, show cx 7 3 = 3 by decide] <;>
    ac_rfl

theorem sum_right (f : Dev nD → EReal) (c : Dev nD) :
    ((f c + f (cx c 2)) + (f (cx c 0) + f (cx (cx c 0) 2)))
      + ((f (cx c 3) + f (cx (cx c 3) 2)) + (f (cx (cx c 3) 0) + f (cx (cx (cx c 3) 0) 2))) = ∑ d : Dev nD, f d := by
  have h1 : cx (cx c 0) 2 = cx (cx c 2) 0 := by revert c; decide
  have h2 : cx (cx c 3) 2 = cx (cx c 2) 3 := by revert c; decide
  have h3 : cx (cx c 3) 0 = cx (cx c 0) 3 := by revert c; decide
  have h4 : cx (cx (cx c 3) 0) 2 = cx (cx (cx c 0) 2) 3 := by revert c; decide
  rw [← sum_left f c, h4, h2, h3]
  ac_rfl

/-- The left columns: a device's sixty-four rows are the sum over the devices. -/
theorem l3_sum (i : Fin 64) (j : Fin 512) :
    A.l3 c (ix2 i j) = ∑ d : Dev nD, part A d (bt2 c)
      (⟨128 * (bt1 c).val + (64 * (bt0 c).val + i.val), by omega⟩ : Fin 256) (⟨j.val, by omega⟩ : Fin 1024) := by
  rw [← sum_left _ c]
  simp only [l3_at, quar_at, l2_at, half_at, l1_at, l0_at, fl0, fl1, fl2, bt2_0, bt2_2, bt1_0]

theorem r3_sum (i : Fin 64) (j : Fin 512) :
    A.r3 c (ix2 i j) = ∑ d : Dev nD, part A d (bt1 c)
      (⟨128 * (bt0 c).val + (64 * (bt2 c).val + i.val), by omega⟩ : Fin 256) (⟨512 + j.val, by omega⟩ : Fin 1024) := by
  rw [← sum_right _ c]
  simp only [r3_at, quar_at, r2_at, half_at, r1_at, r0_at, fl0, fl1, fl2, bt1_0, bt0_3, bt1_3]

theorem pay75_at (f : FVec Ideal S64x512 .f32) (i : Fin 64) (j : Fin 512) : @Eq EReal (k0_pay75 (F := Ideal) f (ix3 (0 : Fin 1) i j)) (f (ix2 i j)) := by
  pointwise [k0_pay75]
theorem pay77_at (f : FVec Ideal S64x512 .f32) (i : Fin 64) (j : Fin 512) : @Eq EReal (k0_pay77 (F := Ideal) f (ix3 (0 : Fin 1) i j)) (f (ix2 i j)) := by
  pointwise [k0_pay77]

theorem part_congr (d : Dev nD) {r r' : Fin 2} {i i' : Fin 256} {J J' : Fin 1024} (hr : r.val = r'.val) (hi : i.val = i'.val) (hJ : J.val = J'.val) :
    part A d r i J = part A d r' i' J' := by
  obtain rfl := Fin.ext hr; obtain rfl := Fin.ext hi; obtain rfl := Fin.ext hJ; rfl

theorem own_bits (b : Fin 8) : (bt1 (ownB' b)).val = b.val / 4 ∧ (bt0 (ownB' b)).val = b.val / 2 % 2 ∧ (bt2 (ownB' b)).val = b.val % 2 := by
  revert b; decide

/-- The whole result. -/
theorem out_at (R : Fin 512) (J : Fin 1024) :
    A.out (ix3 (0 : Fin 1) R J) = ∑ d : Dev nD, part A d (⟨R.val / 256, by omega⟩ : Fin 2) (⟨R.val % 256, by omega⟩ : Fin 256) J := by
  have hR := R.isLt
  unfold Args.out
  dsimp only
  split
  · next h =>
    have h' : J.val < 512 := h
    rw [ix3_same]
    refine (pay75_at _ _ _).trans ((l3_sum A _ _ _).trans (Finset.sum_congr rfl fun d _ => part_congr A d ?_ ?_ rfl))
    · show R.val / 64 / 4 % 2 = R.val / 256; omega
    · show 128 * (R.val / 64 / 2 % 2) + (64 * (R.val / 64 % 2) + R.val % 64) = R.val % 256; omega
  · next h =>
    have h' : ¬ J.val < 512 := h
    have hJ := J.isLt
    rw [ix3_same]
    refine (pay77_at _ _ _).trans ((r3_sum A _ _ _).trans (Finset.sum_congr rfl fun d _ => part_congr A d ?_ ?_ ?_))
    · rw [(own_bits _).1]; show R.val / 64 / 4 = R.val / 256; omega
    · show 128 * (bt0 (ownB' _)).val + (64 * (bt2 (ownB' _)).val + R.val % 64) = R.val % 256
      rw [(own_bits _).2.1, (own_bits _).2.2]
      show 128 * (R.val / 64 / 2 % 2) + (64 * (R.val / 64 % 2) + R.val % 64) = R.val % 256; omega
    · show 512 + (J.val - 512) = J.val; omega

end Cert.AttnValue

end
-- ==== Proof.Match.lean ====
/-
# The kernel's result is the reference's

Device `c` holds query heads 8c to 8c + 7 and the matching rows of the output weights. With real scores each of its heads is the
reference's head, so its partial product is the reference's contraction over its own 1024 columns; the eight of them make the whole.
-/
module

public import proofs.«01_k».proof.Proof.KerRead
public import proofs.«01_k».proof.Proof.RefRead

@[expose] public section

set_option maxRecDepth 16384

noncomputable section

namespace Cert.AttnValue

open Cert.KernelIdeal (nD S1x512x1024 S1024x1024 S1024x2048 S512x1024)
open Idealize.ShloMosaic Idealize.ShloMosaic.TcCoe
open Cert.AttnProof hiding ix2 ix3

/-- The devices' blocks of the reference's arguments, and which of these are real. -/
structure Blocks (A : Args Ideal) (x : FVec Ideal S1x512x1024 .f32) (wq : FVec Ideal Cert.ReferenceIdeal.S1024x8192 .f32)
    (wo : FVec Ideal Cert.ReferenceIdeal.S8192x1024 .f32) (wk wv : FVec Ideal S1024x2048 .f32) : Prop where
  hx : ∀ c, A.x c = x
  hwk : ∀ c, A.wk c = wk
  hwv : ∀ c, A.wv c = wv
  hwq : ∀ (c : Dev nD) (m k : Fin 1024), A.wq c (ix2 m k) = wq (ix2 m (⟨1024 * c.val + k.val, by have : c.val < 8 := c.isLt; omega⟩ : Fin 8192))
  hwo : ∀ (c : Dev nD) (k J : Fin 1024), A.wo c (ix2 k J) = wo (ix2 (⟨1024 * c.val + k.val, by have : c.val < 8 := c.isLt; omega⟩ : Fin 8192) J)
  rx : ∃ f : S1x512x1024.Idx → ℝ, ∀ i, x i = (f i : EReal)
  rq : ∃ f : Cert.ReferenceIdeal.S1024x8192.Idx → ℝ, ∀ i, wq i = (f i : EReal)
  rk : ∃ f : S1024x2048.Idx → ℝ, ∀ i, wk i = (f i : EReal)

section
variable {A : Args Ideal} {x : FVec Ideal S1x512x1024 .f32} {wq : FVec Ideal Cert.ReferenceIdeal.S1024x8192 .f32}
  {wo : FVec Ideal Cert.ReferenceIdeal.S8192x1024 .f32} {wk wv : FVec Ideal S1024x2048 .f32} (B : Blocks A x wq wo wk wv)
include B

/-- The queries are real. -/
theorem Blocks.realQ : ∃ f : Fin 512 → Fin 64 → Fin 128 → ℝ, ∀ R H e, rQ x wq (ix4 (0 : Fin 1) R H e) = (f R H e : EReal) := by
  obtain ⟨fx, hx⟩ := B.rx
  obtain ⟨fq, hq⟩ := B.rq
  exact ⟨_, fun R H e => by simp only [rQ_at, hx, hq]; exact dot_real _ _⟩

/-- The keys are real. -/
theorem Blocks.realK : ∃ f : Fin 512 → Fin 64 → Fin 128 → ℝ, ∀ R H e, rK x wk (ix4 (0 : Fin 1) R H e) = (f R H e : EReal) := by
  obtain ⟨fx, hx⟩ := B.rx
  obtain ⟨fk, hk⟩ := B.rk
  exact ⟨_, fun R H e => by simp only [rK_at, hx, hk]; exact dot_real _ _⟩

theorem Blocks.xf (c : Dev nD) (R : Fin 512) (m : Fin 1024) : A.xf c (ix2 R m) = x (ix3 (0 : Fin 1) R m) := by rw [xf_at, B.hx]

/-- A device's scaled queries. -/
theorem Blocks.q (c : Dev nD) (R : Fin 512) (k : Fin 1024) (H : Fin 64) (e : Fin 128) (h : H.val * 128 + e.val = 1024 * c.val + k.val) :
    A.q c (ix2 R k) = rQ x wq (ix4 (0 : Fin 1) R H e) * Ideal.ofBits .f32 0x3DB504F3#32 := by
  rw [q_at, rQ_at]
  congr 1
  refine Finset.sum_congr rfl fun m _ => ?_
  rw [B.xf, B.hwq]
  congr 3
  exact Fin.ext h.symm

/-- A device's keys. -/
theorem Blocks.k (c : Dev nD) (j : Fin 512) (n : Fin 256) (H : Fin 64) (e : Fin 128) (h : H.val / 4 * 128 + e.val = 256 * c.val + n.val) :
    A.k c (ix2 j n) = rK x wk (ix4 (0 : Fin 1) j H e) := by
  rw [k_at, rK_at]
  refine Finset.sum_congr rfl fun m _ => ?_
  rw [B.xf, kf_at, B.hwk]
  congr 3
  exact Fin.ext h.symm

/-- A device's values: the two key-value heads it holds, each beside a block of ones. -/
theorem Blocks.v (c : Dev nD) (h : Fin 8) (j : Fin 512) (n : Fin 256) :
    ((∀ (hn : n.val < 128) (H : Fin 64), H.val = 8 * c.val + h.val →
        (if h.val < 4 then A.v0 c else A.v1 c) (ix2 j n) = rK x wv (ix4 (0 : Fin 1) j H (⟨n.val, hn⟩ : Fin 128))))
      ∧ (¬ n.val < 128 → (if h.val < 4 then A.v0 c else A.v1 c) (ix2 j n) = (1 : EReal)) := by
  have hc : c.val < 8 := c.isLt
  have hh := h.isLt
  constructor
  · intro hn H hH
    rw [rK_at]
    split
    · rw [v0_at, dif_pos hn]
      refine Finset.sum_congr rfl fun m _ => ?_
      rw [B.xf, vf_at, B.hwv]
      congr 3
      exact Fin.ext (by show 256 * c.val + n.val = H.val / 4 * 128 + n.val; omega)
    · rw [v1_at, dif_pos hn]
      refine Finset.sum_congr rfl fun m _ => ?_
      rw [B.xf, vf_at, B.hwv]
      congr 3
      exact Fin.ext (by show 256 * c.val + (128 + n.val) = H.val / 4 * 128 + n.val; omega)
  · intro hn
    split
    · rw [v0_at, dif_neg hn]
    · rw [v1_at, dif_neg hn]

/-- One head's value at one row and column. -/
theorem Blocks.att (c : Dev nD) (r : Fin 2) (i : Fin 256) (k : Fin 1024) (R : Fin 512) (H : Fin 64) (e : Fin 128)
    (hR : R.val = 256 * r.val + i.val) (hH : H.val = 8 * c.val + k.val / 128) (he : e.val = k.val % 128) :
    A.att c r (ix2 i k)
      = (Host.divf (rN (rK x wv) (rS (rQ x wq) (rK x wk))) (rD (rS (rQ x wq) (rK x wk))) : FVec Ideal Cert.ReferenceIdeal.S1x512x64x128 .f32)
          (ix4 (0 : Fin 1) R H e) := by
  have hee : (⟨k.val % 128, Nat.mod_lt _ (by decide)⟩ : Fin 128) = e := Fin.ext he.symm
  obtain ⟨fq, hq⟩ := B.realQ
  obtain ⟨fk, hk⟩ := B.realK
  obtain ⟨S, hS⟩ := scale_real
  have hc : c.val < 8 := c.isLt
  have hkk := k.isLt
  have hs : ∀ j, rS (rQ x wq) (rK x wk) (ix4 (0 : Fin 1) H R j) = (((∑ d, fq R H d * fk j H d) * S : ℝ) : EReal) := fun j => by
    rw [rS_at, hS, EReal.coe_mul, ← dot_real]
    simp only [hq, hk]
  have hks : ∀ j, (∑ d : Fin 128, qsl (A.q c) r (⟨k.val / 128, by omega⟩ : Fin 8) (ix2 i d)
      * ksl (A.k c) (if k.val / 128 < 4 then 0 else 1) (ix2 j d)) = (((∑ d, fq R H d * fk j H d) * S : ℝ) : EReal) := fun j => by
    rw [EReal.coe_mul, ← dot_real, ← score_scale]
    refine Finset.sum_congr rfl fun d _ => ?_
    rw [qsl_at, ksl_at, ← hq, ← hk, ← hS]
    have hRe : (⟨256 * r.val + i.val, by omega⟩ : Fin 512) = R := Fin.ext hR.symm
    rw [hRe, B.q c R _ H d (by show H.val * 128 + d.val = 1024 * c.val + (128 * (k.val / 128) + d.val); omega),
      B.k c j _ H d (by
        show H.val / 4 * 128 + d.val = 256 * c.val + (128 * (if k.val / 128 < 4 then (0 : Fin 2) else 1).val + d.val)
        split <;> simp <;> omega)]
  obtain ⟨M, hM⟩ := max_real (fun j : Fin 512 => (∑ d, fq R H d * fk j H d) * S)
  have hm : rM (rS (rQ x wq) (rK x wk)) (ix4 (0 : Fin 1) H R (0 : Fin 1)) = (M : EReal) := by
    rw [rM_at, ofBits_neg_inf]
    simp only [hs]
    exact hM
  have hL : A.att c r (ix2 i k) = Ideal.div (∑ j, Ideal.exp (((∑ d, fq R H d * fk j H d) * S : ℝ) : EReal) * rK x wv (ix4 (0 : Fin 1) j H e))
      (∑ j, Ideal.exp (((∑ d, fq R H d * fk j H d) * S : ℝ) : EReal) * 1) := by
    show headOf (A.q c) (A.k c) (A.v0 c) (A.v1 c) r (⟨k.val / 128, by omega⟩ : Fin 8) (Cert.AttnProof.ix2 i (⟨k.val % 128, by omega⟩ : Fin 128)) = _
    rw [ix2_same]
    unfold headOf
    rw [hd_at]
    refine congrArg₂ Ideal.div ?_ ?_
    · refine Finset.sum_congr rfl fun j _ => ?_
      rw [hks j, (B.v c (⟨k.val / 128, by omega⟩ : Fin 8) j _).1 (by show k.val % 128 < 128; omega) H hH]
      exact congrArg (fun z => _ * rK x wv (ix4 (0 : Fin 1) j H z)) hee
    · refine Finset.sum_congr rfl fun j _ => ?_
      rw [hks j, (B.v c (⟨k.val / 128, by omega⟩ : Fin 8) j _).2 (by decide)]
  rw [hL, softmax_eq _ _ M (rA (rS (rQ x wq) (rK x wk)) (ix4 (0 : Fin 1) H R (0 : Fin 1))) (rA (rS (rQ x wq) (rK x wk)) (ix4 (0 : Fin 1) H R (0 : Fin 1)))]
  show _ = Ideal.div (rN (rK x wv) (rS (rQ x wq) (rK x wk)) (ix4 (0 : Fin 1) R H e)) (rD (rS (rQ x wq) (rK x wk)) (ix4 (0 : Fin 1) R H e))
  rw [rN_at, rD_at]
  simp only [rP_at, hs, hm]

end

/-- A sum over 8192 columns by device. -/
theorem sum_dev (f : Fin 8192 → EReal) :
    ∑ K : Fin 8192, f K = ∑ c : Dev nD, ∑ k : Fin 1024, f (⟨1024 * c.val + k.val, by have : c.val < 8 := c.isLt; omega⟩ : Fin 8192) := by
  have h : ∑ p : Fin 8 × Fin 1024, f (finProdFinEquiv p) = ∑ K : Fin (8 * 1024), f K := Equiv.sum_comp (finProdFinEquiv (m := 8) (n := 1024)) (fun K : Fin (8 * 1024) => f K)
  rw [show ∑ K : Fin 8192, f K = ∑ p : Fin 8 × Fin 1024, f (finProdFinEquiv p) from h.symm, Fintype.sum_prod_type]
  refine Finset.sum_congr rfl fun c _ => Finset.sum_congr rfl fun k _ => ?_
  congr 1
  exact Fin.ext (by show k.val + 1024 * c.val = 1024 * c.val + k.val; omega)

theorem Blocks.out {A : Args Ideal} {x : FVec Ideal S1x512x1024 .f32} {wq : FVec Ideal Cert.ReferenceIdeal.S1024x8192 .f32}
    {wo : FVec Ideal Cert.ReferenceIdeal.S8192x1024 .f32} {wk wv : FVec Ideal S1024x2048 .f32} (B : Blocks A x wq wo wk wv) :
    A.out = rAll x wq wo wk wv := by
  funext y
  obtain ⟨a, R, J, rfl⟩ : ∃ (a : Fin 1) (R : Fin 512) (J : Fin 1024), y = ix3 a R J := ⟨y 0, y 1, y 2, eq_ix3 y⟩
  obtain rfl : a = 0 := Subsingleton.elim _ _
  have hR := R.isLt
  refine (out_at A R J).trans ?_
  unfold rAll
  rw [rOut_at, sum_dev]
  refine Finset.sum_congr rfl fun c _ => ?_
  have hc : c.val < 8 := c.isLt
  unfold part
  refine Finset.sum_congr rfl fun k _ => ?_
  have hk := k.isLt
  rw [B.hwo, B.att c _ _ k R (⟨(1024 * c.val + k.val) / 128, by omega⟩ : Fin 64) (⟨(1024 * c.val + k.val) % 128, by omega⟩ : Fin 128) (by show R.val = 256 * (R.val / 256) + R.val % 256; omega)
    (by show (1024 * c.val + k.val) / 128 = 8 * c.val + k.val / 128; omega) (by show (1024 * c.val + k.val) % 128 = k.val % 128; omega)]

end Cert.AttnValue

end
-- ==== Proof.Algebra.lean ====
/-
# The value claim

From finite activations and query and key weights on every device, and from blocks of the reference's arguments, every device's result
buffer ends holding the reference's result.
-/
module

public import proofs.«01_k».proof.Proof.Frames
public import proofs.«01_k».proof.Proof.RefEq
public import proofs.«01_k».proof.Proof.Match
public import Idealize.ShloMosaic.Lib.ReduceAll

@[expose] public section

set_option maxRecDepth 16384

noncomputable section

namespace Cert.AttnValue

open Idealize.ShloMosaic Idealize.ShloMosaic.TcCoe Idealize.SL.Sem
open Cert.AttnProof hiding ix2 ix3

/-! ## The precondition's shape facts -/

theorem preK : Cert.Pre_finite_KernelIdeal.Facts where
  bcast_S_S1x512x1024 := by decide
  reducesTo_S1x512x1024_S_d0_1_2 := by decide
  h_S_ := by decide
  bcast_S_S1024x1024 := by decide
  reducesTo_S1024x1024_S_d0_1 := by decide
  bcast_S_S1024x2048 := by decide
  reducesTo_S1024x2048_S_d0_1 := by decide

theorem preR : Cert.Pre_finite_ReferenceIdeal.Facts where
  bcast_S_S1x512x1024 := by decide
  reducesTo_S1x512x1024_S_d0_1_2 := by decide
  h_S_ := by decide
  bcast_S_S1024x8192 := by decide
  reducesTo_S1024x8192_S_d0_1 := by decide
  bcast_S_S1024x2048 := by decide
  reducesTo_S1024x2048_S_d0_1 := by decide

/-- One element's test. -/
theorem real_of_test {x b : EReal} (hb : b = ⊤) (h : FloatOps.cmpf (F := Ideal) (φ := .f32) .olt (FloatOps.absf (F := Ideal) (φ := .f32) x) b = 1#1) :
    ((x.toReal : ℝ) : EReal) = x := by
  subst hb
  refine real_of_abs_lt ?_
  by_contra hn
  have h' : Ideal.cmp .olt (max x (-x)) ⊤ = 1#1 := h
  simp [Ideal.cmp, hn] at h'

theorem real_eq {a b : EReal} (h : ((a.toReal : ℝ) : EReal) = a) (e : a = b) : b = ((b.toReal : ℝ) : EReal) := by
  subst e; exact h.symm

section
attribute [local instance] preK

/-- What the precondition says of one device's blocks. -/
theorem pre_real (x : FVec Ideal Cert.KernelIdeal.S1x512x1024 .f32) (wq wo : FVec Ideal Cert.KernelIdeal.S1024x1024 .f32)
    (wk wv : FVec Ideal Cert.KernelIdeal.S1024x2048 .f32)
    (h : Cert.Pre_finite_KernelIdeal.fn (F := Ideal) x wq wo wk wv = fun _ => 1#1) :
    (∀ i, (((x i : EReal).toReal : ℝ) : EReal) = x i) ∧ (∀ i, (((wq i : EReal).toReal : ℝ) : EReal) = wq i)
      ∧ ∀ i, (((wk i : EReal).toReal : ℝ) : EReal) = wk i := by
  have h0 := congrFun h ix0
  dsimp only [Cert.Pre_finite_KernelIdeal.fn] at h0
  obtain ⟨h1, h2⟩ := IntOp.andi_eq_one.1 h0
  obtain ⟨h3, h4⟩ := IntOp.andi_eq_one.1 h1
  haveI : Subsingleton Cert.Pre_finite_KernelIdeal.S_.Idx := ⟨fun a b => funext fun i => i.elim0⟩
  exact ⟨fun i => real_of_test ofBits_inf (Host.reduce_andi_all _ _ _ _ _ h3 i),
    fun i => real_of_test ofBits_inf (Host.reduce_andi_all _ _ _ _ _ h4 i),
    fun i => real_of_test ofBits_inf (Host.reduce_andi_all _ _ _ _ _ h2 i)⟩

end

/-- A block of the query weights, and of the output weights, at an index. -/
theorem block_q (f : (⟨2, ![1024, 8192]⟩ : Shape).Idx → EReal) (c : Fin 8) (m k : Fin 1024) :
    Layout.block ⟨2, ![1024, 1024]⟩ ⟨2, ![1024, 8192]⟩ 1 8 c f (by decide) (ix2 m k) = f (ix2 m (⟨1024 * c.val + k.val, by omega⟩ : Fin 8192)) := by
  rw [Layout.block_apply]
  refine congrArg f (funext fun a => ?_)
  match a with
  | 0 => exact Fin.ext rfl
  | 1 => exact Fin.ext (by show c.val * 1024 + k.val = 1024 * c.val + k.val; omega)

theorem block_o (f : (⟨2, ![8192, 1024]⟩ : Shape).Idx → EReal) (c : Fin 8) (k J : Fin 1024) :
    Layout.block ⟨2, ![1024, 1024]⟩ ⟨2, ![8192, 1024]⟩ 0 8 c f (by decide) (ix2 k J) = f (ix2 (⟨1024 * c.val + k.val, by omega⟩ : Fin 8192) J) := by
  rw [Layout.block_apply]
  refine congrArg f (funext fun a => ?_)
  match a with
  | 0 => exact Fin.ext (by show c.val * 1024 + k.val = 1024 * c.val + k.val; omega)
  | 1 => exact Fin.ext rfl

theorem algebraic : Cert.algebraic_KernelIdeal_ReferenceIdeal_pre_finite_KernelIdeal (hPre_finite_KernelIdeal := preK) := by
  intro m g m' g' hpre hin
  have hr := fun c => pre_real _ _ _ _ _ (hpre c)
  have B : Blocks (argsOf m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    have hq : ∀ (c : Dev Cert.KernelIdeal.nD) (a k : Fin 1024), (argsOf m).wq c (ix2 a k) = _ := fun c a k =>
      (congrFun (hin c).2.1 (ix2 a k)).trans (block_q _ c a k)
    refine ⟨fun c => (hin c).1, fun c => (hin c).2.2.2.1, fun c => (hin c).2.2.2.2, hq,
      fun c k J => (congrFun (hin c).2.2.1 (ix2 k J)).trans (block_o _ c k J), ?_, ?_, ?_⟩
    · exact ⟨_, fun i => real_eq ((hr 0).1 i) (congrFun (hin 0).1 i)⟩
    · refine ⟨fun i => EReal.toReal _, fun i => real_eq (a := (argsOf m).wq (⟨(i 1).val / 1024, (Nat.div_lt_iff_lt_mul (by decide)).2 (i 1).isLt⟩ : Dev Cert.KernelIdeal.nD) (ix2 (i 0) (⟨(i 1).val % 1024, Nat.mod_lt _ (by decide)⟩ : Fin 1024))) ((hr _).2.1 _) ?_⟩
      obtain ⟨a, K, rfl⟩ : ∃ (a : Fin 1024) (K : Fin 8192), i = ix2 a K := ⟨i 0, i 1, eq_ix2 i⟩
      have hK := K.isLt
      exact (hq _ _ _).trans (congrArg (fun z => m' (((0 : Dev Cert.ReferenceIdeal.nD).tc : Thread Cert.ReferenceIdeal.nD Cert.ReferenceIdeal.τ).loc Cert.ReferenceIdeal.main_arg1) (ix2 a z))
        (Fin.ext (by show 1024 * (K.val / 1024) + K.val % 1024 = K.val; omega) : (⟨1024 * (K.val / 1024) + K.val % 1024, by omega⟩ : Fin 8192) = K))
    · exact ⟨_, fun i => real_eq ((hr 0).2.2 i) (congrFun (hin 0).2.2.2.1 i)⟩
  refine ⟨Cert.ReferenceIdeal.Value.res_main_v39 (F := Ideal) m' 0, ?_, ?_⟩
  · refine (θ_run Cert.KernelIdeal.defs _ _).mono (fun r h c => ⟨(h.1 c).1.trans ?_, (h.1 c).2⟩) (run_main (F := Ideal) m g)
    exact B.out.trans (res_eq m' 0).symm
  · exact (θ_run Cert.ReferenceIdeal.defs _ _).mono (fun r h => h 0) (Cert.ReferenceIdeal.Value.run (F := Ideal) m' g')

end Cert.AttnValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.AttnValue.preK, Cert.AttnValue.preR,
  Cert.AttnProof.frame_kernel, Cert.AttnProof.frame_ideal, fun m g _ => Cert.AttnProof.frame_ideal m g trivial,
  Cert.AttnProof.frame_reference, fun m g _ => Cert.AttnProof.frame_reference m g trivial, trivial, Cert.AttnValue.algebraic⟩

end Cert.Proof

end
